-- ==== Defs.lean ====
def Pre_Kernel [hPre_ids_in_range : Cert.Pre_ids_in_range.Facts] (m : (ℓ : Loc Cert.Kernel.nD Cert.Kernel.τ Cert.Kernel.sig) → Buf (Elt Bits) ℓ) : Prop :=
  ∀ c : Dev Cert.Kernel.nD,
    (Cert.Pre_ids_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_ids_in_range : Cert.Pre_ids_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_ids_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_KernelIdeal_ids_sorted_finite [hPre_ids_sorted_finite : Cert.Pre_ids_sorted_finite.Facts] (m : (ℓ : Loc Cert.KernelIdeal.nD Cert.KernelIdeal.τ Cert.KernelIdeal.sig) → Buf (Elt Ideal) ℓ) : Prop :=
  ∀ c : Dev Cert.KernelIdeal.nD,
    (Cert.Pre_ids_sorted_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_ids_sorted_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_ids_sorted_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_ids_sorted_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 = (fun _ => 1#1)
    ∧ (Cert.Pre_ids_sorted_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2.1 = (fun _ => 1#1)
    ∧ (Cert.Pre_ids_sorted_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ids_sorted_finite [hPre_ids_sorted_finite : Cert.Pre_ids_sorted_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ids_sorted_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_ids_sorted_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_ids_sorted_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_ids_sorted_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.1 = (fun _ => 1#1)
    ∧ (Cert.Pre_ids_sorted_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2.1 = (fun _ => 1#1)
    ∧ (Cert.Pre_ids_sorted_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2.2 = (fun _ => 1#1)

def quiescent_Kernel [hKernel : Cert.Kernel.Facts] [hPre_ids_in_range : Cert.Pre_ids_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_ids_in_range : Cert.Pre_ids_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_ids_sorted_finite [hKernelIdeal : Cert.KernelIdeal.Facts] [hPre_ids_sorted_finite : Cert.Pre_ids_sorted_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ids_sorted_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_ids_sorted_finite [hReferenceIdeal : Cert.ReferenceIdeal.Facts] [hPre_ids_sorted_finite : Cert.Pre_ids_sorted_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ids_sorted_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_ids_sorted_finite [hKernelIdeal : Cert.KernelIdeal.Facts] [hReferenceIdeal : Cert.ReferenceIdeal.Facts] [hPre_ids_sorted_finite : Cert.Pre_ids_sorted_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ids_sorted_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v55)) (v1 : (c : Dev Cert.KernelIdeal.nD) → Buf (Elt Ideal) ((c.tc : Thread Cert.KernelIdeal.nD Cert.KernelIdeal.τ).loc Cert.KernelIdeal.main_v56)) (v2 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v55) = v0 c
          ∧ r.2.mem ((c.tc : Thread Cert.KernelIdeal.nD Cert.KernelIdeal.τ).loc Cert.KernelIdeal.main_v56) = v1 c
          ∧ r.2.mem ((c.tc : Thread Cert.KernelIdeal.nD Cert.KernelIdeal.τ).loc Cert.KernelIdeal.main_v57) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_v16) = v1 c
          ∧ r.2.mem ((c.tc : Thread Cert.ReferenceIdeal.nD Cert.ReferenceIdeal.τ).loc Cert.ReferenceIdeal.main_v17) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_ids_in_range : Cert.Pre_ids_in_range.Facts) (hPre_ids_sorted_finite : Cert.Pre_ids_sorted_finite.Facts),
    quiescent_Kernel (hKernel := hKernel) (hPre_ids_in_range := hPre_ids_in_range)
    ∧ quiescent_KernelIdeal (hKernelIdeal := hKernelIdeal) (hPre_ids_in_range := hPre_ids_in_range)
    ∧ quiescent_KernelIdeal_pre_ids_sorted_finite (hKernelIdeal := hKernelIdeal) (hPre_ids_sorted_finite := hPre_ids_sorted_finite)
    ∧ quiescent_ReferenceIdeal (hReferenceIdeal := hReferenceIdeal)
    ∧ quiescent_ReferenceIdeal_pre_ids_sorted_finite (hReferenceIdeal := hReferenceIdeal) (hPre_ids_sorted_finite := hPre_ids_sorted_finite)
    ∧ preserves_Kernel_KernelIdeal
    ∧ algebraic_KernelIdeal_ReferenceIdeal_pre_ids_sorted_finite (hKernelIdeal := hKernelIdeal) (hReferenceIdeal := hReferenceIdeal) (hPre_ids_sorted_finite := hPre_ids_sorted_finite)
-- ==== Pre_ids_in_range.lean ====
abbrev S320000x128 : Shape := ⟨2, ![320000, 128]⟩
abbrev S320000x3 : Shape := ⟨2, ![320000, 3]⟩
abbrev S320000 : Shape := ⟨1, ![320000]⟩
abbrev S131x128 : Shape := ⟨2, ![131, 128]⟩
abbrev S128 : Shape := ⟨1, ![128]⟩
abbrev S_ : Shape := ⟨0, ![]⟩

class Facts : Prop where
  bcast_S_S320000 : S_.BroadcastsInDim S320000 (![] : Fin 0 → Fin S320000.rank)

variable [Facts]

def fn {F : FTy → Type} [FloatOps F] (main_arg0 : FVec F S320000x128 .f32) (main_arg1 : FVec F S320000x3 .f32) (main_arg2 : IVec S320000 32) (main_arg3 : FVec F S131x128 .f32) (main_arg4 : FVec F S128 .f32) : IVec S320000 1 :=
  let main_c : IVec S_ 32 := constantI S_ 32 0#32
  let main_v0 : IVec S320000 32 := broadcastInDim S320000 ![] bcast_S_S320000 main_c
  let main_v1 : IVec S320000 1 := cmpi .sge main_arg2 main_v0
  let main_c_0 : IVec S_ 32 := constantI S_ 32 512#32
  let main_v2 : IVec S320000 32 := broadcastInDim S320000 ![] bcast_S_S320000 main_c_0
  let main_v3 : IVec S320000 1 := cmpi .slt main_arg2 main_v2
  let main_v4 : IVec S320000 1 := andi main_v1 main_v3
  main_v4
-- ==== Pre_ids_sorted_finite.lean ====
abbrev S320000x128 : Shape := ⟨2, ![320000, 128]⟩
abbrev S320000x3 : Shape := ⟨2, ![320000, 3]⟩
abbrev S320000 : Shape := ⟨1, ![320000]⟩
abbrev S131x128 : Shape := ⟨2, ![131, 128]⟩
abbrev S128 : Shape := ⟨1, ![128]⟩
abbrev S319999 : Shape := ⟨1, ![319999]⟩
abbrev S_ : Shape := ⟨0, ![]⟩

class Facts : Prop where
  slices_S320000_S319999_0 : S320000.Slices ![0] S319999
  slices_S320000_S319999_1 : S320000.Slices ![1] S319999
  bcast_S_S320000 : S_.BroadcastsInDim S320000 (![] : Fin 0 → Fin S320000.rank)
  bcast_S_S320000x128 : S_.BroadcastsInDim S320000x128 (![] : Fin 0 → Fin S320000x128.rank)
  bcast_S_S320000x3 : S_.BroadcastsInDim S320000x3 (![] : Fin 0 → Fin S320000x3.rank)
  bcast_S_S131x128 : S_.BroadcastsInDim S131x128 (![] : Fin 0 → Fin S131x128.rank)
  bcast_S_S128 : S_.BroadcastsInDim S128 (![] : Fin 0 → Fin S128.rank)

variable [Facts]

def fn_part1 {F : FTy → Type} [FloatOps F] (main_v6 : IVec S320000 1) (main_v7 : IVec S319999 1) (main_v10 : IVec S320000x128 1) (main_v13 : IVec S320000x3 1) (main_v16 : IVec S131x128 1) (main_v17 : FVec F S128 .f32) (main_cst_3 : FVec F S_ .f32) : IVec S320000 1 × IVec S319999 1 × IVec S320000x128 1 × IVec S320000x3 1 × IVec S131x128 1 × IVec S128 1 :=
  let main_v18 : FVec F S128 .f32 := broadcastInDim S128 ![] bcast_S_S128 main_cst_3
  let main_v19 : IVec S128 1 := cmpf .olt main_v17 main_v18
  (main_v6, main_v7, main_v10, main_v13, main_v16, main_v19)

def fn {F : FTy → Type} [FloatOps F] (main_arg0 : FVec F S320000x128 .f32) (main_arg1 : FVec F S320000x3 .f32) (main_arg2 : IVec S320000 32) (main_arg3 : FVec F S131x128 .f32) (main_arg4 : FVec F S128 .f32) : IVec S320000 1 × IVec S319999 1 × IVec S320000x128 1 × IVec S320000x3 1 × IVec S131x128 1 × IVec S128 1 :=
  let main_v0 : IVec S319999 32 := (extractStridedSlice S319999 ![0] · slices_S320000_S319999_0) main_arg2
  let main_v1 : IVec S319999 32 := (extractStridedSlice S319999 ![1] · slices_S320000_S319999_1) main_arg2
  let main_c : IVec S_ 32 := constantI S_ 32 0#32
  let main_v2 : IVec S320000 32 := broadcastInDim S320000 ![] bcast_S_S320000 main_c
  let main_v3 : IVec S320000 1 := cmpi .sge main_arg2 main_v2
  let main_c_0 : IVec S_ 32 := constantI S_ 32 512#32
  let main_v4 : IVec S320000 32 := broadcastInDim S320000 ![] bcast_S_S320000 main_c_0
  let main_v5 : IVec S320000 1 := cmpi .slt main_arg2 main_v4
  let main_v6 : IVec S320000 1 := andi main_v3 main_v5
  let main_v7 : IVec S319999 1 := cmpi .sle main_v0 main_v1
  let main_v8 : FVec F S320000x128 .f32 := Host.absf main_arg0
  let main_cst : FVec F S_ .f32 := constant S_ .f32 0x7F800000#32
  let main_v9 : FVec F S320000x128 .f32 := broadcastInDim S320000x128 ![] bcast_S_S320000x128 main_cst
  let main_v10 : IVec S320000x128 1 := cmpf .olt main_v8 main_v9
  let main_v11 : FVec F S320000x3 .f32 := Host.absf main_arg1
  let main_cst_1 : FVec F S_ .f32 := constant S_ .f32 0x7F800000#32
  let main_v12 : FVec F S320000x3 .f32 := broadcastInDim S320000x3 ![] bcast_S_S320000x3 main_cst_1
  let main_v13 : IVec S320000x3 1 := cmpf .olt main_v11 main_v12
  let main_v14 : FVec F S131x128 .f32 := Host.absf main_arg3
  let main_cst_2 : FVec F S_ .f32 := constant S_ .f32 0x7F800000#32
  let main_v15 : FVec F S131x128 .f32 := broadcastInDim S131x128 ![] bcast_S_S131x128 main_cst_2
  let main_v16 : IVec S131x128 1 := cmpf .olt main_v14 main_v15
  let main_v17 : FVec F S128 .f32 := Host.absf main_arg4
  let main_cst_3 : FVec F S_ .f32 := constant S_ .f32 0x7F800000#32
  fn_part1 (F := F) main_v6 main_v7 main_v10 main_v13 main_v16 main_v17 main_cst_3
-- ==== Kernel.lean ====
abbrev S320000x128 : Shape := ⟨2, ![320000, 128]⟩
abbrev S320000x3 : Shape := ⟨2, ![320000, 3]⟩
abbrev S320000 : Shape := ⟨1, ![320000]⟩
abbrev S131x128 : Shape := ⟨2, ![131, 128]⟩
abbrev S128 : Shape := ⟨1, ![128]⟩
abbrev S513 : Shape := ⟨1, ![513]⟩
abbrev S2500 : Shape := ⟨1, ![2500]⟩
abbrev S1x2500 : Shape := ⟨2, ![1, 2500]⟩
abbrev S513x1 : Shape := ⟨2, ![513, 1]⟩
abbrev S513x2500 : Shape := ⟨2, ![513, 2500]⟩
abbrev S_ : Shape := ⟨0, ![]⟩
abbrev S2500x128 : Shape := ⟨2, ![2500, 128]⟩
abbrev S513x128 : Shape := ⟨2, ![513, 128]⟩
abbrev S50 : Shape := ⟨1, ![50]⟩
abbrev S1x513 : Shape := ⟨2, ![1, 513]⟩
abbrev S50x1 : Shape := ⟨2, ![50, 1]⟩
abbrev S50x513 : Shape := ⟨2, ![50, 513]⟩
abbrev S128x128 : Shape := ⟨2, ![128, 128]⟩
abbrev S3x128 : Shape := ⟨2, ![3, 128]⟩
abbrev S1x128 : Shape := ⟨2, ![1, 128]⟩
abbrev S512x128 : Shape := ⟨2, ![512, 128]⟩
abbrev S6400x128 : Shape := ⟨2, ![6400, 128]⟩
abbrev S6400x3 : Shape := ⟨2, ![6400, 3]⟩
abbrev S1 : Shape := ⟨1, ![1]⟩
abbrev S32x1 : Shape := ⟨2, ![32, 1]⟩
abbrev S32x128 : Shape := ⟨2, ![32, 128]⟩
abbrev S512x3 : Shape := ⟨2, ![512, 3]⟩
abbrev S512 : Shape := ⟨1, ![512]⟩

abbrev nBuf : Space → Nat
  | .hbm => 74
  | .vmem => 9
  | .smem => 3
  | _ => 0

abbrev bufTy : (tb : Table) → Fin (tcTables nBuf tb) → BufTy
  | .hbm, ⟨0, _⟩ => ⟨S320000x128, .f32⟩
  | .hbm, ⟨1, _⟩ => ⟨S320000x3, .f32⟩
  | .hbm, ⟨2, _⟩ => ⟨S320000, .i32⟩
  | .hbm, ⟨3, _⟩ => ⟨S131x128, .f32⟩
  | .hbm, ⟨4, _⟩ => ⟨S128, .f32⟩
  | .hbm, ⟨5, _⟩ => ⟨S513, .i32⟩
  | .hbm, ⟨6, _⟩ => ⟨S2500, .i32⟩
  | .hbm, ⟨7, _⟩ => ⟨S1x2500, .i32⟩
  | .hbm, ⟨8, _⟩ => ⟨S513x1, .i32⟩
  | .hbm, ⟨9, _⟩ => ⟨S513x2500, .i32⟩
  | .hbm, ⟨10, _⟩ => ⟨S513x2500, .i32⟩
  | .hbm, ⟨11, _⟩ => ⟨S513x2500, .i1⟩
  | .hbm, ⟨12, _⟩ => ⟨S513x2500, .i32⟩
  | .hbm, ⟨13, _⟩ => ⟨S_, .i32⟩
  | .hbm, ⟨14, _⟩ => ⟨S513, .i32⟩
  | .hbm, ⟨15, _⟩ => ⟨S_, .i32⟩
  | .hbm, ⟨16, _⟩ => ⟨S513, .i32⟩
  | .hbm, ⟨17, _⟩ => ⟨S513, .i32⟩
  | .hbm, ⟨18, _⟩ => ⟨S2500x128, .i32⟩
  | .hbm, ⟨19, _⟩ => ⟨S_, .i32⟩
  | .hbm, ⟨20, _⟩ => ⟨S513, .i32⟩
  | .hbm, ⟨21, _⟩ => ⟨S513, .i1⟩
  | .hbm, ⟨22, _⟩ => ⟨S_, .i32⟩
  | .hbm, ⟨23, _⟩ => ⟨S513, .i32⟩
  | .hbm, ⟨24, _⟩ => ⟨S513, .i32⟩
  | .hbm, ⟨25, _⟩ => ⟨S513, .i32⟩
  | .hbm, ⟨26, _⟩ => ⟨S513x1, .i32⟩
  | .hbm, ⟨27, _⟩ => ⟨S513x128, .i32⟩
  | .hbm, ⟨28, _⟩ => ⟨S513x1, .i32⟩
  | .hbm, ⟨29, _⟩ => ⟨S513x128, .i32⟩
  | .hbm, ⟨30, _⟩ => ⟨S513x128, .i1⟩
  | .hbm, ⟨31, _⟩ => ⟨S513x128, .i32⟩
  | .hbm, ⟨32, _⟩ => ⟨S_, .i32⟩
  | .hbm, ⟨33, _⟩ => ⟨S513, .i32⟩
  | .hbm, ⟨34, _⟩ => ⟨S_, .i32⟩
  | .hbm, ⟨35, _⟩ => ⟨S513, .i32⟩
  | .hbm, ⟨36, _⟩ => ⟨S513, .i32⟩
  | .hbm, ⟨37, _⟩ => ⟨S50, .i32⟩
  | .hbm, ⟨38, _⟩ => ⟨S_, .i32⟩
  | .hbm, ⟨39, _⟩ => ⟨S50, .i32⟩
  | .hbm, ⟨40, _⟩ => ⟨S50, .i32⟩
  | .hbm, ⟨41, _⟩ => ⟨S1x513, .i32⟩
  | .hbm, ⟨42, _⟩ => ⟨S50x1, .i32⟩
  | .hbm, ⟨43, _⟩ => ⟨S50x513, .i32⟩
  | .hbm, ⟨44, _⟩ => ⟨S50x513, .i32⟩
  | .hbm, ⟨45, _⟩ => ⟨S50x513, .i1⟩
  | .hbm, ⟨46, _⟩ => ⟨S50x513, .i32⟩
  | .hbm, ⟨47, _⟩ => ⟨S_, .i32⟩
  | .hbm, ⟨48, _⟩ => ⟨S50, .i32⟩
  | .hbm, ⟨49, _⟩ => ⟨S_, .i32⟩
  | .hbm, ⟨50, _⟩ => ⟨S50, .i32⟩
  | .hbm, ⟨51, _⟩ => ⟨S1x513, .i32⟩
  | .hbm, ⟨52, _⟩ => ⟨S_, .i32⟩
  | .hbm, ⟨53, _⟩ => ⟨S50, .i32⟩
  | .hbm, ⟨54, _⟩ => ⟨S50, .i32⟩
  | .hbm, ⟨55, _⟩ => ⟨S_, .i32⟩
  | .hbm, ⟨56, _⟩ => ⟨S50, .i32⟩
  | .hbm, ⟨57, _⟩ => ⟨S50, .i32⟩
  | .hbm, ⟨58, _⟩ => ⟨S50x1, .i32⟩
  | .hbm, ⟨59, _⟩ => ⟨S50x513, .i32⟩
  | .hbm, ⟨60, _⟩ => ⟨S50x513, .i32⟩
  | .hbm, ⟨61, _⟩ => ⟨S50x513, .i1⟩
  | .hbm, ⟨62, _⟩ => ⟨S50x513, .i32⟩
  | .hbm, ⟨63, _⟩ => ⟨S_, .i32⟩
  | .hbm, ⟨64, _⟩ => ⟨S50, .i32⟩
  | .hbm, ⟨65, _⟩ => ⟨S_, .i32⟩
  | .hbm, ⟨66, _⟩ => ⟨S50, .i32⟩
  | .hbm, ⟨67, _⟩ => ⟨S128x128, .f32⟩
  | .hbm, ⟨68, _⟩ => ⟨S3x128, .f32⟩
  | .hbm, ⟨69, _⟩ => ⟨S1x128, .f32⟩
  | .hbm, ⟨70, _⟩ => ⟨S512x128, .f32⟩
  | .hbm, ⟨71, _⟩ => ⟨S_, .f32⟩
  | .hbm, ⟨72, _⟩ => ⟨S512x3, .f32⟩
  | .hbm, ⟨73, _⟩ => ⟨S512, .i32⟩
  | .local _ .vmem, ⟨0, _⟩ => ⟨S6400x128, .f32⟩
  | .local _ .vmem, ⟨1, _⟩ => ⟨S6400x128, .f32⟩
  | .local _ .vmem, ⟨2, _⟩ => ⟨S6400x3, .f32⟩
  | .local _ .vmem, ⟨3, _⟩ => ⟨S6400x3, .f32⟩
  | .local _ .vmem, ⟨4, _⟩ => ⟨S128x128, .f32⟩
  | .local _ .vmem, ⟨5, _⟩ => ⟨S3x128, .f32⟩
  | .local _ .vmem, ⟨6, _⟩ => ⟨S1x128, .f32⟩
  | .local _ .vmem, ⟨7, _⟩ => ⟨S512x128, .f32⟩
  | .local _ .vmem, ⟨8, _⟩ => ⟨S6400x128, .f32⟩
  | .local _ .smem, ⟨0, _⟩ => ⟨S50, .i32⟩
  | .local _ .smem, ⟨1, _⟩ => ⟨S50, .i32⟩
  | .local _ .smem, ⟨2, _⟩ => ⟨S513, .i32⟩
  | _, _ => ⟨S320000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_v8 : Ref sig .tc := ⟨.hbm, 14, rfl⟩
abbrev main_c_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c_1 : Ref sig .tc := ⟨.hbm, 19, rfl⟩
abbrev main_v12 : Ref sig .tc := ⟨.hbm, 20, rfl⟩
abbrev main_v13 : Ref sig .tc := ⟨.hbm, 21, rfl⟩
abbrev main_c_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_c_3 : Ref sig .tc := ⟨.hbm, 32, rfl⟩
abbrev main_v23 : Ref sig .tc := ⟨.hbm, 33, rfl⟩
abbrev main_c_4 : Ref sig .tc := ⟨.hbm, 34, rfl⟩
abbrev main_v24 : Ref sig .tc := ⟨.hbm, 35, rfl⟩
abbrev main_v25 : Ref sig .tc := ⟨.hbm, 36, rfl⟩
abbrev main_v27 : Ref sig .tc := ⟨.hbm, 37, rfl⟩
abbrev main_c_5 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_c_6 : Ref sig .tc := ⟨.hbm, 47, rfl⟩
abbrev main_v36 : Ref sig .tc := ⟨.hbm, 48, rfl⟩
abbrev main_c_7 : Ref sig .tc := ⟨.hbm, 49, rfl⟩
abbrev main_v37 : Ref sig .tc := ⟨.hbm, 50, rfl⟩
abbrev main_v39 : Ref sig .tc := ⟨.hbm, 51, rfl⟩
abbrev main_c_8 : Ref sig .tc := ⟨.hbm, 52, rfl⟩
abbrev main_v40 : Ref sig .tc := ⟨.hbm, 53, rfl⟩
abbrev main_v41 : Ref sig .tc := ⟨.hbm, 54, rfl⟩
abbrev main_c_9 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_c_10 : Ref sig .tc := ⟨.hbm, 63, rfl⟩
abbrev main_v49 : Ref sig .tc := ⟨.hbm, 64, rfl⟩
abbrev main_c_11 : Ref sig .tc := ⟨.hbm, 65, rfl⟩
abbrev main_v50 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_cst : Ref sig .tc := ⟨.hbm, 71, rfl⟩
abbrev main_v56 : Ref sig .tc := ⟨.hbm, 72, rfl⟩
abbrev main_v57 : Ref sig .tc := ⟨.hbm, 73, rfl⟩
abbrev main_v38 : Ref sig .tc := ⟨.smem, 0, rfl⟩
abbrev main_v51 : Ref sig .tc := ⟨.smem, 1, rfl⟩
abbrev main_v26 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7

abbrev nD : Nat := 1
abbrev τ : Topo := Topo.v7x

variable {F : FTy → Type} [FloatOps F]

abbrev grid0 : Pipeline.Grid := ⟨1, ![50], ![false]⟩

abbrev pre0 : Pipeline.Prefetch sig := ⟨3, ![main_v38.idx, main_v51.idx, main_v26.idx], fun | 0 => main_v38.names | 1 => main_v51.names | 2 => main_v26.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v19 : Index := Scalar.indexCast arg0
  ![v19.toNat]
@[reducible] def k0_t1_loop (v20 : BitVec 32) (v22 : BitVec 32) : Scf.Loop 32 :=
  let c1_i32 : BitVec 32 := 1#32
  let v26 : BitVec 32 := Scalar.addi v22 c1_i32
  let v27 : BitVec 32 := Scalar.subi v26 v20
  let c1_i32_15 : BitVec 32 := 1#32
  let v29 : BitVec 32 := Scalar.divsi v27 c1_i32_15
  let v30 : BitVec 32 := Scalar.muli v29 c1_i32_15
  let v31 : BitVec 32 := Scalar.addi v20 v30
  let c1_i32_16 : BitVec 32 := 1#32
  ⟨v20, v31, c1_i32_16⟩

def k0_off2 (v20 : BitVec 32) (v22 : BitVec 32) (k0_t1 : Fin (k0_t1_loop v20 v22).trips) : Fin 1 → Nat :=
  let c1_i32_16 : BitVec 32 := 1#32
  let arg11 : BitVec 32 := Scf.iv v20 c1_i32_16 k0_t1
  let v35 : Index := Scalar.indexCast arg11
  ![v35.toNat]
def k0_off3 (v20 : BitVec 32) (v22 : BitVec 32) (k0_t1 : Fin (k0_t1_loop v20 v22).trips) : Fin 1 → Nat :=
  let c1_i32_16 : BitVec 32 := 1#32
  let arg11 : BitVec 32 := Scf.iv v20 c1_i32_16 k0_t1
  let c1_i32_21 : BitVec 32 := 1#32
  let v40 : BitVec 32 := Scalar.addi arg11 c1_i32_21
  let v41 : Index := Scalar.indexCast v40
  ![v41.toNat]
def k0_off4 (i : grid0.Coords) (v36 : BitVec 32) : Fin 2 → Nat :=
  let c32_i32_42 : BitVec 32 := 32#32
  let c6400_i32_20 : BitVec 32 := 6400#32
  let c0_i32_19 : BitVec 32 := 0#32
  let arg0 : BitVec 32 := BitVec.ofNat 32 (i 0).val
  let c6400_i32 : BitVec 32 := 6400#32
  let v23 : BitVec 32 := Scalar.muli arg0 c6400_i32
  let v37 : BitVec 32 := Scalar.subi v36 v23
  let v38 : BitVec 32 := Scalar.maxsi c0_i32_19 v37
  let v39 : BitVec 32 := Scalar.minsi c6400_i32_20 v38
  let c0_i32_24 : BitVec 32 := 0#32
  let v47 : BitVec 1 := Scalar.cmpi .sgt v39 c0_i32_24
  let v48 : BitVec 32 := Scalar.extui v47
  let c0_i32_25 : BitVec 32 := 0#32
  let v49 : BitVec 1 := Scalar.cmpi .slt v39 c0_i32_25
  let v50 : BitVec 32 := Scalar.extui v49
  let v51 : BitVec 32 := Scalar.subi v48 v50
  let c32_i32 : BitVec 32 := 32#32
  let c0_i32_26 : BitVec 32 := 0#32
  let v52 : BitVec 1 := Scalar.cmpi .sgt c32_i32 c0_i32_26
  let v53 : BitVec 32 := Scalar.extui v52
  let c0_i32_27 : BitVec 32 := 0#32
  let v54 : BitVec 1 := Scalar.cmpi .slt c32_i32 c0_i32_27
  let v55 : BitVec 32 := Scalar.extui v54
  let v56 : BitVec 32 := Scalar.subi v53 v55
  let v57 : BitVec 1 := Scalar.cmpi .ne v51 v56
  let v58 : BitVec 32 := Scalar.remsi v39 c32_i32
  let c0_i32_28 : BitVec 32 := 0#32
  let v59 : BitVec 1 := Scalar.cmpi .ne v58 c0_i32_28
  let v60 : BitVec 1 := Scalar.andi v57 v59
  let v46 : BitVec 32 := Scalar.divsi v39 c32_i32
  let c1_i32_29 : BitVec 32 := 1#32
  let v61 : BitVec 32 := Scalar.subi v46 c1_i32_29
  let v62 : BitVec 32 := Scalar.select v60 v61 v46
  let c199_i32 : BitVec 32 := 199#32
  let v63 : BitVec 32 := Scalar.minsi v62 c199_i32
  let v95 : BitVec 32 := Scalar.muli c32_i32_42 v63
  let v96 : Index := Scalar.indexCast v95
  let c0_43 : Index := 0#32
  ![v96.toNat, 0]

def k0_chk2 (i : grid0.Coords) (v36 : BitVec 32) : Prop :=
  (∀ a, (k0_off4 i v36) a + S32x128.size a ≤ S6400x128.size a)
theorem k0_off4_inb : ∀ (i : grid0.Coords) (v36 : BitVec 32) (k0_hw2 : k0_chk2 i v36), ∀ a, (k0_off4 i v36) a + S32x128.size a ≤ S6400x128.size a := fun i v36 k0_hw2 => k0_hw2

def k0_off5 (i : grid0.Coords) (v42 : BitVec 32) : Fin 2 → Nat :=
  let c32_i32_44 : BitVec 32 := 32#32
  let c6400_i32_23 : BitVec 32 := 6400#32
  let c0_i32_22 : BitVec 32 := 0#32
  let arg0 : BitVec 32 := BitVec.ofNat 32 (i 0).val
  let c6400_i32 : BitVec 32 := 6400#32
  let v23 : BitVec 32 := Scalar.muli arg0 c6400_i32
  let v43 : BitVec 32 := Scalar.subi v42 v23
  let v44 : BitVec 32 := Scalar.maxsi c0_i32_22 v43
  let v45 : BitVec 32 := Scalar.minsi c6400_i32_23 v44
  let c1_i32_30 : BitVec 32 := 1#32
  let v64 : BitVec 32 := Scalar.subi v45 c1_i32_30
  let c0_i32_31 : BitVec 32 := 0#32
  let v65 : BitVec 32 := Scalar.maxsi v64 c0_i32_31
  let c0_i32_33 : BitVec 32 := 0#32
  let v67 : BitVec 1 := Scalar.cmpi .sgt v65 c0_i32_33
  let v68 : BitVec 32 := Scalar.extui v67
  let c0_i32_34 : BitVec 32 := 0#32
  let v69 : BitVec 1 := Scalar.cmpi .slt v65 c0_i32_34
  let v70 : BitVec 32 := Scalar.extui v69
  let v71 : BitVec 32 := Scalar.subi v68 v70
  let c32_i32_32 : BitVec 32 := 32#32
  let c0_i32_35 : BitVec 32 := 0#32
  let v72 : BitVec 1 := Scalar.cmpi .sgt c32_i32_32 c0_i32_35
  let v73 : BitVec 32 := Scalar.extui v72
  let c0_i32_36 : BitVec 32 := 0#32
  let v74 : BitVec 1 := Scalar.cmpi .slt c32_i32_32 c0_i32_36
  let v75 : BitVec 32 := Scalar.extui v74
  let v76 : BitVec 32 := Scalar.subi v73 v75
  let v77 : BitVec 1 := Scalar.cmpi .ne v71 v76
  let v78 : BitVec 32 := Scalar.remsi v65 c32_i32_32
  let c0_i32_37 : BitVec 32 := 0#32
  let v79 : BitVec 1 := Scalar.cmpi .ne v78 c0_i32_37
  let v80 : BitVec 1 := Scalar.andi v77 v79
  let v66 : BitVec 32 := Scalar.divsi v65 c32_i32_32
  let c1_i32_38 : BitVec 32 := 1#32
  let v81 : BitVec 32 := Scalar.subi v66 c1_i32_38
  let v82 : BitVec 32 := Scalar.select v80 v81 v66
  let c199_i32_39 : BitVec 32 := 199#32
  let v83 : BitVec 32 := Scalar.minsi v82 c199_i32_39
  let v106 : BitVec 32 := Scalar.muli c32_i32_44 v83
  let v107 : Index := Scalar.indexCast v106
  let c0_45 : Index := 0#32
  ![v107.toNat, 0]

@[reducible] def k0_t2_loop (i : grid0.Coords) (v36 : BitVec 32) (v42 : BitVec 32) : Scf.Loop 32 :=
  let c0_i32_69 : BitVec 32 := 0#32
  let c6400_i32_23 : BitVec 32 := 6400#32
  let c0_i32_22 : BitVec 32 := 0#32
  let arg0 : BitVec 32 := BitVec.ofNat 32 (i 0).val
  let c6400_i32 : BitVec 32 := 6400#32
  let v23 : BitVec 32 := Scalar.muli arg0 c6400_i32
  let v43 : BitVec 32 := Scalar.subi v42 v23
  let v44 : BitVec 32 := Scalar.maxsi c0_i32_22 v43
  let v45 : BitVec 32 := Scalar.minsi c6400_i32_23 v44
  let c0_i32_56 : BitVec 32 := 0#32
  let v132 : BitVec 1 := Scalar.cmpi .sgt v45 c0_i32_56
  let v133 : BitVec 32 := Scalar.extui v132
  let c0_i32_57 : BitVec 32 := 0#32
  let v134 : BitVec 1 := Scalar.cmpi .slt v45 c0_i32_57
  let v135 : BitVec 32 := Scalar.extui v134
  let v136 : BitVec 32 := Scalar.subi v133 v135
  let c32_i32_55 : BitVec 32 := 32#32
  let c0_i32_58 : BitVec 32 := 0#32
  let v137 : BitVec 1 := Scalar.cmpi .sgt c32_i32_55 c0_i32_58
  let v138 : BitVec 32 := Scalar.extui v137
  let c0_i32_59 : BitVec 32 := 0#32
  let v139 : BitVec 1 := Scalar.cmpi .slt c32_i32_55 c0_i32_59
  let v140 : BitVec 32 := Scalar.extui v139
  let v141 : BitVec 32 := Scalar.subi v138 v140
  let v142 : BitVec 1 := Scalar.cmpi .ne v136 v141
  let v143 : BitVec 32 := Scalar.remsi v45 c32_i32_55
  let c0_i32_60 : BitVec 32 := 0#32
  let v144 : BitVec 1 := Scalar.cmpi .ne v143 c0_i32_60
  let v145 : BitVec 1 := Scalar.andi v142 v144
  let v131 : BitVec 32 := Scalar.divsi v45 c32_i32_55
  let c1_i32_61 : BitVec 32 := 1#32
  let v146 : BitVec 32 := Scalar.subi v131 c1_i32_61
  let v147 : BitVec 32 := Scalar.select v145 v146 v131
  let c6400_i32_20 : BitVec 32 := 6400#32
  let c0_i32_19 : BitVec 32 := 0#32
  let v37 : BitVec 32 := Scalar.subi v36 v23
  let v38 : BitVec 32 := Scalar.maxsi c0_i32_19 v37
  let v39 : BitVec 32 := Scalar.minsi c6400_i32_20 v38
  let c32_i32_46 : BitVec 32 := 32#32
  let v112 : BitVec 32 := Scalar.addi v39 c32_i32_46
  let c1_i32_47 : BitVec 32 := 1#32
  let v113 : BitVec 32 := Scalar.subi v112 c1_i32_47
  let c0_i32_49 : BitVec 32 := 0#32
  let v115 : BitVec 1 := Scalar.cmpi .sgt v113 c0_i32_49
  let v116 : BitVec 32 := Scalar.extui v115
  let c0_i32_50 : BitVec 32 := 0#32
  let v117 : BitVec 1 := Scalar.cmpi .slt v113 c0_i32_50
  let v118 : BitVec 32 := Scalar.extui v117
  let v119 : BitVec 32 := Scalar.subi v116 v118
  let c32_i32_48 : BitVec 32 := 32#32
  let c0_i32_51 : BitVec 32 := 0#32
  let v120 : BitVec 1 := Scalar.cmpi .sgt c32_i32_48 c0_i32_51
  let v121 : BitVec 32 := Scalar.extui v120
  let c0_i32_52 : BitVec 32 := 0#32
  let v122 : BitVec 1 := Scalar.cmpi .slt c32_i32_48 c0_i32_52
  let v123 : BitVec 32 := Scalar.extui v122
  let v124 : BitVec 32 := Scalar.subi v121 v123
  let v125 : BitVec 1 := Scalar.cmpi .ne v119 v124
  let v126 : BitVec 32 := Scalar.remsi v113 c32_i32_48
  let c0_i32_53 : BitVec 32 := 0#32
  let v127 : BitVec 1 := Scalar.cmpi .ne v126 c0_i32_53
  let v128 : BitVec 1 := Scalar.andi v125 v127
  let v114 : BitVec 32 := Scalar.divsi v113 c32_i32_48
  let c1_i32_54 : BitVec 32 := 1#32
  let v129 : BitVec 32 := Scalar.subi v114 c1_i32_54
  let v130 : BitVec 32 := Scalar.select v128 v129 v114
  let v148 : BitVec 32 := Scalar.subi v147 v130
  let c0_i32_62 : BitVec 32 := 0#32
  let v149 : BitVec 32 := Scalar.maxsi v148 c0_i32_62
  let c0_i32_63 : BitVec 32 := 0#32
  let v151 : BitVec 1 := Scalar.cmpi .sgt v149 c0_i32_63
  let v152 : BitVec 32 := Scalar.extui v151
  let c0_i32_64 : BitVec 32 := 0#32
  let v153 : BitVec 1 := Scalar.cmpi .slt v149 c0_i32_64
  let v154 : BitVec 32 := Scalar.extui v153
  let v155 : BitVec 32 := Scalar.subi v152 v154
  let c2_i32 : BitVec 32 := 2#32
  let c0_i32_65 : BitVec 32 := 0#32
  let v156 : BitVec 1 := Scalar.cmpi .sgt c2_i32 c0_i32_65
  let v157 : BitVec 32 := Scalar.extui v156
  let c0_i32_66 : BitVec 32 := 0#32
  let v158 : BitVec 1 := Scalar.cmpi .slt c2_i32 c0_i32_66
  let v159 : BitVec 32 := Scalar.extui v158
  let v160 : BitVec 32 := Scalar.subi v157 v159
  let v161 : BitVec 1 := Scalar.cmpi .ne v155 v160
  let v162 : BitVec 32 := Scalar.remsi v149 c2_i32
  let c0_i32_67 : BitVec 32 := 0#32
  let v163 : BitVec 1 := Scalar.cmpi .ne v162 c0_i32_67
  let v164 : BitVec 1 := Scalar.andi v161 v163
  let v150 : BitVec 32 := Scalar.divsi v149 c2_i32
  let c1_i32_68 : BitVec 32 := 1#32
  let v165 : BitVec 32 := Scalar.subi v150 c1_i32_68
  let v166 : BitVec 32 := Scalar.select v164 v165 v150
  let v167 : BitVec 32 := Scalar.subi v166 c0_i32_69
  let c1_i32_70 : BitVec 32 := 1#32
  let v169 : BitVec 32 := Scalar.divsi v167 c1_i32_70
  let v170 : BitVec 32 := Scalar.muli v169 c1_i32_70
  let v171 : BitVec 32 := Scalar.addi c0_i32_69 v170
  let c1_i32_71 : BitVec 32 := 1#32
  ⟨c0_i32_69, v171, c1_i32_71⟩
def k0_off6 (i : grid0.Coords) (v36 : BitVec 32) (v42 : BitVec 32) (k0_t2 : Fin (k0_t2_loop i v36 v42).trips) : Fin 2 → Nat :=
  let c32_i32_81 : BitVec 32 := 32#32
  let c6400_i32_20 : BitVec 32 := 6400#32
  let c0_i32_19 : BitVec 32 := 0#32
  let arg0 : BitVec 32 := BitVec.ofNat 32 (i 0).val
  let c6400_i32 : BitVec 32 := 6400#32
  let v23 : BitVec 32 := Scalar.muli arg0 c6400_i32
  let v37 : BitVec 32 := Scalar.subi v36 v23
  let v38 : BitVec 32 := Scalar.maxsi c0_i32_19 v37
  let v39 : BitVec 32 := Scalar.minsi c6400_i32_20 v38
  let c32_i32_46 : BitVec 32 := 32#32
  let v112 : BitVec 32 := Scalar.addi v39 c32_i32_46
  let c1_i32_47 : BitVec 32 := 1#32
  let v113 : BitVec 32 := Scalar.subi v112 c1_i32_47
  let c0_i32_49 : BitVec 32 := 0#32
  let v115 : BitVec 1 := Scalar.cmpi .sgt v113 c0_i32_49
  let v116 : BitVec 32 := Scalar.extui v115
  let c0_i32_50 : BitVec 32 := 0#32
  let v117 : BitVec 1 := Scalar.cmpi .slt v113 c0_i32_50
  let v118 : BitVec 32 := Scalar.extui v117
  let v119 : BitVec 32 := Scalar.subi v116 v118
  let c32_i32_48 : BitVec 32 := 32#32
  let c0_i32_51 : BitVec 32 := 0#32
  let v120 : BitVec 1 := Scalar.cmpi .sgt c32_i32_48 c0_i32_51
  let v121 : BitVec 32 := Scalar.extui v120
  let c0_i32_52 : BitVec 32 := 0#32
  let v122 : BitVec 1 := Scalar.cmpi .slt c32_i32_48 c0_i32_52
  let v123 : BitVec 32 := Scalar.extui v122
  let v124 : BitVec 32 := Scalar.subi v121 v123
  let v125 : BitVec 1 := Scalar.cmpi .ne v119 v124
  let v126 : BitVec 32 := Scalar.remsi v113 c32_i32_48
  let c0_i32_53 : BitVec 32 := 0#32
  let v127 : BitVec 1 := Scalar.cmpi .ne v126 c0_i32_53
  let v128 : BitVec 1 := Scalar.andi v125 v127
  let v114 : BitVec 32 := Scalar.divsi v113 c32_i32_48
  let c1_i32_54 : BitVec 32 := 1#32
  let v129 : BitVec 32 := Scalar.subi v114 c1_i32_54
  let v130 : BitVec 32 := Scalar.select v128 v129 v114
  let c2_i32_80 : BitVec 32 := 2#32
  let c0_i32_69 : BitVec 32 := 0#32
  let c1_i32_71 : BitVec 32 := 1#32
  let arg12 : BitVec 32 := Scf.iv c0_i32_69 c1_i32_71 k0_t2
  let v192 : BitVec 32 := Scalar.muli c2_i32_80 arg12
  let v193 : BitVec 32 := Scalar.addi v130 v192
  let v194 : BitVec 32 := Scalar.muli c32_i32_81 v193
  let v195 : Index := Scalar.indexCast v194
  let c0_82 : Index := 0#32
  ![v195.toNat, 0]
def k0_off7 (i : grid0.Coords) (v36 : BitVec 32) (v42 : BitVec 32) (k0_t2 : Fin (k0_t2_loop i v36 v42).trips) : Fin 2 → Nat :=
  let c32_i32_84 : BitVec 32 := 32#32
  let c6400_i32_20 : BitVec 32 := 6400#32
  let c0_i32_19 : BitVec 32 := 0#32
  let arg0 : BitVec 32 := BitVec.ofNat 32 (i 0).val
  let c6400_i32 : BitVec 32 := 6400#32
  let v23 : BitVec 32 := Scalar.muli arg0 c6400_i32
  let v37 : BitVec 32 := Scalar.subi v36 v23
  let v38 : BitVec 32 := Scalar.maxsi c0_i32_19 v37
  let v39 : BitVec 32 := Scalar.minsi c6400_i32_20 v38
  let c32_i32_46 : BitVec 32 := 32#32
  let v112 : BitVec 32 := Scalar.addi v39 c32_i32_46
  let c1_i32_47 : BitVec 32 := 1#32
  let v113 : BitVec 32 := Scalar.subi v112 c1_i32_47
  let c0_i32_49 : BitVec 32 := 0#32
  let v115 : BitVec 1 := Scalar.cmpi .sgt v113 c0_i32_49
  let v116 : BitVec 32 := Scalar.extui v115
  let c0_i32_50 : BitVec 32 := 0#32
  let v117 : BitVec 1 := Scalar.cmpi .slt v113 c0_i32_50
  let v118 : BitVec 32 := Scalar.extui v117
  let v119 : BitVec 32 := Scalar.subi v116 v118
  let c32_i32_48 : BitVec 32 := 32#32
  let c0_i32_51 : BitVec 32 := 0#32
  let v120 : BitVec 1 := Scalar.cmpi .sgt c32_i32_48 c0_i32_51
  let v121 : BitVec 32 := Scalar.extui v120
  let c0_i32_52 : BitVec 32 := 0#32
  let v122 : BitVec 1 := Scalar.cmpi .slt c32_i32_48 c0_i32_52
  let v123 : BitVec 32 := Scalar.extui v122
  let v124 : BitVec 32 := Scalar.subi v121 v123
  let v125 : BitVec 1 := Scalar.cmpi .ne v119 v124
  let v126 : BitVec 32 := Scalar.remsi v113 c32_i32_48
  let c0_i32_53 : BitVec 32 := 0#32
  let v127 : BitVec 1 := Scalar.cmpi .ne v126 c0_i32_53
  let v128 : BitVec 1 := Scalar.andi v125 v127
  let v114 : BitVec 32 := Scalar.divsi v113 c32_i32_48
  let c1_i32_54 : BitVec 32 := 1#32
  let v129 : BitVec 32 := Scalar.subi v114 c1_i32_54
  let v130 : BitVec 32 := Scalar.select v128 v129 v114
  let c2_i32_80 : BitVec 32 := 2#32
  let c0_i32_69 : BitVec 32 := 0#32
  let c1_i32_71 : BitVec 32 := 1#32
  let arg12 : BitVec 32 := Scf.iv c0_i32_69 c1_i32_71 k0_t2
  let v192 : BitVec 32 := Scalar.muli c2_i32_80 arg12
  let v193 : BitVec 32 := Scalar.addi v130 v192
  let c1_i32_83 : BitVec 32 := 1#32
  let v198 : BitVec 32 := Scalar.addi v193 c1_i32_83
  let v199 : BitVec 32 := Scalar.muli c32_i32_84 v198
  let v200 : Index := Scalar.indexCast v199
  let c0_85 : Index := 0#32
  ![v200.toNat, 0]
@[reducible] def k0_t3_loop (i : grid0.Coords) (v36 : BitVec 32) (v42 : BitVec 32) : Scf.Loop 32 :=
  let c0_i32_69 : BitVec 32 := 0#32
  let c6400_i32_23 : BitVec 32 := 6400#32
  let c0_i32_22 : BitVec 32 := 0#32
  let arg0 : BitVec 32 := BitVec.ofNat 32 (i 0).val
  let c6400_i32 : BitVec 32 := 6400#32
  let v23 : BitVec 32 := Scalar.muli arg0 c6400_i32
  let v43 : BitVec 32 := Scalar.subi v42 v23
  let v44 : BitVec 32 := Scalar.maxsi c0_i32_22 v43
  let v45 : BitVec 32 := Scalar.minsi c6400_i32_23 v44
  let c0_i32_56 : BitVec 32 := 0#32
  let v132 : BitVec 1 := Scalar.cmpi .sgt v45 c0_i32_56
  let v133 : BitVec 32 := Scalar.extui v132
  let c0_i32_57 : BitVec 32 := 0#32
  let v134 : BitVec 1 := Scalar.cmpi .slt v45 c0_i32_57
  let v135 : BitVec 32 := Scalar.extui v134
  let v136 : BitVec 32 := Scalar.subi v133 v135
  let c32_i32_55 : BitVec 32 := 32#32
  let c0_i32_58 : BitVec 32 := 0#32
  let v137 : BitVec 1 := Scalar.cmpi .sgt c32_i32_55 c0_i32_58
  let v138 : BitVec 32 := Scalar.extui v137
  let c0_i32_59 : BitVec 32 := 0#32
  let v139 : BitVec 1 := Scalar.cmpi .slt c32_i32_55 c0_i32_59
  let v140 : BitVec 32 := Scalar.extui v139
  let v141 : BitVec 32 := Scalar.subi v138 v140
  let v142 : BitVec 1 := Scalar.cmpi .ne v136 v141
  let v143 : BitVec 32 := Scalar.remsi v45 c32_i32_55
  let c0_i32_60 : BitVec 32 := 0#32
  let v144 : BitVec 1 := Scalar.cmpi .ne v143 c0_i32_60
  let v145 : BitVec 1 := Scalar.andi v142 v144
  let v131 : BitVec 32 := Scalar.divsi v45 c32_i32_55
  let c1_i32_61 : BitVec 32 := 1#32
  let v146 : BitVec 32 := Scalar.subi v131 c1_i32_61
  let v147 : BitVec 32 := Scalar.select v145 v146 v131
  let c6400_i32_20 : BitVec 32 := 6400#32
  let c0_i32_19 : BitVec 32 := 0#32
  let v37 : BitVec 32 := Scalar.subi v36 v23
  let v38 : BitVec 32 := Scalar.maxsi c0_i32_19 v37
  let v39 : BitVec 32 := Scalar.minsi c6400_i32_20 v38
  let c32_i32_46 : BitVec 32 := 32#32
  let v112 : BitVec 32 := Scalar.addi v39 c32_i32_46
  let c1_i32_47 : BitVec 32 := 1#32
  let v113 : BitVec 32 := Scalar.subi v112 c1_i32_47
  let c0_i32_49 : BitVec 32 := 0#32
  let v115 : BitVec 1 := Scalar.cmpi .sgt v113 c0_i32_49
  let v116 : BitVec 32 := Scalar.extui v115
  let c0_i32_50 : BitVec 32 := 0#32
  let v117 : BitVec 1 := Scalar.cmpi .slt v113 c0_i32_50
  let v118 : BitVec 32 := Scalar.extui v117
  let v119 : BitVec 32 := Scalar.subi v116 v118
  let c32_i32_48 : BitVec 32 := 32#32
  let c0_i32_51 : BitVec 32 := 0#32
  let v120 : BitVec 1 := Scalar.cmpi .sgt c32_i32_48 c0_i32_51
  let v121 : BitVec 32 := Scalar.extui v120
  let c0_i32_52 : BitVec 32 := 0#32
  let v122 : BitVec 1 := Scalar.cmpi .slt c32_i32_48 c0_i32_52
  let v123 : BitVec 32 := Scalar.extui v122
  let v124 : BitVec 32 := Scalar.subi v121 v123
  let v125 : BitVec 1 := Scalar.cmpi .ne v119 v124
  let v126 : BitVec 32 := Scalar.remsi v113 c32_i32_48
  let c0_i32_53 : BitVec 32 := 0#32
  let v127 : BitVec 1 := Scalar.cmpi .ne v126 c0_i32_53
  let v128 : BitVec 1 := Scalar.andi v125 v127
  let v114 : BitVec 32 := Scalar.divsi v113 c32_i32_48
  let c1_i32_54 : BitVec 32 := 1#32
  let v129 : BitVec 32 := Scalar.subi v114 c1_i32_54
  let v130 : BitVec 32 := Scalar.select v128 v129 v114
  let v148 : BitVec 32 := Scalar.subi v147 v130
  let c0_i32_62 : BitVec 32 := 0#32
  let v149 : BitVec 32 := Scalar.maxsi v148 c0_i32_62
  let c0_i32_63 : BitVec 32 := 0#32
  let v151 : BitVec 1 := Scalar.cmpi .sgt v149 c0_i32_63
  let v152 : BitVec 32 := Scalar.extui v151
  let c0_i32_64 : BitVec 32 := 0#32
  let v153 : BitVec 1 := Scalar.cmpi .slt v149 c0_i32_64
  let v154 : BitVec 32 := Scalar.extui v153
  let v155 : BitVec 32 := Scalar.subi v152 v154
  let c2_i32 : BitVec 32 := 2#32
  let c0_i32_65 : BitVec 32 := 0#32
  let v156 : BitVec 1 := Scalar.cmpi .sgt c2_i32 c0_i32_65
  let v157 : BitVec 32 := Scalar.extui v156
  let c0_i32_66 : BitVec 32 := 0#32
  let v158 : BitVec 1 := Scalar.cmpi .slt c2_i32 c0_i32_66
  let v159 : BitVec 32 := Scalar.extui v158
  let v160 : BitVec 32 := Scalar.subi v157 v159
  let v161 : BitVec 1 := Scalar.cmpi .ne v155 v160
  let v162 : BitVec 32 := Scalar.remsi v149 c2_i32
  let c0_i32_67 : BitVec 32 := 0#32
  let v163 : BitVec 1 := Scalar.cmpi .ne v162 c0_i32_67
  let v164 : BitVec 1 := Scalar.andi v161 v163
  let v150 : BitVec 32 := Scalar.divsi v149 c2_i32
  let c1_i32_68 : BitVec 32 := 1#32
  let v165 : BitVec 32 := Scalar.subi v150 c1_i32_68
  let v166 : BitVec 32 := Scalar.select v164 v165 v150
  let v167 : BitVec 32 := Scalar.subi v166 c0_i32_69
  let c1_i32_70 : BitVec 32 := 1#32
  let v169 : BitVec 32 := Scalar.divsi v167 c1_i32_70
  let v170 : BitVec 32 := Scalar.muli v169 c1_i32_70
  let v171 : BitVec 32 := Scalar.addi c0_i32_69 v170
  let v168 : BitVec 32 := Scalar.addi c0_i32_69 v167
  let c1_i32_72 : BitVec 32 := 1#32
  ⟨v171, v168, c1_i32_72⟩
def k0_off8 (i : grid0.Coords) (v36 : BitVec 32) (v42 : BitVec 32) (k0_t3 : Fin (k0_t3_loop i v36 v42).trips) : Fin 2 → Nat :=
  let c32_i32_81 : BitVec 32 := 32#32
  let c6400_i32_20 : BitVec 32 := 6400#32
  let c0_i32_19 : BitVec 32 := 0#32
  let arg0 : BitVec 32 := BitVec.ofNat 32 (i 0).val
  let c6400_i32 : BitVec 32 := 6400#32
  let v23 : BitVec 32 := Scalar.muli arg0 c6400_i32
  let v37 : BitVec 32 := Scalar.subi v36 v23
  let v38 : BitVec 32 := Scalar.maxsi c0_i32_19 v37
  let v39 : BitVec 32 := Scalar.minsi c6400_i32_20 v38
  let c32_i32_46 : BitVec 32 := 32#32
  let v112 : BitVec 32 := Scalar.addi v39 c32_i32_46
  let c1_i32_47 : BitVec 32 := 1#32
  let v113 : BitVec 32 := Scalar.subi v112 c1_i32_47
  let c0_i32_49 : BitVec 32 := 0#32
  let v115 : BitVec 1 := Scalar.cmpi .sgt v113 c0_i32_49
  let v116 : BitVec 32 := Scalar.extui v115
  let c0_i32_50 : BitVec 32 := 0#32
  let v117 : BitVec 1 := Scalar.cmpi .slt v113 c0_i32_50
  let v118 : BitVec 32 := Scalar.extui v117
  let v119 : BitVec 32 := Scalar.subi v116 v118
  let c32_i32_48 : BitVec 32 := 32#32
  let c0_i32_51 : BitVec 32 := 0#32
  let v120 : BitVec 1 := Scalar.cmpi .sgt c32_i32_48 c0_i32_51
  let v121 : BitVec 32 := Scalar.extui v120
  let c0_i32_52 : BitVec 32 := 0#32
  let v122 : BitVec 1 := Scalar.cmpi .slt c32_i32_48 c0_i32_52
  let v123 : BitVec 32 := Scalar.extui v122
  let v124 : BitVec 32 := Scalar.subi v121 v123
  let v125 : BitVec 1 := Scalar.cmpi .ne v119 v124
  let v126 : BitVec 32 := Scalar.remsi v113 c32_i32_48
  let c0_i32_53 : BitVec 32 := 0#32
  let v127 : BitVec 1 := Scalar.cmpi .ne v126 c0_i32_53
  let v128 : BitVec 1 := Scalar.andi v125 v127
  let v114 : BitVec 32 := Scalar.divsi v113 c32_i32_48
  let c1_i32_54 : BitVec 32 := 1#32
  let v129 : BitVec 32 := Scalar.subi v114 c1_i32_54
  let v130 : BitVec 32 := Scalar.select v128 v129 v114
  let c2_i32_80 : BitVec 32 := 2#32
  let c0_i32_69 : BitVec 32 := 0#32
  let c6400_i32_23 : BitVec 32 := 6400#32
  let c0_i32_22 : BitVec 32 := 0#32
  let v43 : BitVec 32 := Scalar.subi v42 v23
  let v44 : BitVec 32 := Scalar.maxsi c0_i32_22 v43
  let v45 : BitVec 32 := Scalar.minsi c6400_i32_23 v44
  let c0_i32_56 : BitVec 32 := 0#32
  let v132 : BitVec 1 := Scalar.cmpi .sgt v45 c0_i32_56
  let v133 : BitVec 32 := Scalar.extui v132
  let c0_i32_57 : BitVec 32 := 0#32
  let v134 : BitVec 1 := Scalar.cmpi .slt v45 c0_i32_57
  let v135 : BitVec 32 := Scalar.extui v134
  let v136 : BitVec 32 := Scalar.subi v133 v135
  let c32_i32_55 : BitVec 32 := 32#32
  let c0_i32_58 : BitVec 32 := 0#32
  let v137 : BitVec 1 := Scalar.cmpi .sgt c32_i32_55 c0_i32_58
  let v138 : BitVec 32 := Scalar.extui v137
  let c0_i32_59 : BitVec 32 := 0#32
  let v139 : BitVec 1 := Scalar.cmpi .slt c32_i32_55 c0_i32_59
  let v140 : BitVec 32 := Scalar.extui v139
  let v141 : BitVec 32 := Scalar.subi v138 v140
  let v142 : BitVec 1 := Scalar.cmpi .ne v136 v141
  let v143 : BitVec 32 := Scalar.remsi v45 c32_i32_55
  let c0_i32_60 : BitVec 32 := 0#32
  let v144 : BitVec 1 := Scalar.cmpi .ne v143 c0_i32_60
  let v145 : BitVec 1 := Scalar.andi v142 v144
  let v131 : BitVec 32 := Scalar.divsi v45 c32_i32_55
  let c1_i32_61 : BitVec 32 := 1#32
  let v146 : BitVec 32 := Scalar.subi v131 c1_i32_61
  let v147 : BitVec 32 := Scalar.select v145 v146 v131
  let v148 : BitVec 32 := Scalar.subi v147 v130
  let c0_i32_62 : BitVec 32 := 0#32
  let v149 : BitVec 32 := Scalar.maxsi v148 c0_i32_62
  let c0_i32_63 : BitVec 32 := 0#32
  let v151 : BitVec 1 := Scalar.cmpi .sgt v149 c0_i32_63
  let v152 : BitVec 32 := Scalar.extui v151
  let c0_i32_64 : BitVec 32 := 0#32
  let v153 : BitVec 1 := Scalar.cmpi .slt v149 c0_i32_64
  let v154 : BitVec 32 := Scalar.extui v153
  let v155 : BitVec 32 := Scalar.subi v152 v154
  let c2_i32 : BitVec 32 := 2#32
  let c0_i32_65 : BitVec 32 := 0#32
  let v156 : BitVec 1 := Scalar.cmpi .sgt c2_i32 c0_i32_65
  let v157 : BitVec 32 := Scalar.extui v156
  let c0_i32_66 : BitVec 32 := 0#32
  let v158 : BitVec 1 := Scalar.cmpi .slt c2_i32 c0_i32_66
  let v159 : BitVec 32 := Scalar.extui v158
  let v160 : BitVec 32 := Scalar.subi v157 v159
  let v161 : BitVec 1 := Scalar.cmpi .ne v155 v160
  let v162 : BitVec 32 := Scalar.remsi v149 c2_i32
  let c0_i32_67 : BitVec 32 := 0#32
  let v163 : BitVec 1 := Scalar.cmpi .ne v162 c0_i32_67
  let v164 : BitVec 1 := Scalar.andi v161 v163
  let v150 : BitVec 32 := Scalar.divsi v149 c2_i32
  let c1_i32_68 : BitVec 32 := 1#32
  let v165 : BitVec 32 := Scalar.subi v150 c1_i32_68
  let v166 : BitVec 32 := Scalar.select v164 v165 v150
  let v167 : BitVec 32 := Scalar.subi v166 c0_i32_69
  let c1_i32_70 : BitVec 32 := 1#32
  let v169 : BitVec 32 := Scalar.divsi v167 c1_i32_70
  let v170 : BitVec 32 := Scalar.muli v169 c1_i32_70
  let v171 : BitVec 32 := Scalar.addi c0_i32_69 v170
  let c1_i32_72 : BitVec 32 := 1#32
  let arg12 : BitVec 32 := Scf.iv v171 c1_i32_72 k0_t3
  let v192 : BitVec 32 := Scalar.muli c2_i32_80 arg12
  let v193 : BitVec 32 := Scalar.addi v130 v192
  let v194 : BitVec 32 := Scalar.muli c32_i32_81 v193
  let v195 : Index := Scalar.indexCast v194
  let c0_82 : Index := 0#32
  ![v195.toNat, 0]
def k0_off9 (i : grid0.Coords) (v36 : BitVec 32) (v42 : BitVec 32) (k0_t3 : Fin (k0_t3_loop i v36 v42).trips) : Fin 2 → Nat :=
  let c32_i32_84 : BitVec 32 := 32#32
  let c6400_i32_20 : BitVec 32 := 6400#32
  let c0_i32_19 : BitVec 32 := 0#32
  let arg0 : BitVec 32 := BitVec.ofNat 32 (i 0).val
  let c6400_i32 : BitVec 32 := 6400#32
  let v23 : BitVec 32 := Scalar.muli arg0 c6400_i32
  let v37 : BitVec 32 := Scalar.subi v36 v23
  let v38 : BitVec 32 := Scalar.maxsi c0_i32_19 v37
  let v39 : BitVec 32 := Scalar.minsi c6400_i32_20 v38
  let c32_i32_46 : BitVec 32 := 32#32
  let v112 : BitVec 32 := Scalar.addi v39 c32_i32_46
  let c1_i32_47 : BitVec 32 := 1#32
  let v113 : BitVec 32 := Scalar.subi v112 c1_i32_47
  let c0_i32_49 : BitVec 32 := 0#32
  let v115 : BitVec 1 := Scalar.cmpi .sgt v113 c0_i32_49
  let v116 : BitVec 32 := Scalar.extui v115
  let c0_i32_50 : BitVec 32 := 0#32
  let v117 : BitVec 1 := Scalar.cmpi .slt v113 c0_i32_50
  let v118 : BitVec 32 := Scalar.extui v117
  let v119 : BitVec 32 := Scalar.subi v116 v118
  let c32_i32_48 : BitVec 32 := 32#32
  let c0_i32_51 : BitVec 32 := 0#32
  let v120 : BitVec 1 := Scalar.cmpi .sgt c32_i32_48 c0_i32_51
  let v121 : BitVec 32 := Scalar.extui v120
  let c0_i32_52 : BitVec 32 := 0#32
  let v122 : BitVec 1 := Scalar.cmpi .slt c32_i32_48 c0_i32_52
  let v123 : BitVec 32 := Scalar.extui v122
  let v124 : BitVec 32 := Scalar.subi v121 v123
  let v125 : BitVec 1 := Scalar.cmpi .ne v119 v124
  let v126 : BitVec 32 := Scalar.remsi v113 c32_i32_48
  let c0_i32_53 : BitVec 32 := 0#32
  let v127 : BitVec 1 := Scalar.cmpi .ne v126 c0_i32_53
  let v128 : BitVec 1 := Scalar.andi v125 v127
  let v114 : BitVec 32 := Scalar.divsi v113 c32_i32_48
  let c1_i32_54 : BitVec 32 := 1#32
  let v129 : BitVec 32 := Scalar.subi v114 c1_i32_54
  let v130 : BitVec 32 := Scalar.select v128 v129 v114
  let c2_i32_80 : BitVec 32 := 2#32
  let c0_i32_69 : BitVec 32 := 0#32
  let c6400_i32_23 : BitVec 32 := 6400#32
  let c0_i32_22 : BitVec 32 := 0#32
  let v43 : BitVec 32 := Scalar.subi v42 v23
  let v44 : BitVec 32 := Scalar.maxsi c0_i32_22 v43
  let v45 : BitVec 32 := Scalar.minsi c6400_i32_23 v44
  let c0_i32_56 : BitVec 32 := 0#32
  let v132 : BitVec 1 := Scalar.cmpi .sgt v45 c0_i32_56
  let v133 : BitVec 32 := Scalar.extui v132
  let c0_i32_57 : BitVec 32 := 0#32
  let v134 : BitVec 1 := Scalar.cmpi .slt v45 c0_i32_57
  let v135 : BitVec 32 := Scalar.extui v134
  let v136 : BitVec 32 := Scalar.subi v133 v135
  let c32_i32_55 : BitVec 32 := 32#32
  let c0_i32_58 : BitVec 32 := 0#32
  let v137 : BitVec 1 := Scalar.cmpi .sgt c32_i32_55 c0_i32_58
  let v138 : BitVec 32 := Scalar.extui v137
  let c0_i32_59 : BitVec 32 := 0#32
  let v139 : BitVec 1 := Scalar.cmpi .slt c32_i32_55 c0_i32_59
  let v140 : BitVec 32 := Scalar.extui v139
  let v141 : BitVec 32 := Scalar.subi v138 v140
  let v142 : BitVec 1 := Scalar.cmpi .ne v136 v141
  let v143 : BitVec 32 := Scalar.remsi v45 c32_i32_55
  let c0_i32_60 : BitVec 32 := 0#32
  let v144 : BitVec 1 := Scalar.cmpi .ne v143 c0_i32_60
  let v145 : BitVec 1 := Scalar.andi v142 v144
  let v131 : BitVec 32 := Scalar.divsi v45 c32_i32_55
  let c1_i32_61 : BitVec 32 := 1#32
  let v146 : BitVec 32 := Scalar.subi v131 c1_i32_61
  let v147 : BitVec 32 := Scalar.select v145 v146 v131
  let v148 : BitVec 32 := Scalar.subi v147 v130
  let c0_i32_62 : BitVec 32 := 0#32
  let v149 : BitVec 32 := Scalar.maxsi v148 c0_i32_62
  let c0_i32_63 : BitVec 32 := 0#32
  let v151 : BitVec 1 := Scalar.cmpi .sgt v149 c0_i32_63
  let v152 : BitVec 32 := Scalar.extui v151
  let c0_i32_64 : BitVec 32 := 0#32
  let v153 : BitVec 1 := Scalar.cmpi .slt v149 c0_i32_64
  let v154 : BitVec 32 := Scalar.extui v153
  let v155 : BitVec 32 := Scalar.subi v152 v154
  let c2_i32 : BitVec 32 := 2#32
  let c0_i32_65 : BitVec 32 := 0#32
  let v156 : BitVec 1 := Scalar.cmpi .sgt c2_i32 c0_i32_65
  let v157 : BitVec 32 := Scalar.extui v156
  let c0_i32_66 : BitVec 32 := 0#32
  let v158 : BitVec 1 := Scalar.cmpi .slt c2_i32 c0_i32_66
  let v159 : BitVec 32 := Scalar.extui v158
  let v160 : BitVec 32 := Scalar.subi v157 v159
  let v161 : BitVec 1 := Scalar.cmpi .ne v155 v160
  let v162 : BitVec 32 := Scalar.remsi v149 c2_i32
  let c0_i32_67 : BitVec 32 := 0#32
  let v163 : BitVec 1 := Scalar.cmpi .ne v162 c0_i32_67
  let v164 : BitVec 1 := Scalar.andi v161 v163
  let v150 : BitVec 32 := Scalar.divsi v149 c2_i32
  let c1_i32_68 : BitVec 32 := 1#32
  let v165 : BitVec 32 := Scalar.subi v150 c1_i32_68
  let v166 : BitVec 32 := Scalar.select v164 v165 v150
  let v167 : BitVec 32 := Scalar.subi v166 c0_i32_69
  let c1_i32_70 : BitVec 32 := 1#32
  let v169 : BitVec 32 := Scalar.divsi v167 c1_i32_70
  let v170 : BitVec 32 := Scalar.muli v169 c1_i32_70
  let v171 : BitVec 32 := Scalar.addi c0_i32_69 v170
  let c1_i32_72 : BitVec 32 := 1#32
  let arg12 : BitVec 32 := Scf.iv v171 c1_i32_72 k0_t3
  let v192 : BitVec 32 := Scalar.muli c2_i32_80 arg12
  let v193 : BitVec 32 := Scalar.addi v130 v192
  let c1_i32_83 : BitVec 32 := 1#32
  let v198 : BitVec 32 := Scalar.addi v193 c1_i32_83
  let v199 : BitVec 32 := Scalar.muli c32_i32_84 v198
  let v200 : Index := Scalar.indexCast v199
  let c0_85 : Index := 0#32
  ![v200.toNat, 0]
@[reducible] def k0_t4_loop (i : grid0.Coords) (v36 : BitVec 32) (v42 : BitVec 32) : Scf.Loop 32 :=
  let c6400_i32_20 : BitVec 32 := 6400#32
  let c0_i32_19 : BitVec 32 := 0#32
  let arg0 : BitVec 32 := BitVec.ofNat 32 (i 0).val
  let c6400_i32 : BitVec 32 := 6400#32
  let v23 : BitVec 32 := Scalar.muli arg0 c6400_i32
  let v37 : BitVec 32 := Scalar.subi v36 v23
  let v38 : BitVec 32 := Scalar.maxsi c0_i32_19 v37
  let v39 : BitVec 32 := Scalar.minsi c6400_i32_20 v38
  let c32_i32_46 : BitVec 32 := 32#32
  let v112 : BitVec 32 := Scalar.addi v39 c32_i32_46
  let c1_i32_47 : BitVec 32 := 1#32
  let v113 : BitVec 32 := Scalar.subi v112 c1_i32_47
  let c0_i32_49 : BitVec 32 := 0#32
  let v115 : BitVec 1 := Scalar.cmpi .sgt v113 c0_i32_49
  let v116 : BitVec 32 := Scalar.extui v115
  let c0_i32_50 : BitVec 32 := 0#32
  let v117 : BitVec 1 := Scalar.cmpi .slt v113 c0_i32_50
  let v118 : BitVec 32 := Scalar.extui v117
  let v119 : BitVec 32 := Scalar.subi v116 v118
  let c32_i32_48 : BitVec 32 := 32#32
  let c0_i32_51 : BitVec 32 := 0#32
  let v120 : BitVec 1 := Scalar.cmpi .sgt c32_i32_48 c0_i32_51
  let v121 : BitVec 32 := Scalar.extui v120
  let c0_i32_52 : BitVec 32 := 0#32
  let v122 : BitVec 1 := Scalar.cmpi .slt c32_i32_48 c0_i32_52
  let v123 : BitVec 32 := Scalar.extui v122
  let v124 : BitVec 32 := Scalar.subi v121 v123
  let v125 : BitVec 1 := Scalar.cmpi .ne v119 v124
  let v126 : BitVec 32 := Scalar.remsi v113 c32_i32_48
  let c0_i32_53 : BitVec 32 := 0#32
  let v127 : BitVec 1 := Scalar.cmpi .ne v126 c0_i32_53
  let v128 : BitVec 1 := Scalar.andi v125 v127
  let v114 : BitVec 32 := Scalar.divsi v113 c32_i32_48
  let c1_i32_54 : BitVec 32 := 1#32
  let v129 : BitVec 32 := Scalar.subi v114 c1_i32_54
  let v130 : BitVec 32 := Scalar.select v128 v129 v114
  let c2_i32_73 : BitVec 32 := 2#32
  let c6400_i32_23 : BitVec 32 := 6400#32
  let c0_i32_22 : BitVec 32 := 0#32
  let v43 : BitVec 32 := Scalar.subi v42 v23
  let v44 : BitVec 32 := Scalar.maxsi c0_i32_22 v43
  let v45 : BitVec 32 := Scalar.minsi c6400_i32_23 v44
  let c0_i32_56 : BitVec 32 := 0#32
  let v132 : BitVec 1 := Scalar.cmpi .sgt v45 c0_i32_56
  let v133 : BitVec 32 := Scalar.extui v132
  let c0_i32_57 : BitVec 32 := 0#32
  let v134 : BitVec 1 := Scalar.cmpi .slt v45 c0_i32_57
  let v135 : BitVec 32 := Scalar.extui v134
  let v136 : BitVec 32 := Scalar.subi v133 v135
  let c32_i32_55 : BitVec 32 := 32#32
  let c0_i32_58 : BitVec 32 := 0#32
  let v137 : BitVec 1 := Scalar.cmpi .sgt c32_i32_55 c0_i32_58
  let v138 : BitVec 32 := Scalar.extui v137
  let c0_i32_59 : BitVec 32 := 0#32
  let v139 : BitVec 1 := Scalar.cmpi .slt c32_i32_55 c0_i32_59
  let v140 : BitVec 32 := Scalar.extui v139
  let v141 : BitVec 32 := Scalar.subi v138 v140
  let v142 : BitVec 1 := Scalar.cmpi .ne v136 v141
  let v143 : BitVec 32 := Scalar.remsi v45 c32_i32_55
  let c0_i32_60 : BitVec 32 := 0#32
  let v144 : BitVec 1 := Scalar.cmpi .ne v143 c0_i32_60
  let v145 : BitVec 1 := Scalar.andi v142 v144
  let v131 : BitVec 32 := Scalar.divsi v45 c32_i32_55
  let c1_i32_61 : BitVec 32 := 1#32
  let v146 : BitVec 32 := Scalar.subi v131 c1_i32_61
  let v147 : BitVec 32 := Scalar.select v145 v146 v131
  let v148 : BitVec 32 := Scalar.subi v147 v130
  let c0_i32_62 : BitVec 32 := 0#32
  let v149 : BitVec 32 := Scalar.maxsi v148 c0_i32_62
  let c0_i32_63 : BitVec 32 := 0#32
  let v151 : BitVec 1 := Scalar.cmpi .sgt v149 c0_i32_63
  let v152 : BitVec 32 := Scalar.extui v151
  let c0_i32_64 : BitVec 32 := 0#32
  let v153 : BitVec 1 := Scalar.cmpi .slt v149 c0_i32_64
  let v154 : BitVec 32 := Scalar.extui v153
  let v155 : BitVec 32 := Scalar.subi v152 v154
  let c2_i32 : BitVec 32 := 2#32
  let c0_i32_65 : BitVec 32 := 0#32
  let v156 : BitVec 1 := Scalar.cmpi .sgt c2_i32 c0_i32_65
  let v157 : BitVec 32 := Scalar.extui v156
  let c0_i32_66 : BitVec 32 := 0#32
  let v158 : BitVec 1 := Scalar.cmpi .slt c2_i32 c0_i32_66
  let v159 : BitVec 32 := Scalar.extui v158
  let v160 : BitVec 32 := Scalar.subi v157 v159
  let v161 : BitVec 1 := Scalar.cmpi .ne v155 v160
  let v162 : BitVec 32 := Scalar.remsi v149 c2_i32
  let c0_i32_67 : BitVec 32 := 0#32
  let v163 : BitVec 1 := Scalar.cmpi .ne v162 c0_i32_67
  let v164 : BitVec 1 := Scalar.andi v161 v163
  let v150 : BitVec 32 := Scalar.divsi v149 c2_i32
  let c1_i32_68 : BitVec 32 := 1#32
  let v165 : BitVec 32 := Scalar.subi v150 c1_i32_68
  let v166 : BitVec 32 := Scalar.select v164 v165 v150
  let v174 : BitVec 32 := Scalar.muli c2_i32_73 v166
  let v175 : BitVec 32 := Scalar.addi v130 v174
  let v176 : BitVec 32 := Scalar.subi v147 v175
  let c1_i32_74 : BitVec 32 := 1#32
  let v178 : BitVec 32 := Scalar.divsi v176 c1_i32_74
  let v179 : BitVec 32 := Scalar.muli v178 c1_i32_74
  let v180 : BitVec 32 := Scalar.addi v175 v179
  let c1_i32_75 : BitVec 32 := 1#32
  ⟨v175, v180, c1_i32_75⟩
def k0_off10 (i : grid0.Coords) (v36 : BitVec 32) (v42 : BitVec 32) (k0_t4 : Fin (k0_t4_loop i v36 v42).trips) : Fin 2 → Nat :=
  let c32_i32_80 : BitVec 32 := 32#32
  let c6400_i32_20 : BitVec 32 := 6400#32
  let c0_i32_19 : BitVec 32 := 0#32
  let arg0 : BitVec 32 := BitVec.ofNat 32 (i 0).val
  let c6400_i32 : BitVec 32 := 6400#32
  let v23 : BitVec 32 := Scalar.muli arg0 c6400_i32
  let v37 : BitVec 32 := Scalar.subi v36 v23
  let v38 : BitVec 32 := Scalar.maxsi c0_i32_19 v37
  let v39 : BitVec 32 := Scalar.minsi c6400_i32_20 v38
  let c32_i32_46 : BitVec 32 := 32#32
  let v112 : BitVec 32 := Scalar.addi v39 c32_i32_46
  let c1_i32_47 : BitVec 32 := 1#32
  let v113 : BitVec 32 := Scalar.subi v112 c1_i32_47
  let c0_i32_49 : BitVec 32 := 0#32
  let v115 : BitVec 1 := Scalar.cmpi .sgt v113 c0_i32_49
  let v116 : BitVec 32 := Scalar.extui v115
  let c0_i32_50 : BitVec 32 := 0#32
  let v117 : BitVec 1 := Scalar.cmpi .slt v113 c0_i32_50
  let v118 : BitVec 32 := Scalar.extui v117
  let v119 : BitVec 32 := Scalar.subi v116 v118
  let c32_i32_48 : BitVec 32 := 32#32
  let c0_i32_51 : BitVec 32 := 0#32
  let v120 : BitVec 1 := Scalar.cmpi .sgt c32_i32_48 c0_i32_51
  let v121 : BitVec 32 := Scalar.extui v120
  let c0_i32_52 : BitVec 32 := 0#32
  let v122 : BitVec 1 := Scalar.cmpi .slt c32_i32_48 c0_i32_52
  let v123 : BitVec 32 := Scalar.extui v122
  let v124 : BitVec 32 := Scalar.subi v121 v123
  let v125 : BitVec 1 := Scalar.cmpi .ne v119 v124
  let v126 : BitVec 32 := Scalar.remsi v113 c32_i32_48
  let c0_i32_53 : BitVec 32 := 0#32
  let v127 : BitVec 1 := Scalar.cmpi .ne v126 c0_i32_53
  let v128 : BitVec 1 := Scalar.andi v125 v127
  let v114 : BitVec 32 := Scalar.divsi v113 c32_i32_48
  let c1_i32_54 : BitVec 32 := 1#32
  let v129 : BitVec 32 := Scalar.subi v114 c1_i32_54
  let v130 : BitVec 32 := Scalar.select v128 v129 v114
  let c2_i32_73 : BitVec 32 := 2#32
  let c6400_i32_23 : BitVec 32 := 6400#32
  let c0_i32_22 : BitVec 32 := 0#32
  let v43 : BitVec 32 := Scalar.subi v42 v23
  let v44 : BitVec 32 := Scalar.maxsi c0_i32_22 v43
  let v45 : BitVec 32 := Scalar.minsi c6400_i32_23 v44
  let c0_i32_56 : BitVec 32 := 0#32
  let v132 : BitVec 1 := Scalar.cmpi .sgt v45 c0_i32_56
  let v133 : BitVec 32 := Scalar.extui v132
  let c0_i32_57 : BitVec 32 := 0#32
  let v134 : BitVec 1 := Scalar.cmpi .slt v45 c0_i32_57
  let v135 : BitVec 32 := Scalar.extui v134
  let v136 : BitVec 32 := Scalar.subi v133 v135
  let c32_i32_55 : BitVec 32 := 32#32
  let c0_i32_58 : BitVec 32 := 0#32
  let v137 : BitVec 1 := Scalar.cmpi .sgt c32_i32_55 c0_i32_58
  let v138 : BitVec 32 := Scalar.extui v137
  let c0_i32_59 : BitVec 32 := 0#32
  let v139 : BitVec 1 := Scalar.cmpi .slt c32_i32_55 c0_i32_59
  let v140 : BitVec 32 := Scalar.extui v139
  let v141 : BitVec 32 := Scalar.subi v138 v140
  let v142 : BitVec 1 := Scalar.cmpi .ne v136 v141
  let v143 : BitVec 32 := Scalar.remsi v45 c32_i32_55
  let c0_i32_60 : BitVec 32 := 0#32
  let v144 : BitVec 1 := Scalar.cmpi .ne v143 c0_i32_60
  let v145 : BitVec 1 := Scalar.andi v142 v144
  let v131 : BitVec 32 := Scalar.divsi v45 c32_i32_55
  let c1_i32_61 : BitVec 32 := 1#32
  let v146 : BitVec 32 := Scalar.subi v131 c1_i32_61
  let v147 : BitVec 32 := Scalar.select v145 v146 v131
  let v148 : BitVec 32 := Scalar.subi v147 v130
  let c0_i32_62 : BitVec 32 := 0#32
  let v149 : BitVec 32 := Scalar.maxsi v148 c0_i32_62
  let c0_i32_63 : BitVec 32 := 0#32
  let v151 : BitVec 1 := Scalar.cmpi .sgt v149 c0_i32_63
  let v152 : BitVec 32 := Scalar.extui v151
  let c0_i32_64 : BitVec 32 := 0#32
  let v153 : BitVec 1 := Scalar.cmpi .slt v149 c0_i32_64
  let v154 : BitVec 32 := Scalar.extui v153
  let v155 : BitVec 32 := Scalar.subi v152 v154
  let c2_i32 : BitVec 32 := 2#32
  let c0_i32_65 : BitVec 32 := 0#32
  let v156 : BitVec 1 := Scalar.cmpi .sgt c2_i32 c0_i32_65
  let v157 : BitVec 32 := Scalar.extui v156
  let c0_i32_66 : BitVec 32 := 0#32
  let v158 : BitVec 1 := Scalar.cmpi .slt c2_i32 c0_i32_66
  let v159 : BitVec 32 := Scalar.extui v158
  let v160 : BitVec 32 := Scalar.subi v157 v159
  let v161 : BitVec 1 := Scalar.cmpi .ne v155 v160
  let v162 : BitVec 32 := Scalar.remsi v149 c2_i32
  let c0_i32_67 : BitVec 32 := 0#32
  let v163 : BitVec 1 := Scalar.cmpi .ne v162 c0_i32_67
  let v164 : BitVec 1 := Scalar.andi v161 v163
  let v150 : BitVec 32 := Scalar.divsi v149 c2_i32
  let c1_i32_68 : BitVec 32 := 1#32
  let v165 : BitVec 32 := Scalar.subi v150 c1_i32_68
  let v166 : BitVec 32 := Scalar.select v164 v165 v150
  let v174 : BitVec 32 := Scalar.muli c2_i32_73 v166
  let v175 : BitVec 32 := Scalar.addi v130 v174
  let c1_i32_75 : BitVec 32 := 1#32
  let arg12 : BitVec 32 := Scf.iv v175 c1_i32_75 k0_t4
  let v192 : BitVec 32 := Scalar.muli c32_i32_80 arg12
  let v193 : Index := Scalar.indexCast v192
  let c0_81 : Index := 0#32
  ![v193.toNat, 0]
@[reducible] def k0_t5_loop (i : grid0.Coords) (v36 : BitVec 32) (v42 : BitVec 32) : Scf.Loop 32 :=
  let c6400_i32_20 : BitVec 32 := 6400#32
  let c0_i32_19 : BitVec 32 := 0#32
  let arg0 : BitVec 32 := BitVec.ofNat 32 (i 0).val
  let c6400_i32 : BitVec 32 := 6400#32
  let v23 : BitVec 32 := Scalar.muli arg0 c6400_i32
  let v37 : BitVec 32 := Scalar.subi v36 v23
  let v38 : BitVec 32 := Scalar.maxsi c0_i32_19 v37
  let v39 : BitVec 32 := Scalar.minsi c6400_i32_20 v38
  let c32_i32_46 : BitVec 32 := 32#32
  let v112 : BitVec 32 := Scalar.addi v39 c32_i32_46
  let c1_i32_47 : BitVec 32 := 1#32
  let v113 : BitVec 32 := Scalar.subi v112 c1_i32_47
  let c0_i32_49 : BitVec 32 := 0#32
  let v115 : BitVec 1 := Scalar.cmpi .sgt v113 c0_i32_49
  let v116 : BitVec 32 := Scalar.extui v115
  let c0_i32_50 : BitVec 32 := 0#32
  let v117 : BitVec 1 := Scalar.cmpi .slt v113 c0_i32_50
  let v118 : BitVec 32 := Scalar.extui v117
  let v119 : BitVec 32 := Scalar.subi v116 v118
  let c32_i32_48 : BitVec 32 := 32#32
  let c0_i32_51 : BitVec 32 := 0#32
  let v120 : BitVec 1 := Scalar.cmpi .sgt c32_i32_48 c0_i32_51
  let v121 : BitVec 32 := Scalar.extui v120
  let c0_i32_52 : BitVec 32 := 0#32
  let v122 : BitVec 1 := Scalar.cmpi .slt c32_i32_48 c0_i32_52
  let v123 : BitVec 32 := Scalar.extui v122
  let v124 : BitVec 32 := Scalar.subi v121 v123
  let v125 : BitVec 1 := Scalar.cmpi .ne v119 v124
  let v126 : BitVec 32 := Scalar.remsi v113 c32_i32_48
  let c0_i32_53 : BitVec 32 := 0#32
  let v127 : BitVec 1 := Scalar.cmpi .ne v126 c0_i32_53
  let v128 : BitVec 1 := Scalar.andi v125 v127
  let v114 : BitVec 32 := Scalar.divsi v113 c32_i32_48
  let c1_i32_54 : BitVec 32 := 1#32
  let v129 : BitVec 32 := Scalar.subi v114 c1_i32_54
  let v130 : BitVec 32 := Scalar.select v128 v129 v114
  let c2_i32_73 : BitVec 32 := 2#32
  let c6400_i32_23 : BitVec 32 := 6400#32
  let c0_i32_22 : BitVec 32 := 0#32
  let v43 : BitVec 32 := Scalar.subi v42 v23
  let v44 : BitVec 32 := Scalar.maxsi c0_i32_22 v43
  let v45 : BitVec 32 := Scalar.minsi c6400_i32_23 v44
  let c0_i32_56 : BitVec 32 := 0#32
  let v132 : BitVec 1 := Scalar.cmpi .sgt v45 c0_i32_56
  let v133 : BitVec 32 := Scalar.extui v132
  let c0_i32_57 : BitVec 32 := 0#32
  let v134 : BitVec 1 := Scalar.cmpi .slt v45 c0_i32_57
  let v135 : BitVec 32 := Scalar.extui v134
  let v136 : BitVec 32 := Scalar.subi v133 v135
  let c32_i32_55 : BitVec 32 := 32#32
  let c0_i32_58 : BitVec 32 := 0#32
  let v137 : BitVec 1 := Scalar.cmpi .sgt c32_i32_55 c0_i32_58
  let v138 : BitVec 32 := Scalar.extui v137
  let c0_i32_59 : BitVec 32 := 0#32
  let v139 : BitVec 1 := Scalar.cmpi .slt c32_i32_55 c0_i32_59
  let v140 : BitVec 32 := Scalar.extui v139
  let v141 : BitVec 32 := Scalar.subi v138 v140
  let v142 : BitVec 1 := Scalar.cmpi .ne v136 v141
  let v143 : BitVec 32 := Scalar.remsi v45 c32_i32_55
  let c0_i32_60 : BitVec 32 := 0#32
  let v144 : BitVec 1 := Scalar.cmpi .ne v143 c0_i32_60
  let v145 : BitVec 1 := Scalar.andi v142 v144
  let v131 : BitVec 32 := Scalar.divsi v45 c32_i32_55
  let c1_i32_61 : BitVec 32 := 1#32
  let v146 : BitVec 32 := Scalar.subi v131 c1_i32_61
  let v147 : BitVec 32 := Scalar.select v145 v146 v131
  let v148 : BitVec 32 := Scalar.subi v147 v130
  let c0_i32_62 : BitVec 32 := 0#32
  let v149 : BitVec 32 := Scalar.maxsi v148 c0_i32_62
  let c0_i32_63 : BitVec 32 := 0#32
  let v151 : BitVec 1 := Scalar.cmpi .sgt v149 c0_i32_63
  let v152 : BitVec 32 := Scalar.extui v151
  let c0_i32_64 : BitVec 32 := 0#32
  let v153 : BitVec 1 := Scalar.cmpi .slt v149 c0_i32_64
  let v154 : BitVec 32 := Scalar.extui v153
  let v155 : BitVec 32 := Scalar.subi v152 v154
  let c2_i32 : BitVec 32 := 2#32
  let c0_i32_65 : BitVec 32 := 0#32
  let v156 : BitVec 1 := Scalar.cmpi .sgt c2_i32 c0_i32_65
  let v157 : BitVec 32 := Scalar.extui v156
  let c0_i32_66 : BitVec 32 := 0#32
  let v158 : BitVec 1 := Scalar.cmpi .slt c2_i32 c0_i32_66
  let v159 : BitVec 32 := Scalar.extui v158
  let v160 : BitVec 32 := Scalar.subi v157 v159
  let v161 : BitVec 1 := Scalar.cmpi .ne v155 v160
  let v162 : BitVec 32 := Scalar.remsi v149 c2_i32
  let c0_i32_67 : BitVec 32 := 0#32
  let v163 : BitVec 1 := Scalar.cmpi .ne v162 c0_i32_67
  let v164 : BitVec 1 := Scalar.andi v161 v163
  let v150 : BitVec 32 := Scalar.divsi v149 c2_i32
  let c1_i32_68 : BitVec 32 := 1#32
  let v165 : BitVec 32 := Scalar.subi v150 c1_i32_68
  let v166 : BitVec 32 := Scalar.select v164 v165 v150
  let v174 : BitVec 32 := Scalar.muli c2_i32_73 v166
  let v175 : BitVec 32 := Scalar.addi v130 v174
  let v176 : BitVec 32 := Scalar.subi v147 v175
  let c1_i32_74 : BitVec 32 := 1#32
  let v178 : BitVec 32 := Scalar.divsi v176 c1_i32_74
  let v179 : BitVec 32 := Scalar.muli v178 c1_i32_74
  let v180 : BitVec 32 := Scalar.addi v175 v179
  let v177 : BitVec 32 := Scalar.addi v175 v176
  let c1_i32_76 : BitVec 32 := 1#32
  ⟨v180, v177, c1_i32_76⟩
def k0_off11 (i : grid0.Coords) (v36 : BitVec 32) (v42 : BitVec 32) (k0_t5 : Fin (k0_t5_loop i v36 v42).trips) : Fin 2 → Nat :=
  let c32_i32_80 : BitVec 32 := 32#32
  let c6400_i32_20 : BitVec 32 := 6400#32
  let c0_i32_19 : BitVec 32 := 0#32
  let arg0 : BitVec 32 := BitVec.ofNat 32 (i 0).val
  let c6400_i32 : BitVec 32 := 6400#32
  let v23 : BitVec 32 := Scalar.muli arg0 c6400_i32
  let v37 : BitVec 32 := Scalar.subi v36 v23
  let v38 : BitVec 32 := Scalar.maxsi c0_i32_19 v37
  let v39 : BitVec 32 := Scalar.minsi c6400_i32_20 v38
  let c32_i32_46 : BitVec 32 := 32#32
  let v112 : BitVec 32 := Scalar.addi v39 c32_i32_46
  let c1_i32_47 : BitVec 32 := 1#32
  let v113 : BitVec 32 := Scalar.subi v112 c1_i32_47
  let c0_i32_49 : BitVec 32 := 0#32
  let v115 : BitVec 1 := Scalar.cmpi .sgt v113 c0_i32_49
  let v116 : BitVec 32 := Scalar.extui v115
  let c0_i32_50 : BitVec 32 := 0#32
  let v117 : BitVec 1 := Scalar.cmpi .slt v113 c0_i32_50
  let v118 : BitVec 32 := Scalar.extui v117
  let v119 : BitVec 32 := Scalar.subi v116 v118
  let c32_i32_48 : BitVec 32 := 32#32
  let c0_i32_51 : BitVec 32 := 0#32
  let v120 : BitVec 1 := Scalar.cmpi .sgt c32_i32_48 c0_i32_51
  let v121 : BitVec 32 := Scalar.extui v120
  let c0_i32_52 : BitVec 32 := 0#32
  let v122 : BitVec 1 := Scalar.cmpi .slt c32_i32_48 c0_i32_52
  let v123 : BitVec 32 := Scalar.extui v122
  let v124 : BitVec 32 := Scalar.subi v121 v123
  let v125 : BitVec 1 := Scalar.cmpi .ne v119 v124
  let v126 : BitVec 32 := Scalar.remsi v113 c32_i32_48
  let c0_i32_53 : BitVec 32 := 0#32
  let v127 : BitVec 1 := Scalar.cmpi .ne v126 c0_i32_53
  let v128 : BitVec 1 := Scalar.andi v125 v127
  let v114 : BitVec 32 := Scalar.divsi v113 c32_i32_48
  let c1_i32_54 : BitVec 32 := 1#32
  let v129 : BitVec 32 := Scalar.subi v114 c1_i32_54
  let v130 : BitVec 32 := Scalar.select v128 v129 v114
  let c2_i32_73 : BitVec 32 := 2#32
  let c6400_i32_23 : BitVec 32 := 6400#32
  let c0_i32_22 : BitVec 32 := 0#32
  let v43 : BitVec 32 := Scalar.subi v42 v23
  let v44 : BitVec 32 := Scalar.maxsi c0_i32_22 v43
  let v45 : BitVec 32 := Scalar.minsi c6400_i32_23 v44
  let c0_i32_56 : BitVec 32 := 0#32
  let v132 : BitVec 1 := Scalar.cmpi .sgt v45 c0_i32_56
  let v133 : BitVec 32 := Scalar.extui v132
  let c0_i32_57 : BitVec 32 := 0#32
  let v134 : BitVec 1 := Scalar.cmpi .slt v45 c0_i32_57
  let v135 : BitVec 32 := Scalar.extui v134
  let v136 : BitVec 32 := Scalar.subi v133 v135
  let c32_i32_55 : BitVec 32 := 32#32
  let c0_i32_58 : BitVec 32 := 0#32
  let v137 : BitVec 1 := Scalar.cmpi .sgt c32_i32_55 c0_i32_58
  let v138 : BitVec 32 := Scalar.extui v137
  let c0_i32_59 : BitVec 32 := 0#32
  let v139 : BitVec 1 := Scalar.cmpi .slt c32_i32_55 c0_i32_59
  let v140 : BitVec 32 := Scalar.extui v139
  let v141 : BitVec 32 := Scalar.subi v138 v140
  let v142 : BitVec 1 := Scalar.cmpi .ne v136 v141
  let v143 : BitVec 32 := Scalar.remsi v45 c32_i32_55
  let c0_i32_60 : BitVec 32 := 0#32
  let v144 : BitVec 1 := Scalar.cmpi .ne v143 c0_i32_60
  let v145 : BitVec 1 := Scalar.andi v142 v144
  let v131 : BitVec 32 := Scalar.divsi v45 c32_i32_55
  let c1_i32_61 : BitVec 32 := 1#32
  let v146 : BitVec 32 := Scalar.subi v131 c1_i32_61
  let v147 : BitVec 32 := Scalar.select v145 v146 v131
  let v148 : BitVec 32 := Scalar.subi v147 v130
  let c0_i32_62 : BitVec 32 := 0#32
  let v149 : BitVec 32 := Scalar.maxsi v148 c0_i32_62
  let c0_i32_63 : BitVec 32 := 0#32
  let v151 : BitVec 1 := Scalar.cmpi .sgt v149 c0_i32_63
  let v152 : BitVec 32 := Scalar.extui v151
  let c0_i32_64 : BitVec 32 := 0#32
  let v153 : BitVec 1 := Scalar.cmpi .slt v149 c0_i32_64
  let v154 : BitVec 32 := Scalar.extui v153
  let v155 : BitVec 32 := Scalar.subi v152 v154
  let c2_i32 : BitVec 32 := 2#32
  let c0_i32_65 : BitVec 32 := 0#32
  let v156 : BitVec 1 := Scalar.cmpi .sgt c2_i32 c0_i32_65
  let v157 : BitVec 32 := Scalar.extui v156
  let c0_i32_66 : BitVec 32 := 0#32
  let v158 : BitVec 1 := Scalar.cmpi .slt c2_i32 c0_i32_66
  let v159 : BitVec 32 := Scalar.extui v158
  let v160 : BitVec 32 := Scalar.subi v157 v159
  let v161 : BitVec 1 := Scalar.cmpi .ne v155 v160
  let v162 : BitVec 32 := Scalar.remsi v149 c2_i32
  let c0_i32_67 : BitVec 32 := 0#32
  let v163 : BitVec 1 := Scalar.cmpi .ne v162 c0_i32_67
  let v164 : BitVec 1 := Scalar.andi v161 v163
  let v150 : BitVec 32 := Scalar.divsi v149 c2_i32
  let c1_i32_68 : BitVec 32 := 1#32
  let v165 : BitVec 32 := Scalar.subi v150 c1_i32_68
  let v166 : BitVec 32 := Scalar.select v164 v165 v150
  let v174 : BitVec 32 := Scalar.muli c2_i32_73 v166
  let v175 : BitVec 32 := Scalar.addi v130 v174
  let v176 : BitVec 32 := Scalar.subi v147 v175
  let c1_i32_74 : BitVec 32 := 1#32
  let v178 : BitVec 32 := Scalar.divsi v176 c1_i32_74
  let v179 : BitVec 32 := Scalar.muli v178 c1_i32_74
  let v180 : BitVec 32 := Scalar.addi v175 v179
  let c1_i32_76 : BitVec 32 := 1#32
  let arg12 : BitVec 32 := Scf.iv v180 c1_i32_76 k0_t5
  let v192 : BitVec 32 := Scalar.muli c32_i32_80 arg12
  let v193 : Index := Scalar.indexCast v192
  let c0_81 : Index := 0#32
  ![v193.toNat, 0]

def k0_chk3 (i : grid0.Coords) (v36 : BitVec 32) (v42 : BitVec 32) : Prop :=
  (∀ a, (k0_off5 i v42) a + S32x128.size a ≤ S6400x128.size a) ∧
  ((k0_t2_loop i v36 v42).OK) ∧
  (∀ k0_t2 : Fin (k0_t2_loop i v36 v42).trips, ∀ a, (k0_off6 i v36 v42 k0_t2) a + S32x128.size a ≤ S6400x128.size a) ∧
  (∀ k0_t2 : Fin (k0_t2_loop i v36 v42).trips, ∀ a, (k0_off7 i v36 v42 k0_t2) a + S32x128.size a ≤ S6400x128.size a) ∧
  ((k0_t3_loop i v36 v42).OK) ∧
  (∀ k0_t3 : Fin (k0_t3_loop i v36 v42).trips, ∀ a, (k0_off8 i v36 v42 k0_t3) a + S32x128.size a ≤ S6400x128.size a) ∧
  (∀ k0_t3 : Fin (k0_t3_loop i v36 v42).trips, ∀ a, (k0_off9 i v36 v42 k0_t3) a + S32x128.size a ≤ S6400x128.size a) ∧
  ((k0_t4_loop i v36 v42).OK) ∧
  (∀ k0_t4 : Fin (k0_t4_loop i v36 v42).trips, ∀ a, (k0_off10 i v36 v42 k0_t4) a + S32x128.size a ≤ S6400x128.size a) ∧
  ((k0_t5_loop i v36 v42).OK) ∧
  (∀ k0_t5 : Fin (k0_t5_loop i v36 v42).trips, ∀ a, (k0_off11 i v36 v42 k0_t5) a + S32x128.size a ≤ S6400x128.size a)
theorem k0_off5_inb : ∀ (i : grid0.Coords) (v36 : BitVec 32) (v42 : BitVec 32) (k0_hw3 : k0_chk3 i v36 v42), ∀ a, (k0_off5 i v42) a + S32x128.size a ≤ S6400x128.size a := fun i v36 v42 k0_hw3 => k0_hw3.1
theorem k0_t2_ok : ∀ (i : grid0.Coords) (v36 : BitVec 32) (v42 : BitVec 32) (k0_hw3 : k0_chk3 i v36 v42), (k0_t2_loop i v36 v42).OK := fun i v36 v42 k0_hw3 => k0_hw3.2.1
theorem k0_off6_inb : ∀ (i : grid0.Coords) (v36 : BitVec 32) (v42 : BitVec 32) (k0_hw3 : k0_chk3 i v36 v42) (k0_t2 : Fin (k0_t2_loop i v36 v42).trips), ∀ a, (k0_off6 i v36 v42 k0_t2) a + S32x128.size a ≤ S6400x128.size a := fun i v36 v42 k0_hw3 k0_t2 => k0_hw3.2.2.1 k0_t2
theorem k0_off7_inb : ∀ (i : grid0.Coords) (v36 : BitVec 32) (v42 : BitVec 32) (k0_hw3 : k0_chk3 i v36 v42) (k0_t2 : Fin (k0_t2_loop i v36 v42).trips), ∀ a, (k0_off7 i v36 v42 k0_t2) a + S32x128.size a ≤ S6400x128.size a := fun i v36 v42 k0_hw3 k0_t2 => k0_hw3.2.2.2.1 k0_t2
theorem k0_t3_ok : ∀ (i : grid0.Coords) (v36 : BitVec 32) (v42 : BitVec 32) (k0_hw3 : k0_chk3 i v36 v42), (k0_t3_loop i v36 v42).OK := fun i v36 v42 k0_hw3 => k0_hw3.2.2.2.2.1
theorem k0_off8_inb : ∀ (i : grid0.Coords) (v36 : BitVec 32) (v42 : BitVec 32) (k0_hw3 : k0_chk3 i v36 v42) (k0_t3 : Fin (k0_t3_loop i v36 v42).trips), ∀ a, (k0_off8 i v36 v42 k0_t3) a + S32x128.size a ≤ S6400x128.size a := fun i v36 v42 k0_hw3 k0_t3 => k0_hw3.2.2.2.2.2.1 k0_t3
theorem k0_off9_inb : ∀ (i : grid0.Coords) (v36 : BitVec 32) (v42 : BitVec 32) (k0_hw3 : k0_chk3 i v36 v42) (k0_t3 : Fin (k0_t3_loop i v36 v42).trips), ∀ a, (k0_off9 i v36 v42 k0_t3) a + S32x128.size a ≤ S6400x128.size a := fun i v36 v42 k0_hw3 k0_t3 => k0_hw3.2.2.2.2.2.2.1 k0_t3
theorem k0_t4_ok : ∀ (i : grid0.Coords) (v36 : BitVec 32) (v42 : BitVec 32) (k0_hw3 : k0_chk3 i v36 v42), (k0_t4_loop i v36 v42).OK := fun i v36 v42 k0_hw3 => k0_hw3.2.2.2.2.2.2.2.1
theorem k0_off10_inb : ∀ (i : grid0.Coords) (v36 : BitVec 32) (v42 : BitVec 32) (k0_hw3 : k0_chk3 i v36 v42) (k0_t4 : Fin (k0_t4_loop i v36 v42).trips), ∀ a, (k0_off10 i v36 v42 k0_t4) a + S32x128.size a ≤ S6400x128.size a := fun i v36 v42 k0_hw3 k0_t4 => k0_hw3.2.2.2.2.2.2.2.2.1 k0_t4
theorem k0_t5_ok : ∀ (i : grid0.Coords) (v36 : BitVec 32) (v42 : BitVec 32) (k0_hw3 : k0_chk3 i v36 v42), (k0_t5_loop i v36 v42).OK := fun i v36 v42 k0_hw3 => k0_hw3.2.2.2.2.2.2.2.2.2.1
theorem k0_off11_inb : ∀ (i : grid0.Coords) (v36 : BitVec 32) (v42 : BitVec 32) (k0_hw3 : k0_chk3 i v36 v42) (k0_t5 : Fin (k0_t5_loop i v36 v42).trips), ∀ a, (k0_off11 i v36 v42 k0_t5) a + S32x128.size a ≤ S6400x128.size a := fun i v36 v42 k0_hw3 k0_t5 => k0_hw3.2.2.2.2.2.2.2.2.2.2 k0_t5

def k0_off12 (v20 : BitVec 32) (v22 : BitVec 32) (k0_t1 : Fin (k0_t1_loop v20 v22).trips) : Fin 2 → Nat :=
  let c1_i32_16 : BitVec 32 := 1#32
  let arg11 : BitVec 32 := Scf.iv v20 c1_i32_16 k0_t1
  let v186 : Index := Scalar.indexCast arg11
  let c0_78 : Index := 0#32
  ![v186.toNat, 0]
@[reducible] def k0_t6_loop (v20 : BitVec 32) (v22 : BitVec 32) : Scf.Loop 32 :=
  let c1_i32 : BitVec 32 := 1#32
  let v26 : BitVec 32 := Scalar.addi v22 c1_i32
  let v27 : BitVec 32 := Scalar.subi v26 v20
  let c1_i32_15 : BitVec 32 := 1#32
  let v29 : BitVec 32 := Scalar.divsi v27 c1_i32_15
  let v30 : BitVec 32 := Scalar.muli v29 c1_i32_15
  let v31 : BitVec 32 := Scalar.addi v20 v30
  let v28 : BitVec 32 := Scalar.addi v20 v27
  let c1_i32_17 : BitVec 32 := 1#32
  ⟨v31, v28, c1_i32_17⟩
def k0_off13 (v20 : BitVec 32) (v22 : BitVec 32) (k0_t6 : Fin (k0_t6_loop v20 v22).trips) : Fin 1 → Nat :=
  let c1_i32 : BitVec 32 := 1#32
  let v26 : BitVec 32 := Scalar.addi v22 c1_i32
  let v27 : BitVec 32 := Scalar.subi v26 v20
  let c1_i32_15 : BitVec 32 := 1#32
  let v29 : BitVec 32 := Scalar.divsi v27 c1_i32_15
  let v30 : BitVec 32 := Scalar.muli v29 c1_i32_15
  let v31 : BitVec 32 := Scalar.addi v20 v30
  let c1_i32_17 : BitVec 32 := 1#32
  let arg11 : BitVec 32 := Scf.iv v31 c1_i32_17 k0_t6
  let v35 : Index := Scalar.indexCast arg11
  ![v35.toNat]
def k0_off14 (v20 : BitVec 32) (v22 : BitVec 32) (k0_t6 : Fin (k0_t6_loop v20 v22).trips) : Fin 1 → Nat :=
  let c1_i32 : BitVec 32 := 1#32
  let v26 : BitVec 32 := Scalar.addi v22 c1_i32
  let v27 : BitVec 32 := Scalar.subi v26 v20
  let c1_i32_15 : BitVec 32 := 1#32
  let v29 : BitVec 32 := Scalar.divsi v27 c1_i32_15
  let v30 : BitVec 32 := Scalar.muli v29 c1_i32_15
  let v31 : BitVec 32 := Scalar.addi v20 v30
  let c1_i32_17 : BitVec 32 := 1#32
  let arg11 : BitVec 32 := Scf.iv v31 c1_i32_17 k0_t6
  let c1_i32_21 : BitVec 32 := 1#32
  let v40 : BitVec 32 := Scalar.addi arg11 c1_i32_21
  let v41 : Index := Scalar.indexCast v40
  ![v41.toNat]
def k0_off15 (i : grid0.Coords) (v36 : BitVec 32) : Fin 2 → Nat :=
  let c32_i32_42 : BitVec 32 := 32#32
  let c6400_i32_20 : BitVec 32 := 6400#32
  let c0_i32_19 : BitVec 32 := 0#32
  let arg0 : BitVec 32 := BitVec.ofNat 32 (i 0).val
  let c6400_i32 : BitVec 32 := 6400#32
  let v23 : BitVec 32 := Scalar.muli arg0 c6400_i32
  let v37 : BitVec 32 := Scalar.subi v36 v23
  let v38 : BitVec 32 := Scalar.maxsi c0_i32_19 v37
  let v39 : BitVec 32 := Scalar.minsi c6400_i32_20 v38
  let c0_i32_24 : BitVec 32 := 0#32
  let v47 : BitVec 1 := Scalar.cmpi .sgt v39 c0_i32_24
  let v48 : BitVec 32 := Scalar.extui v47
  let c0_i32_25 : BitVec 32 := 0#32
  let v49 : BitVec 1 := Scalar.cmpi .slt v39 c0_i32_25
  let v50 : BitVec 32 := Scalar.extui v49
  let v51 : BitVec 32 := Scalar.subi v48 v50
  let c32_i32 : BitVec 32 := 32#32
  let c0_i32_26 : BitVec 32 := 0#32
  let v52 : BitVec 1 := Scalar.cmpi .sgt c32_i32 c0_i32_26
  let v53 : BitVec 32 := Scalar.extui v52
  let c0_i32_27 : BitVec 32 := 0#32
  let v54 : BitVec 1 := Scalar.cmpi .slt c32_i32 c0_i32_27
  let v55 : BitVec 32 := Scalar.extui v54
  let v56 : BitVec 32 := Scalar.subi v53 v55
  let v57 : BitVec 1 := Scalar.cmpi .ne v51 v56
  let v58 : BitVec 32 := Scalar.remsi v39 c32_i32
  let c0_i32_28 : BitVec 32 := 0#32
  let v59 : BitVec 1 := Scalar.cmpi .ne v58 c0_i32_28
  let v60 : BitVec 1 := Scalar.andi v57 v59
  let v46 : BitVec 32 := Scalar.divsi v39 c32_i32
  let c1_i32_29 : BitVec 32 := 1#32
  let v61 : BitVec 32 := Scalar.subi v46 c1_i32_29
  let v62 : BitVec 32 := Scalar.select v60 v61 v46
  let c199_i32 : BitVec 32 := 199#32
  let v63 : BitVec 32 := Scalar.minsi v62 c199_i32
  let v95 : BitVec 32 := Scalar.muli c32_i32_42 v63
  let v96 : Index := Scalar.indexCast v95
  let c0_43 : Index := 0#32
  ![v96.toNat, 0]

def k0_chk4 (i : grid0.Coords) (v36 : BitVec 32) : Prop :=
  (∀ a, (k0_off15 i v36) a + S32x128.size a ≤ S6400x128.size a)
theorem k0_off15_inb : ∀ (i : grid0.Coords) (v36 : BitVec 32) (k0_hw4 : k0_chk4 i v36), ∀ a, (k0_off15 i v36) a + S32x128.size a ≤ S6400x128.size a := fun i v36 k0_hw4 => k0_hw4

def k0_off16 (i : grid0.Coords) (v42 : BitVec 32) : Fin 2 → Nat :=
  let c32_i32_44 : BitVec 32 := 32#32
  let c6400_i32_23 : BitVec 32 := 6400#32
  let c0_i32_22 : BitVec 32 := 0#32
  let arg0 : BitVec 32 := BitVec.ofNat 32 (i 0).val
  let c6400_i32 : BitVec 32 := 6400#32
  let v23 : BitVec 32 := Scalar.muli arg0 c6400_i32
  let v43 : BitVec 32 := Scalar.subi v42 v23
  let v44 : BitVec 32 := Scalar.maxsi c0_i32_22 v43
  let v45 : BitVec 32 := Scalar.minsi c6400_i32_23 v44
  let c1_i32_30 : BitVec 32 := 1#32
  let v64 : BitVec 32 := Scalar.subi v45 c1_i32_30
  let c0_i32_31 : BitVec 32 := 0#32
  let v65 : BitVec 32 := Scalar.maxsi v64 c0_i32_31
  let c0_i32_33 : BitVec 32 := 0#32
  let v67 : BitVec 1 := Scalar.cmpi .sgt v65 c0_i32_33
  let v68 : BitVec 32 := Scalar.extui v67
  let c0_i32_34 : BitVec 32 := 0#32
  let v69 : BitVec 1 := Scalar.cmpi .slt v65 c0_i32_34
  let v70 : BitVec 32 := Scalar.extui v69
  let v71 : BitVec 32 := Scalar.subi v68 v70
  let c32_i32_32 : BitVec 32 := 32#32
  let c0_i32_35 : BitVec 32 := 0#32
  let v72 : BitVec 1 := Scalar.cmpi .sgt c32_i32_32 c0_i32_35
  let v73 : BitVec 32 := Scalar.extui v72
  let c0_i32_36 : BitVec 32 := 0#32
  let v74 : BitVec 1 := Scalar.cmpi .slt c32_i32_32 c0_i32_36
  let v75 : BitVec 32 := Scalar.extui v74
  let v76 : BitVec 32 := Scalar.subi v73 v75
  let v77 : BitVec 1 := Scalar.cmpi .ne v71 v76
  let v78 : BitVec 32 := Scalar.remsi v65 c32_i32_32
  let c0_i32_37 : BitVec 32 := 0#32
  let v79 : BitVec 1 := Scalar.cmpi .ne v78 c0_i32_37
  let v80 : BitVec 1 := Scalar.andi v77 v79
  let v66 : BitVec 32 := Scalar.divsi v65 c32_i32_32
  let c1_i32_38 : BitVec 32 := 1#32
  let v81 : BitVec 32 := Scalar.subi v66 c1_i32_38
  let v82 : BitVec 32 := Scalar.select v80 v81 v66
  let c199_i32_39 : BitVec 32 := 199#32
  let v83 : BitVec 32 := Scalar.minsi v82 c199_i32_39
  let v106 : BitVec 32 := Scalar.muli c32_i32_44 v83
  let v107 : Index := Scalar.indexCast v106
  let c0_45 : Index := 0#32
  ![v107.toNat, 0]

@[reducible] def k0_t7_loop (i : grid0.Coords) (v36 : BitVec 32) (v42 : BitVec 32) : Scf.Loop 32 :=
  let c0_i32_69 : BitVec 32 := 0#32
  let c6400_i32_23 : BitVec 32 := 6400#32
  let c0_i32_22 : BitVec 32 := 0#32
  let arg0 : BitVec 32 := BitVec.ofNat 32 (i 0).val
  let c6400_i32 : BitVec 32 := 6400#32
  let v23 : BitVec 32 := Scalar.muli arg0 c6400_i32
  let v43 : BitVec 32 := Scalar.subi v42 v23
  let v44 : BitVec 32 := Scalar.maxsi c0_i32_22 v43
  let v45 : BitVec 32 := Scalar.minsi c6400_i32_23 v44
  let c0_i32_56 : BitVec 32 := 0#32
  let v132 : BitVec 1 := Scalar.cmpi .sgt v45 c0_i32_56
  let v133 : BitVec 32 := Scalar.extui v132
  let c0_i32_57 : BitVec 32 := 0#32
  let v134 : BitVec 1 := Scalar.cmpi .slt v45 c0_i32_57
  let v135 : BitVec 32 := Scalar.extui v134
  let v136 : BitVec 32 := Scalar.subi v133 v135
  let c32_i32_55 : BitVec 32 := 32#32
  let c0_i32_58 : BitVec 32 := 0#32
  let v137 : BitVec 1 := Scalar.cmpi .sgt c32_i32_55 c0_i32_58
  let v138 : BitVec 32 := Scalar.extui v137
  let c0_i32_59 : BitVec 32 := 0#32
  let v139 : BitVec 1 := Scalar.cmpi .slt c32_i32_55 c0_i32_59
  let v140 : BitVec 32 := Scalar.extui v139
  let v141 : BitVec 32 := Scalar.subi v138 v140
  let v142 : BitVec 1 := Scalar.cmpi .ne v136 v141
  let v143 : BitVec 32 := Scalar.remsi v45 c32_i32_55
  let c0_i32_60 : BitVec 32 := 0#32
  let v144 : BitVec 1 := Scalar.cmpi .ne v143 c0_i32_60
  let v145 : BitVec 1 := Scalar.andi v142 v144
  let v131 : BitVec 32 := Scalar.divsi v45 c32_i32_55
  let c1_i32_61 : BitVec 32 := 1#32
  let v146 : BitVec 32 := Scalar.subi v131 c1_i32_61
  let v147 : BitVec 32 := Scalar.select v145 v146 v131
  let c6400_i32_20 : BitVec 32 := 6400#32
  let c0_i32_19 : BitVec 32 := 0#32
  let v37 : BitVec 32 := Scalar.subi v36 v23
  let v38 : BitVec 32 := Scalar.maxsi c0_i32_19 v37
  let v39 : BitVec 32 := Scalar.minsi c6400_i32_20 v38
  let c32_i32_46 : BitVec 32 := 32#32
  let v112 : BitVec 32 := Scalar.addi v39 c32_i32_46
  let c1_i32_47 : BitVec 32 := 1#32
  let v113 : BitVec 32 := Scalar.subi v112 c1_i32_47
  let c0_i32_49 : BitVec 32 := 0#32
  let v115 : BitVec 1 := Scalar.cmpi .sgt v113 c0_i32_49
  let v116 : BitVec 32 := Scalar.extui v115
  let c0_i32_50 : BitVec 32 := 0#32
  let v117 : BitVec 1 := Scalar.cmpi .slt v113 c0_i32_50
  let v118 : BitVec 32 := Scalar.extui v117
  let v119 : BitVec 32 := Scalar.subi v116 v118
  let c32_i32_48 : BitVec 32 := 32#32
  let c0_i32_51 : BitVec 32 := 0#32
  let v120 : BitVec 1 := Scalar.cmpi .sgt c32_i32_48 c0_i32_51
  let v121 : BitVec 32 := Scalar.extui v120
  let c0_i32_52 : BitVec 32 := 0#32
  let v122 : BitVec 1 := Scalar.cmpi .slt c32_i32_48 c0_i32_52
  let v123 : BitVec 32 := Scalar.extui v122
  let v124 : BitVec 32 := Scalar.subi v121 v123
  let v125 : BitVec 1 := Scalar.cmpi .ne v119 v124
  let v126 : BitVec 32 := Scalar.remsi v113 c32_i32_48
  let c0_i32_53 : BitVec 32 := 0#32
  let v127 : BitVec 1 := Scalar.cmpi .ne v126 c0_i32_53
  let v128 : BitVec 1 := Scalar.andi v125 v127
  let v114 : BitVec 32 := Scalar.divsi v113 c32_i32_48
  let c1_i32_54 : BitVec 32 := 1#32
  let v129 : BitVec 32 := Scalar.subi v114 c1_i32_54
  let v130 : BitVec 32 := Scalar.select v128 v129 v114
  let v148 : BitVec 32 := Scalar.subi v147 v130
  let c0_i32_62 : BitVec 32 := 0#32
  let v149 : BitVec 32 := Scalar.maxsi v148 c0_i32_62
  let c0_i32_63 : BitVec 32 := 0#32
  let v151 : BitVec 1 := Scalar.cmpi .sgt v149 c0_i32_63
  let v152 : BitVec 32 := Scalar.extui v151
  let c0_i32_64 : BitVec 32 := 0#32
  let v153 : BitVec 1 := Scalar.cmpi .slt v149 c0_i32_64
  let v154 : BitVec 32 := Scalar.extui v153
  let v155 : BitVec 32 := Scalar.subi v152 v154
  let c2_i32 : BitVec 32 := 2#32
  let c0_i32_65 : BitVec 32 := 0#32
  let v156 : BitVec 1 := Scalar.cmpi .sgt c2_i32 c0_i32_65
  let v157 : BitVec 32 := Scalar.extui v156
  let c0_i32_66 : BitVec 32 := 0#32
  let v158 : BitVec 1 := Scalar.cmpi .slt c2_i32 c0_i32_66
  let v159 : BitVec 32 := Scalar.extui v158
  let v160 : BitVec 32 := Scalar.subi v157 v159
  let v161 : BitVec 1 := Scalar.cmpi .ne v155 v160
  let v162 : BitVec 32 := Scalar.remsi v149 c2_i32
  let c0_i32_67 : BitVec 32 := 0#32
  let v163 : BitVec 1 := Scalar.cmpi .ne v162 c0_i32_67
  let v164 : BitVec 1 := Scalar.andi v161 v163
  let v150 : BitVec 32 := Scalar.divsi v149 c2_i32
  let c1_i32_68 : BitVec 32 := 1#32
  let v165 : BitVec 32 := Scalar.subi v150 c1_i32_68
  let v166 : BitVec 32 := Scalar.select v164 v165 v150
  let v167 : BitVec 32 := Scalar.subi v166 c0_i32_69
  let c1_i32_70 : BitVec 32 := 1#32
  let v169 : BitVec 32 := Scalar.divsi v167 c1_i32_70
  let v170 : BitVec 32 := Scalar.muli v169 c1_i32_70
  let v171 : BitVec 32 := Scalar.addi c0_i32_69 v170
  let c1_i32_71 : BitVec 32 := 1#32
  ⟨c0_i32_69, v171, c1_i32_71⟩
def k0_off17 (i : grid0.Coords) (v36 : BitVec 32) (v42 : BitVec 32) (k0_t7 : Fin (k0_t7_loop i v36 v42).trips) : Fin 2 → Nat :=
  let c32_i32_81 : BitVec 32 := 32#32
  let c6400_i32_20 : BitVec 32 := 6400#32
  let c0_i32_19 : BitVec 32 := 0#32
  let arg0 : BitVec 32 := BitVec.ofNat 32 (i 0).val
  let c6400_i32 : BitVec 32 := 6400#32
  let v23 : BitVec 32 := Scalar.muli arg0 c6400_i32
  let v37 : BitVec 32 := Scalar.subi v36 v23
  let v38 : BitVec 32 := Scalar.maxsi c0_i32_19 v37
  let v39 : BitVec 32 := Scalar.minsi c6400_i32_20 v38
  let c32_i32_46 : BitVec 32 := 32#32
  let v112 : BitVec 32 := Scalar.addi v39 c32_i32_46
  let c1_i32_47 : BitVec 32 := 1#32
  let v113 : BitVec 32 := Scalar.subi v112 c1_i32_47
  let c0_i32_49 : BitVec 32 := 0#32
  let v115 : BitVec 1 := Scalar.cmpi .sgt v113 c0_i32_49
  let v116 : BitVec 32 := Scalar.extui v115
  let c0_i32_50 : BitVec 32 := 0#32
  let v117 : BitVec 1 := Scalar.cmpi .slt v113 c0_i32_50
  let v118 : BitVec 32 := Scalar.extui v117
  let v119 : BitVec 32 := Scalar.subi v116 v118
  let c32_i32_48 : BitVec 32 := 32#32
  let c0_i32_51 : BitVec 32 := 0#32
  let v120 : BitVec 1 := Scalar.cmpi .sgt c32_i32_48 c0_i32_51
  let v121 : BitVec 32 := Scalar.extui v120
  let c0_i32_52 : BitVec 32 := 0#32
  let v122 : BitVec 1 := Scalar.cmpi .slt c32_i32_48 c0_i32_52
  let v123 : BitVec 32 := Scalar.extui v122
  let v124 : BitVec 32 := Scalar.subi v121 v123
  let v125 : BitVec 1 := Scalar.cmpi .ne v119 v124
  let v126 : BitVec 32 := Scalar.remsi v113 c32_i32_48
  let c0_i32_53 : BitVec 32 := 0#32
  let v127 : BitVec 1 := Scalar.cmpi .ne v126 c0_i32_53
  let v128 : BitVec 1 := Scalar.andi v125 v127
  let v114 : BitVec 32 := Scalar.divsi v113 c32_i32_48
  let c1_i32_54 : BitVec 32 := 1#32
  let v129 : BitVec 32 := Scalar.subi v114 c1_i32_54
  let v130 : BitVec 32 := Scalar.select v128 v129 v114
  let c2_i32_80 : BitVec 32 := 2#32
  let c0_i32_69 : BitVec 32 := 0#32
  let c1_i32_71 : BitVec 32 := 1#32
  let arg12 : BitVec 32 := Scf.iv c0_i32_69 c1_i32_71 k0_t7
  let v192 : BitVec 32 := Scalar.muli c2_i32_80 arg12
  let v193 : BitVec 32 := Scalar.addi v130 v192
  let v194 : BitVec 32 := Scalar.muli c32_i32_81 v193
  let v195 : Index := Scalar.indexCast v194
  let c0_82 : Index := 0#32
  ![v195.toNat, 0]
def k0_off18 (i : grid0.Coords) (v36 : BitVec 32) (v42 : BitVec 32) (k0_t7 : Fin (k0_t7_loop i v36 v42).trips) : Fin 2 → Nat :=
  let c32_i32_84 : BitVec 32 := 32#32
  let c6400_i32_20 : BitVec 32 := 6400#32
  let c0_i32_19 : BitVec 32 := 0#32
  let arg0 : BitVec 32 := BitVec.ofNat 32 (i 0).val
  let c6400_i32 : BitVec 32 := 6400#32
  let v23 : BitVec 32 := Scalar.muli arg0 c6400_i32
  let v37 : BitVec 32 := Scalar.subi v36 v23
  let v38 : BitVec 32 := Scalar.maxsi c0_i32_19 v37
  let v39 : BitVec 32 := Scalar.minsi c6400_i32_20 v38
  let c32_i32_46 : BitVec 32 := 32#32
  let v112 : BitVec 32 := Scalar.addi v39 c32_i32_46
  let c1_i32_47 : BitVec 32 := 1#32
  let v113 : BitVec 32 := Scalar.subi v112 c1_i32_47
  let c0_i32_49 : BitVec 32 := 0#32
  let v115 : BitVec 1 := Scalar.cmpi .sgt v113 c0_i32_49
  let v116 : BitVec 32 := Scalar.extui v115
  let c0_i32_50 : BitVec 32 := 0#32
  let v117 : BitVec 1 := Scalar.cmpi .slt v113 c0_i32_50
  let v118 : BitVec 32 := Scalar.extui v117
  let v119 : BitVec 32 := Scalar.subi v116 v118
  let c32_i32_48 : BitVec 32 := 32#32
  let c0_i32_51 : BitVec 32 := 0#32
  let v120 : BitVec 1 := Scalar.cmpi .sgt c32_i32_48 c0_i32_51
  let v121 : BitVec 32 := Scalar.extui v120
  let c0_i32_52 : BitVec 32 := 0#32
  let v122 : BitVec 1 := Scalar.cmpi .slt c32_i32_48 c0_i32_52
  let v123 : BitVec 32 := Scalar.extui v122
  let v124 : BitVec 32 := Scalar.subi v121 v123
  let v125 : BitVec 1 := Scalar.cmpi .ne v119 v124
  let v126 : BitVec 32 := Scalar.remsi v113 c32_i32_48
  let c0_i32_53 : BitVec 32 := 0#32
  let v127 : BitVec 1 := Scalar.cmpi .ne v126 c0_i32_53
  let v128 : BitVec 1 := Scalar.andi v125 v127
  let v114 : BitVec 32 := Scalar.divsi v113 c32_i32_48
  let c1_i32_54 : BitVec 32 := 1#32
  let v129 : BitVec 32 := Scalar.subi v114 c1_i32_54
  let v130 : BitVec 32 := Scalar.select v128 v129 v114
  let c2_i32_80 : BitVec 32 := 2#32
  let c0_i32_69 : BitVec 32 := 0#32
  let c1_i32_71 : BitVec 32 := 1#32
  let arg12 : BitVec 32 := Scf.iv c0_i32_69 c1_i32_71 k0_t7
  let v192 : BitVec 32 := Scalar.muli c2_i32_80 arg12
  let v193 : BitVec 32 := Scalar.addi v130 v192
  let c1_i32_83 : BitVec 32 := 1#32
  let v198 : BitVec 32 := Scalar.addi v193 c1_i32_83
  let v199 : BitVec 32 := Scalar.muli c32_i32_84 v198
  let v200 : Index := Scalar.indexCast v199
  let c0_85 : Index := 0#32
  ![v200.toNat, 0]
@[reducible] def k0_t8_loop (i : grid0.Coords) (v36 : BitVec 32) (v42 : BitVec 32) : Scf.Loop 32 :=
  let c0_i32_69 : BitVec 32 := 0#32
  let c6400_i32_23 : BitVec 32 := 6400#32
  let c0_i32_22 : BitVec 32 := 0#32
  let arg0 : BitVec 32 := BitVec.ofNat 32 (i 0).val
  let c6400_i32 : BitVec 32 := 6400#32
  let v23 : BitVec 32 := Scalar.muli arg0 c6400_i32
  let v43 : BitVec 32 := Scalar.subi v42 v23
  let v44 : BitVec 32 := Scalar.maxsi c0_i32_22 v43
  let v45 : BitVec 32 := Scalar.minsi c6400_i32_23 v44
  let c0_i32_56 : BitVec 32 := 0#32
  let v132 : BitVec 1 := Scalar.cmpi .sgt v45 c0_i32_56
  let v133 : BitVec 32 := Scalar.extui v132
  let c0_i32_57 : BitVec 32 := 0#32
  let v134 : BitVec 1 := Scalar.cmpi .slt v45 c0_i32_57
  let v135 : BitVec 32 := Scalar.extui v134
  let v136 : BitVec 32 := Scalar.subi v133 v135
  let c32_i32_55 : BitVec 32 := 32#32
  let c0_i32_58 : BitVec 32 := 0#32
  let v137 : BitVec 1 := Scalar.cmpi .sgt c32_i32_55 c0_i32_58
  let v138 : BitVec 32 := Scalar.extui v137
  let c0_i32_59 : BitVec 32 := 0#32
  let v139 : BitVec 1 := Scalar.cmpi .slt c32_i32_55 c0_i32_59
  let v140 : BitVec 32 := Scalar.extui v139
  let v141 : BitVec 32 := Scalar.subi v138 v140
  let v142 : BitVec 1 := Scalar.cmpi .ne v136 v141
  let v143 : BitVec 32 := Scalar.remsi v45 c32_i32_55
  let c0_i32_60 : BitVec 32 := 0#32
  let v144 : BitVec 1 := Scalar.cmpi .ne v143 c0_i32_60
  let v145 : BitVec 1 := Scalar.andi v142 v144
  let v131 : BitVec 32 := Scalar.divsi v45 c32_i32_55
  let c1_i32_61 : BitVec 32 := 1#32
  let v146 : BitVec 32 := Scalar.subi v131 c1_i32_61
  let v147 : BitVec 32 := Scalar.select v145 v146 v131
  let c6400_i32_20 : BitVec 32 := 6400#32
  let c0_i32_19 : BitVec 32 := 0#32
  let v37 : BitVec 32 := Scalar.subi v36 v23
  let v38 : BitVec 32 := Scalar.maxsi c0_i32_19 v37
  let v39 : BitVec 32 := Scalar.minsi c6400_i32_20 v38
  let c32_i32_46 : BitVec 32 := 32#32
  let v112 : BitVec 32 := Scalar.addi v39 c32_i32_46
  let c1_i32_47 : BitVec 32 := 1#32
  let v113 : BitVec 32 := Scalar.subi v112 c1_i32_47
  let c0_i32_49 : BitVec 32 := 0#32
  let v115 : BitVec 1 := Scalar.cmpi .sgt v113 c0_i32_49
  let v116 : BitVec 32 := Scalar.extui v115
  let c0_i32_50 : BitVec 32 := 0#32
  let v117 : BitVec 1 := Scalar.cmpi .slt v113 c0_i32_50
  let v118 : BitVec 32 := Scalar.extui v117
  let v119 : BitVec 32 := Scalar.subi v116 v118
  let c32_i32_48 : BitVec 32 := 32#32
  let c0_i32_51 : BitVec 32 := 0#32
  let v120 : BitVec 1 := Scalar.cmpi .sgt c32_i32_48 c0_i32_51
  let v121 : BitVec 32 := Scalar.extui v120
  let c0_i32_52 : BitVec 32 := 0#32
  let v122 : BitVec 1 := Scalar.cmpi .slt c32_i32_48 c0_i32_52
  let v123 : BitVec 32 := Scalar.extui v122
  let v124 : BitVec 32 := Scalar.subi v121 v123
  let v125 : BitVec 1 := Scalar.cmpi .ne v119 v124
  let v126 : BitVec 32 := Scalar.remsi v113 c32_i32_48
  let c0_i32_53 : BitVec 32 := 0#32
  let v127 : BitVec 1 := Scalar.cmpi .ne v126 c0_i32_53
  let v128 : BitVec 1 := Scalar.andi v125 v127
  let v114 : BitVec 32 := Scalar.divsi v113 c32_i32_48
  let c1_i32_54 : BitVec 32 := 1#32
  let v129 : BitVec 32 := Scalar.subi v114 c1_i32_54
  let v130 : BitVec 32 := Scalar.select v128 v129 v114
  let v148 : BitVec 32 := Scalar.subi v147 v130
  let c0_i32_62 : BitVec 32 := 0#32
  let v149 : BitVec 32 := Scalar.maxsi v148 c0_i32_62
  let c0_i32_63 : BitVec 32 := 0#32
  let v151 : BitVec 1 := Scalar.cmpi .sgt v149 c0_i32_63
  let v152 : BitVec 32 := Scalar.extui v151
  let c0_i32_64 : BitVec 32 := 0#32
  let v153 : BitVec 1 := Scalar.cmpi .slt v149 c0_i32_64
  let v154 : BitVec 32 := Scalar.extui v153
  let v155 : BitVec 32 := Scalar.subi v152 v154
  let c2_i32 : BitVec 32 := 2#32
  let c0_i32_65 : BitVec 32 := 0#32
  let v156 : BitVec 1 := Scalar.cmpi .sgt c2_i32 c0_i32_65
  let v157 : BitVec 32 := Scalar.extui v156
  let c0_i32_66 : BitVec 32 := 0#32
  let v158 : BitVec 1 := Scalar.cmpi .slt c2_i32 c0_i32_66
  let v159 : BitVec 32 := Scalar.extui v158
  let v160 : BitVec 32 := Scalar.subi v157 v159
  let v161 : BitVec 1 := Scalar.cmpi .ne v155 v160
  let v162 : BitVec 32 := Scalar.remsi v149 c2_i32
  let c0_i32_67 : BitVec 32 := 0#32
  let v163 : BitVec 1 := Scalar.cmpi .ne v162 c0_i32_67
  let v164 : BitVec 1 := Scalar.andi v161 v163
  let v150 : BitVec 32 := Scalar.divsi v149 c2_i32
  let c1_i32_68 : BitVec 32 := 1#32
  let v165 : BitVec 32 := Scalar.subi v150 c1_i32_68
  let v166 : BitVec 32 := Scalar.select v164 v165 v150
  let v167 : BitVec 32 := Scalar.subi v166 c0_i32_69
  let c1_i32_70 : BitVec 32 := 1#32
  let v169 : BitVec 32 := Scalar.divsi v167 c1_i32_70
  let v170 : BitVec 32 := Scalar.muli v169 c1_i32_70
  let v171 : BitVec 32 := Scalar.addi c0_i32_69 v170
  let v168 : BitVec 32 := Scalar.addi c0_i32_69 v167
  let c1_i32_72 : BitVec 32 := 1#32
  ⟨v171, v168, c1_i32_72⟩
def k0_off19 (i : grid0.Coords) (v36 : BitVec 32) (v42 : BitVec 32) (k0_t8 : Fin (k0_t8_loop i v36 v42).trips) : Fin 2 → Nat :=
  let c32_i32_81 : BitVec 32 := 32#32
  let c6400_i32_20 : BitVec 32 := 6400#32
  let c0_i32_19 : BitVec 32 := 0#32
  let arg0 : BitVec 32 := BitVec.ofNat 32 (i 0).val
  let c6400_i32 : BitVec 32 := 6400#32
  let v23 : BitVec 32 := Scalar.muli arg0 c6400_i32
  let v37 : BitVec 32 := Scalar.subi v36 v23
  let v38 : BitVec 32 := Scalar.maxsi c0_i32_19 v37
  let v39 : BitVec 32 := Scalar.minsi c6400_i32_20 v38
  let c32_i32_46 : BitVec 32 := 32#32
  let v112 : BitVec 32 := Scalar.addi v39 c32_i32_46
  let c1_i32_47 : BitVec 32 := 1#32
  let v113 : BitVec 32 := Scalar.subi v112 c1_i32_47
  let c0_i32_49 : BitVec 32 := 0#32
  let v115 : BitVec 1 := Scalar.cmpi .sgt v113 c0_i32_49
  let v116 : BitVec 32 := Scalar.extui v115
  let c0_i32_50 : BitVec 32 := 0#32
  let v117 : BitVec 1 := Scalar.cmpi .slt v113 c0_i32_50
  let v118 : BitVec 32 := Scalar.extui v117
  let v119 : BitVec 32 := Scalar.subi v116 v118
  let c32_i32_48 : BitVec 32 := 32#32
  let c0_i32_51 : BitVec 32 := 0#32
  let v120 : BitVec 1 := Scalar.cmpi .sgt c32_i32_48 c0_i32_51
  let v121 : BitVec 32 := Scalar.extui v120
  let c0_i32_52 : BitVec 32 := 0#32
  let v122 : BitVec 1 := Scalar.cmpi .slt c32_i32_48 c0_i32_52
  let v123 : BitVec 32 := Scalar.extui v122
  let v124 : BitVec 32 := Scalar.subi v121 v123
  let v125 : BitVec 1 := Scalar.cmpi .ne v119 v124
  let v126 : BitVec 32 := Scalar.remsi v113 c32_i32_48
  let c0_i32_53 : BitVec 32 := 0#32
  let v127 : BitVec 1 := Scalar.cmpi .ne v126 c0_i32_53
  let v128 : BitVec 1 := Scalar.andi v125 v127
  let v114 : BitVec 32 := Scalar.divsi v113 c32_i32_48
  let c1_i32_54 : BitVec 32 := 1#32
  let v129 : BitVec 32 := Scalar.subi v114 c1_i32_54
  let v130 : BitVec 32 := Scalar.select v128 v129 v114
  let c2_i32_80 : BitVec 32 := 2#32
  let c0_i32_69 : BitVec 32 := 0#32
  let c6400_i32_23 : BitVec 32 := 6400#32
  let c0_i32_22 : BitVec 32 := 0#32
  let v43 : BitVec 32 := Scalar.subi v42 v23
  let v44 : BitVec 32 := Scalar.maxsi c0_i32_22 v43
  let v45 : BitVec 32 := Scalar.minsi c6400_i32_23 v44
  let c0_i32_56 : BitVec 32 := 0#32
  let v132 : BitVec 1 := Scalar.cmpi .sgt v45 c0_i32_56
  let v133 : BitVec 32 := Scalar.extui v132
  let c0_i32_57 : BitVec 32 := 0#32
  let v134 : BitVec 1 := Scalar.cmpi .slt v45 c0_i32_57
  let v135 : BitVec 32 := Scalar.extui v134
  let v136 : BitVec 32 := Scalar.subi v133 v135
  let c32_i32_55 : BitVec 32 := 32#32
  let c0_i32_58 : BitVec 32 := 0#32
  let v137 : BitVec 1 := Scalar.cmpi .sgt c32_i32_55 c0_i32_58
  let v138 : BitVec 32 := Scalar.extui v137
  let c0_i32_59 : BitVec 32 := 0#32
  let v139 : BitVec 1 := Scalar.cmpi .slt c32_i32_55 c0_i32_59
  let v140 : BitVec 32 := Scalar.extui v139
  let v141 : BitVec 32 := Scalar.subi v138 v140
  let v142 : BitVec 1 := Scalar.cmpi .ne v136 v141
  let v143 : BitVec 32 := Scalar.remsi v45 c32_i32_55
  let c0_i32_60 : BitVec 32 := 0#32
  let v144 : BitVec 1 := Scalar.cmpi .ne v143 c0_i32_60
  let v145 : BitVec 1 := Scalar.andi v142 v144
  let v131 : BitVec 32 := Scalar.divsi v45 c32_i32_55
  let c1_i32_61 : BitVec 32 := 1#32
  let v146 : BitVec 32 := Scalar.subi v131 c1_i32_61
  let v147 : BitVec 32 := Scalar.select v145 v146 v131
  let v148 : BitVec 32 := Scalar.subi v147 v130
  let c0_i32_62 : BitVec 32 := 0#32
  let v149 : BitVec 32 := Scalar.maxsi v148 c0_i32_62
  let c0_i32_63 : BitVec 32 := 0#32
  let v151 : BitVec 1 := Scalar.cmpi .sgt v149 c0_i32_63
  let v152 : BitVec 32 := Scalar.extui v151
  let c0_i32_64 : BitVec 32 := 0#32
  let v153 : BitVec 1 := Scalar.cmpi .slt v149 c0_i32_64
  let v154 : BitVec 32 := Scalar.extui v153
  let v155 : BitVec 32 := Scalar.subi v152 v154
  let c2_i32 : BitVec 32 := 2#32
  let c0_i32_65 : BitVec 32 := 0#32
  let v156 : BitVec 1 := Scalar.cmpi .sgt c2_i32 c0_i32_65
  let v157 : BitVec 32 := Scalar.extui v156
  let c0_i32_66 : BitVec 32 := 0#32
  let v158 : BitVec 1 := Scalar.cmpi .slt c2_i32 c0_i32_66
  let v159 : BitVec 32 := Scalar.extui v158
  let v160 : BitVec 32 := Scalar.subi v157 v159
  let v161 : BitVec 1 := Scalar.cmpi .ne v155 v160
  let v162 : BitVec 32 := Scalar.remsi v149 c2_i32
  let c0_i32_67 : BitVec 32 := 0#32
  let v163 : BitVec 1 := Scalar.cmpi .ne v162 c0_i32_67
  let v164 : BitVec 1 := Scalar.andi v161 v163
  let v150 : BitVec 32 := Scalar.divsi v149 c2_i32
  let c1_i32_68 : BitVec 32 := 1#32
  let v165 : BitVec 32 := Scalar.subi v150 c1_i32_68
  let v166 : BitVec 32 := Scalar.select v164 v165 v150
  let v167 : BitVec 32 := Scalar.subi v166 c0_i32_69
  let c1_i32_70 : BitVec 32 := 1#32
  let v169 : BitVec 32 := Scalar.divsi v167 c1_i32_70
  let v170 : BitVec 32 := Scalar.muli v169 c1_i32_70
  let v171 : BitVec 32 := Scalar.addi c0_i32_69 v170
  let c1_i32_72 : BitVec 32 := 1#32
  let arg12 : BitVec 32 := Scf.iv v171 c1_i32_72 k0_t8
  let v192 : BitVec 32 := Scalar.muli c2_i32_80 arg12
  let v193 : BitVec 32 := Scalar.addi v130 v192
  let v194 : BitVec 32 := Scalar.muli c32_i32_81 v193
  let v195 : Index := Scalar.indexCast v194
  let c0_82 : Index := 0#32
  ![v195.toNat, 0]
def k0_off20 (i : grid0.Coords) (v36 : BitVec 32) (v42 : BitVec 32) (k0_t8 : Fin (k0_t8_loop i v36 v42).trips) : Fin 2 → Nat :=
  let c32_i32_84 : BitVec 32 := 32#32
  let c6400_i32_20 : BitVec 32 := 6400#32
  let c0_i32_19 : BitVec 32 := 0#32
  let arg0 : BitVec 32 := BitVec.ofNat 32 (i 0).val
  let c6400_i32 : BitVec 32 := 6400#32
  let v23 : BitVec 32 := Scalar.muli arg0 c6400_i32
  let v37 : BitVec 32 := Scalar.subi v36 v23
  let v38 : BitVec 32 := Scalar.maxsi c0_i32_19 v37
  let v39 : BitVec 32 := Scalar.minsi c6400_i32_20 v38
  let c32_i32_46 : BitVec 32 := 32#32
  let v112 : BitVec 32 := Scalar.addi v39 c32_i32_46
  let c1_i32_47 : BitVec 32 := 1#32
  let v113 : BitVec 32 := Scalar.subi v112 c1_i32_47
  let c0_i32_49 : BitVec 32 := 0#32
  let v115 : BitVec 1 := Scalar.cmpi .sgt v113 c0_i32_49
  let v116 : BitVec 32 := Scalar.extui v115
  let c0_i32_50 : BitVec 32 := 0#32
  let v117 : BitVec 1 := Scalar.cmpi .slt v113 c0_i32_50
  let v118 : BitVec 32 := Scalar.extui v117
  let v119 : BitVec 32 := Scalar.subi v116 v118
  let c32_i32_48 : BitVec 32 := 32#32
  let c0_i32_51 : BitVec 32 := 0#32
  let v120 : BitVec 1 := Scalar.cmpi .sgt c32_i32_48 c0_i32_51
  let v121 : BitVec 32 := Scalar.extui v120
  let c0_i32_52 : BitVec 32 := 0#32
  let v122 : BitVec 1 := Scalar.cmpi .slt c32_i32_48 c0_i32_52
  let v123 : BitVec 32 := Scalar.extui v122
  let v124 : BitVec 32 := Scalar.subi v121 v123
  let v125 : BitVec 1 := Scalar.cmpi .ne v119 v124
  let v126 : BitVec 32 := Scalar.remsi v113 c32_i32_48
  let c0_i32_53 : BitVec 32 := 0#32
  let v127 : BitVec 1 := Scalar.cmpi .ne v126 c0_i32_53
  let v128 : BitVec 1 := Scalar.andi v125 v127
  let v114 : BitVec 32 := Scalar.divsi v113 c32_i32_48
  let c1_i32_54 : BitVec 32 := 1#32
  let v129 : BitVec 32 := Scalar.subi v114 c1_i32_54
  let v130 : BitVec 32 := Scalar.select v128 v129 v114
  let c2_i32_80 : BitVec 32 := 2#32
  let c0_i32_69 : BitVec 32 := 0#32
  let c6400_i32_23 : BitVec 32 := 6400#32
  let c0_i32_22 : BitVec 32 := 0#32
  let v43 : BitVec 32 := Scalar.subi v42 v23
  let v44 : BitVec 32 := Scalar.maxsi c0_i32_22 v43
  let v45 : BitVec 32 := Scalar.minsi c6400_i32_23 v44
  let c0_i32_56 : BitVec 32 := 0#32
  let v132 : BitVec 1 := Scalar.cmpi .sgt v45 c0_i32_56
  let v133 : BitVec 32 := Scalar.extui v132
  let c0_i32_57 : BitVec 32 := 0#32
  let v134 : BitVec 1 := Scalar.cmpi .slt v45 c0_i32_57
  let v135 : BitVec 32 := Scalar.extui v134
  let v136 : BitVec 32 := Scalar.subi v133 v135
  let c32_i32_55 : BitVec 32 := 32#32
  let c0_i32_58 : BitVec 32 := 0#32
  let v137 : BitVec 1 := Scalar.cmpi .sgt c32_i32_55 c0_i32_58
  let v138 : BitVec 32 := Scalar.extui v137
  let c0_i32_59 : BitVec 32 := 0#32
  let v139 : BitVec 1 := Scalar.cmpi .slt c32_i32_55 c0_i32_59
  let v140 : BitVec 32 := Scalar.extui v139
  let v141 : BitVec 32 := Scalar.subi v138 v140
  let v142 : BitVec 1 := Scalar.cmpi .ne v136 v141
  let v143 : BitVec 32 := Scalar.remsi v45 c32_i32_55
  let c0_i32_60 : BitVec 32 := 0#32
  let v144 : BitVec 1 := Scalar.cmpi .ne v143 c0_i32_60
  let v145 : BitVec 1 := Scalar.andi v142 v144
  let v131 : BitVec 32 := Scalar.divsi v45 c32_i32_55
  let c1_i32_61 : BitVec 32 := 1#32
  let v146 : BitVec 32 := Scalar.subi v131 c1_i32_61
  let v147 : BitVec 32 := Scalar.select v145 v146 v131
  let v148 : BitVec 32 := Scalar.subi v147 v130
  let c0_i32_62 : BitVec 32 := 0#32
  let v149 : BitVec 32 := Scalar.maxsi v148 c0_i32_62
  let c0_i32_63 : BitVec 32 := 0#32
  let v151 : BitVec 1 := Scalar.cmpi .sgt v149 c0_i32_63
  let v152 : BitVec 32 := Scalar.extui v151
  let c0_i32_64 : BitVec 32 := 0#32
  let v153 : BitVec 1 := Scalar.cmpi .slt v149 c0_i32_64
  let v154 : BitVec 32 := Scalar.extui v153
  let v155 : BitVec 32 := Scalar.subi v152 v154
  let c2_i32 : BitVec 32 := 2#32
  let c0_i32_65 : BitVec 32 := 0#32
  let v156 : BitVec 1 := Scalar.cmpi .sgt c2_i32 c0_i32_65
  let v157 : BitVec 32 := Scalar.extui v156
  let c0_i32_66 : BitVec 32 := 0#32
  let v158 : BitVec 1 := Scalar.cmpi .slt c2_i32 c0_i32_66
  let v159 : BitVec 32 := Scalar.extui v158
  let v160 : BitVec 32 := Scalar.subi v157 v159
  let v161 : BitVec 1 := Scalar.cmpi .ne v155 v160
  let v162 : BitVec 32 := Scalar.remsi v149 c2_i32
  let c0_i32_67 : BitVec 32 := 0#32
  let v163 : BitVec 1 := Scalar.cmpi .ne v162 c0_i32_67
  let v164 : BitVec 1 := Scalar.andi v161 v163
  let v150 : BitVec 32 := Scalar.divsi v149 c2_i32
  let c1_i32_68 : BitVec 32 := 1#32
  let v165 : BitVec 32 := Scalar.subi v150 c1_i32_68
  let v166 : BitVec 32 := Scalar.select v164 v165 v150
  let v167 : BitVec 32 := Scalar.subi v166 c0_i32_69
  let c1_i32_70 : BitVec 32 := 1#32
  let v169 : BitVec 32 := Scalar.divsi v167 c1_i32_70
  let v170 : BitVec 32 := Scalar.muli v169 c1_i32_70
  let v171 : BitVec 32 := Scalar.addi c0_i32_69 v170
  let c1_i32_72 : BitVec 32 := 1#32
  let arg12 : BitVec 32 := Scf.iv v171 c1_i32_72 k0_t8
  let v192 : BitVec 32 := Scalar.muli c2_i32_80 arg12
  let v193 : BitVec 32 := Scalar.addi v130 v192
  let c1_i32_83 : BitVec 32 := 1#32
  let v198 : BitVec 32 := Scalar.addi v193 c1_i32_83
  let v199 : BitVec 32 := Scalar.muli c32_i32_84 v198
  let v200 : Index := Scalar.indexCast v199
  let c0_85 : Index := 0#32
  ![v200.toNat, 0]
@[reducible] def k0_t9_loop (i : grid0.Coords) (v36 : BitVec 32) (v42 : BitVec 32) : Scf.Loop 32 :=
  let c6400_i32_20 : BitVec 32 := 6400#32
  let c0_i32_19 : BitVec 32 := 0#32
  let arg0 : BitVec 32 := BitVec.ofNat 32 (i 0).val
  let c6400_i32 : BitVec 32 := 6400#32
  let v23 : BitVec 32 := Scalar.muli arg0 c6400_i32
  let v37 : BitVec 32 := Scalar.subi v36 v23
  let v38 : BitVec 32 := Scalar.maxsi c0_i32_19 v37
  let v39 : BitVec 32 := Scalar.minsi c6400_i32_20 v38
  let c32_i32_46 : BitVec 32 := 32#32
  let v112 : BitVec 32 := Scalar.addi v39 c32_i32_46
  let c1_i32_47 : BitVec 32 := 1#32
  let v113 : BitVec 32 := Scalar.subi v112 c1_i32_47
  let c0_i32_49 : BitVec 32 := 0#32
  let v115 : BitVec 1 := Scalar.cmpi .sgt v113 c0_i32_49
  let v116 : BitVec 32 := Scalar.extui v115
  let c0_i32_50 : BitVec 32 := 0#32
  let v117 : BitVec 1 := Scalar.cmpi .slt v113 c0_i32_50
  let v118 : BitVec 32 := Scalar.extui v117
  let v119 : BitVec 32 := Scalar.subi v116 v118
  let c32_i32_48 : BitVec 32 := 32#32
  let c0_i32_51 : BitVec 32 := 0#32
  let v120 : BitVec 1 := Scalar.cmpi .sgt c32_i32_48 c0_i32_51
  let v121 : BitVec 32 := Scalar.extui v120
  let c0_i32_52 : BitVec 32 := 0#32
  let v122 : BitVec 1 := Scalar.cmpi .slt c32_i32_48 c0_i32_52
  let v123 : BitVec 32 := Scalar.extui v122
  let v124 : BitVec 32 := Scalar.subi v121 v123
  let v125 : BitVec 1 := Scalar.cmpi .ne v119 v124
  let v126 : BitVec 32 := Scalar.remsi v113 c32_i32_48
  let c0_i32_53 : BitVec 32 := 0#32
  let v127 : BitVec 1 := Scalar.cmpi .ne v126 c0_i32_53
  let v128 : BitVec 1 := Scalar.andi v125 v127
  let v114 : BitVec 32 := Scalar.divsi v113 c32_i32_48
  let c1_i32_54 : BitVec 32 := 1#32
  let v129 : BitVec 32 := Scalar.subi v114 c1_i32_54
  let v130 : BitVec 32 := Scalar.select v128 v129 v114
  let c2_i32_73 : BitVec 32 := 2#32
  let c6400_i32_23 : BitVec 32 := 6400#32
  let c0_i32_22 : BitVec 32 := 0#32
  let v43 : BitVec 32 := Scalar.subi v42 v23
  let v44 : BitVec 32 := Scalar.maxsi c0_i32_22 v43
  let v45 : BitVec 32 := Scalar.minsi c6400_i32_23 v44
  let c0_i32_56 : BitVec 32 := 0#32
  let v132 : BitVec 1 := Scalar.cmpi .sgt v45 c0_i32_56
  let v133 : BitVec 32 := Scalar.extui v132
  let c0_i32_57 : BitVec 32 := 0#32
  let v134 : BitVec 1 := Scalar.cmpi .slt v45 c0_i32_57
  let v135 : BitVec 32 := Scalar.extui v134
  let v136 : BitVec 32 := Scalar.subi v133 v135
  let c32_i32_55 : BitVec 32 := 32#32
  let c0_i32_58 : BitVec 32 := 0#32
  let v137 : BitVec 1 := Scalar.cmpi .sgt c32_i32_55 c0_i32_58
  let v138 : BitVec 32 := Scalar.extui v137
  let c0_i32_59 : BitVec 32 := 0#32
  let v139 : BitVec 1 := Scalar.cmpi .slt c32_i32_55 c0_i32_59
  let v140 : BitVec 32 := Scalar.extui v139
  let v141 : BitVec 32 := Scalar.subi v138 v140
  let v142 : BitVec 1 := Scalar.cmpi .ne v136 v141
  let v143 : BitVec 32 := Scalar.remsi v45 c32_i32_55
  let c0_i32_60 : BitVec 32 := 0#32
  let v144 : BitVec 1 := Scalar.cmpi .ne v143 c0_i32_60
  let v145 : BitVec 1 := Scalar.andi v142 v144
  let v131 : BitVec 32 := Scalar.divsi v45 c32_i32_55
  let c1_i32_61 : BitVec 32 := 1#32
  let v146 : BitVec 32 := Scalar.subi v131 c1_i32_61
  let v147 : BitVec 32 := Scalar.select v145 v146 v131
  let v148 : BitVec 32 := Scalar.subi v147 v130
  let c0_i32_62 : BitVec 32 := 0#32
  let v149 : BitVec 32 := Scalar.maxsi v148 c0_i32_62
  let c0_i32_63 : BitVec 32 := 0#32
  let v151 : BitVec 1 := Scalar.cmpi .sgt v149 c0_i32_63
  let v152 : BitVec 32 := Scalar.extui v151
  let c0_i32_64 : BitVec 32 := 0#32
  let v153 : BitVec 1 := Scalar.cmpi .slt v149 c0_i32_64
  let v154 : BitVec 32 := Scalar.extui v153
  let v155 : BitVec 32 := Scalar.subi v152 v154
  let c2_i32 : BitVec 32 := 2#32
  let c0_i32_65 : BitVec 32 := 0#32
  let v156 : BitVec 1 := Scalar.cmpi .sgt c2_i32 c0_i32_65
  let v157 : BitVec 32 := Scalar.extui v156
  let c0_i32_66 : BitVec 32 := 0#32
  let v158 : BitVec 1 := Scalar.cmpi .slt c2_i32 c0_i32_66
  let v159 : BitVec 32 := Scalar.extui v158
  let v160 : BitVec 32 := Scalar.subi v157 v159
  let v161 : BitVec 1 := Scalar.cmpi .ne v155 v160
  let v162 : BitVec 32 := Scalar.remsi v149 c2_i32
  let c0_i32_67 : BitVec 32 := 0#32
  let v163 : BitVec 1 := Scalar.cmpi .ne v162 c0_i32_67
  let v164 : BitVec 1 := Scalar.andi v161 v163
  let v150 : BitVec 32 := Scalar.divsi v149 c2_i32
  let c1_i32_68 : BitVec 32 := 1#32
  let v165 : BitVec 32 := Scalar.subi v150 c1_i32_68
  let v166 : BitVec 32 := Scalar.select v164 v165 v150
  let v174 : BitVec 32 := Scalar.muli c2_i32_73 v166
  let v175 : BitVec 32 := Scalar.addi v130 v174
  let v176 : BitVec 32 := Scalar.subi v147 v175
  let c1_i32_74 : BitVec 32 := 1#32
  let v178 : BitVec 32 := Scalar.divsi v176 c1_i32_74
  let v179 : BitVec 32 := Scalar.muli v178 c1_i32_74
  let v180 : BitVec 32 := Scalar.addi v175 v179
  let c1_i32_75 : BitVec 32 := 1#32
  ⟨v175, v180, c1_i32_75⟩
def k0_off21 (i : grid0.Coords) (v36 : BitVec 32) (v42 : BitVec 32) (k0_t9 : Fin (k0_t9_loop i v36 v42).trips) : Fin 2 → Nat :=
  let c32_i32_80 : BitVec 32 := 32#32
  let c6400_i32_20 : BitVec 32 := 6400#32
  let c0_i32_19 : BitVec 32 := 0#32
  let arg0 : BitVec 32 := BitVec.ofNat 32 (i 0).val
  let c6400_i32 : BitVec 32 := 6400#32
  let v23 : BitVec 32 := Scalar.muli arg0 c6400_i32
  let v37 : BitVec 32 := Scalar.subi v36 v23
  let v38 : BitVec 32 := Scalar.maxsi c0_i32_19 v37
  let v39 : BitVec 32 := Scalar.minsi c6400_i32_20 v38
  let c32_i32_46 : BitVec 32 := 32#32
  let v112 : BitVec 32 := Scalar.addi v39 c32_i32_46
  let c1_i32_47 : BitVec 32 := 1#32
  let v113 : BitVec 32 := Scalar.subi v112 c1_i32_47
  let c0_i32_49 : BitVec 32 := 0#32
  let v115 : BitVec 1 := Scalar.cmpi .sgt v113 c0_i32_49
  let v116 : BitVec 32 := Scalar.extui v115
  let c0_i32_50 : BitVec 32 := 0#32
  let v117 : BitVec 1 := Scalar.cmpi .slt v113 c0_i32_50
  let v118 : BitVec 32 := Scalar.extui v117
  let v119 : BitVec 32 := Scalar.subi v116 v118
  let c32_i32_48 : BitVec 32 := 32#32
  let c0_i32_51 : BitVec 32 := 0#32
  let v120 : BitVec 1 := Scalar.cmpi .sgt c32_i32_48 c0_i32_51
  let v121 : BitVec 32 := Scalar.extui v120
  let c0_i32_52 : BitVec 32 := 0#32
  let v122 : BitVec 1 := Scalar.cmpi .slt c32_i32_48 c0_i32_52
  let v123 : BitVec 32 := Scalar.extui v122
  let v124 : BitVec 32 := Scalar.subi v121 v123
  let v125 : BitVec 1 := Scalar.cmpi .ne v119 v124
  let v126 : BitVec 32 := Scalar.remsi v113 c32_i32_48
  let c0_i32_53 : BitVec 32 := 0#32
  let v127 : BitVec 1 := Scalar.cmpi .ne v126 c0_i32_53
  let v128 : BitVec 1 := Scalar.andi v125 v127
  let v114 : BitVec 32 := Scalar.divsi v113 c32_i32_48
  let c1_i32_54 : BitVec 32 := 1#32
  let v129 : BitVec 32 := Scalar.subi v114 c1_i32_54
  let v130 : BitVec 32 := Scalar.select v128 v129 v114
  let c2_i32_73 : BitVec 32 := 2#32
  let c6400_i32_23 : BitVec 32 := 6400#32
  let c0_i32_22 : BitVec 32 := 0#32
  let v43 : BitVec 32 := Scalar.subi v42 v23
  let v44 : BitVec 32 := Scalar.maxsi c0_i32_22 v43
  let v45 : BitVec 32 := Scalar.minsi c6400_i32_23 v44
  let c0_i32_56 : BitVec 32 := 0#32
  let v132 : BitVec 1 := Scalar.cmpi .sgt v45 c0_i32_56
  let v133 : BitVec 32 := Scalar.extui v132
  let c0_i32_57 : BitVec 32 := 0#32
  let v134 : BitVec 1 := Scalar.cmpi .slt v45 c0_i32_57
  let v135 : BitVec 32 := Scalar.extui v134
  let v136 : BitVec 32 := Scalar.subi v133 v135
  let c32_i32_55 : BitVec 32 := 32#32
  let c0_i32_58 : BitVec 32 := 0#32
  let v137 : BitVec 1 := Scalar.cmpi .sgt c32_i32_55 c0_i32_58
  let v138 : BitVec 32 := Scalar.extui v137
  let c0_i32_59 : BitVec 32 := 0#32
  let v139 : BitVec 1 := Scalar.cmpi .slt c32_i32_55 c0_i32_59
  let v140 : BitVec 32 := Scalar.extui v139
  let v141 : BitVec 32 := Scalar.subi v138 v140
  let v142 : BitVec 1 := Scalar.cmpi .ne v136 v141
  let v143 : BitVec 32 := Scalar.remsi v45 c32_i32_55
  let c0_i32_60 : BitVec 32 := 0#32
  let v144 : BitVec 1 := Scalar.cmpi .ne v143 c0_i32_60
  let v145 : BitVec 1 := Scalar.andi v142 v144
  let v131 : BitVec 32 := Scalar.divsi v45 c32_i32_55
  let c1_i32_61 : BitVec 32 := 1#32
  let v146 : BitVec 32 := Scalar.subi v131 c1_i32_61
  let v147 : BitVec 32 := Scalar.select v145 v146 v131
  let v148 : BitVec 32 := Scalar.subi v147 v130
  let c0_i32_62 : BitVec 32 := 0#32
  let v149 : BitVec 32 := Scalar.maxsi v148 c0_i32_62
  let c0_i32_63 : BitVec 32 := 0#32
  let v151 : BitVec 1 := Scalar.cmpi .sgt v149 c0_i32_63
  let v152 : BitVec 32 := Scalar.extui v151
  let c0_i32_64 : BitVec 32 := 0#32
  let v153 : BitVec 1 := Scalar.cmpi .slt v149 c0_i32_64
  let v154 : BitVec 32 := Scalar.extui v153
  let v155 : BitVec 32 := Scalar.subi v152 v154
  let c2_i32 : BitVec 32 := 2#32
  let c0_i32_65 : BitVec 32 := 0#32
  let v156 : BitVec 1 := Scalar.cmpi .sgt c2_i32 c0_i32_65
  let v157 : BitVec 32 := Scalar.extui v156
  let c0_i32_66 : BitVec 32 := 0#32
  let v158 : BitVec 1 := Scalar.cmpi .slt c2_i32 c0_i32_66
  let v159 : BitVec 32 := Scalar.extui v158
  let v160 : BitVec 32 := Scalar.subi v157 v159
  let v161 : BitVec 1 := Scalar.cmpi .ne v155 v160
  let v162 : BitVec 32 := Scalar.remsi v149 c2_i32
  let c0_i32_67 : BitVec 32 := 0#32
  let v163 : BitVec 1 := Scalar.cmpi .ne v162 c0_i32_67
  let v164 : BitVec 1 := Scalar.andi v161 v163
  let v150 : BitVec 32 := Scalar.divsi v149 c2_i32
  let c1_i32_68 : BitVec 32 := 1#32
  let v165 : BitVec 32 := Scalar.subi v150 c1_i32_68
  let v166 : BitVec 32 := Scalar.select v164 v165 v150
  let v174 : BitVec 32 := Scalar.muli c2_i32_73 v166
  let v175 : BitVec 32 := Scalar.addi v130 v174
  let c1_i32_75 : BitVec 32 := 1#32
  let arg12 : BitVec 32 := Scf.iv v175 c1_i32_75 k0_t9
  let v192 : BitVec 32 := Scalar.muli c32_i32_80 arg12
  let v193 : Index := Scalar.indexCast v192
  let c0_81 : Index := 0#32
  ![v193.toNat, 0]
@[reducible] def k0_t10_loop (i : grid0.Coords) (v36 : BitVec 32) (v42 : BitVec 32) : Scf.Loop 32 :=
  let c6400_i32_20 : BitVec 32 := 6400#32
  let c0_i32_19 : BitVec 32 := 0#32
  let arg0 : BitVec 32 := BitVec.ofNat 32 (i 0).val
  let c6400_i32 : BitVec 32 := 6400#32
  let v23 : BitVec 32 := Scalar.muli arg0 c6400_i32
  let v37 : BitVec 32 := Scalar.subi v36 v23
  let v38 : BitVec 32 := Scalar.maxsi c0_i32_19 v37
  let v39 : BitVec 32 := Scalar.minsi c6400_i32_20 v38
  let c32_i32_46 : BitVec 32 := 32#32
  let v112 : BitVec 32 := Scalar.addi v39 c32_i32_46
  let c1_i32_47 : BitVec 32 := 1#32
  let v113 : BitVec 32 := Scalar.subi v112 c1_i32_47
  let c0_i32_49 : BitVec 32 := 0#32
  let v115 : BitVec 1 := Scalar.cmpi .sgt v113 c0_i32_49
  let v116 : BitVec 32 := Scalar.extui v115
  let c0_i32_50 : BitVec 32 := 0#32
  let v117 : BitVec 1 := Scalar.cmpi .slt v113 c0_i32_50
  let v118 : BitVec 32 := Scalar.extui v117
  let v119 : BitVec 32 := Scalar.subi v116 v118
  let c32_i32_48 : BitVec 32 := 32#32
  let c0_i32_51 : BitVec 32 := 0#32
  let v120 : BitVec 1 := Scalar.cmpi .sgt c32_i32_48 c0_i32_51
  let v121 : BitVec 32 := Scalar.extui v120
  let c0_i32_52 : BitVec 32 := 0#32
  let v122 : BitVec 1 := Scalar.cmpi .slt c32_i32_48 c0_i32_52
  let v123 : BitVec 32 := Scalar.extui v122
  let v124 : BitVec 32 := Scalar.subi v121 v123
  let v125 : BitVec 1 := Scalar.cmpi .ne v119 v124
  let v126 : BitVec 32 := Scalar.remsi v113 c32_i32_48
  let c0_i32_53 : BitVec 32 := 0#32
  let v127 : BitVec 1 := Scalar.cmpi .ne v126 c0_i32_53
  let v128 : BitVec 1 := Scalar.andi v125 v127
  let v114 : BitVec 32 := Scalar.divsi v113 c32_i32_48
  let c1_i32_54 : BitVec 32 := 1#32
  let v129 : BitVec 32 := Scalar.subi v114 c1_i32_54
  let v130 : BitVec 32 := Scalar.select v128 v129 v114
  let c2_i32_73 : BitVec 32 := 2#32
  let c6400_i32_23 : BitVec 32 := 6400#32
  let c0_i32_22 : BitVec 32 := 0#32
  let v43 : BitVec 32 := Scalar.subi v42 v23
  let v44 : BitVec 32 := Scalar.maxsi c0_i32_22 v43
  let v45 : BitVec 32 := Scalar.minsi c6400_i32_23 v44
  let c0_i32_56 : BitVec 32 := 0#32
  let v132 : BitVec 1 := Scalar.cmpi .sgt v45 c0_i32_56
  let v133 : BitVec 32 := Scalar.extui v132
  let c0_i32_57 : BitVec 32 := 0#32
  let v134 : BitVec 1 := Scalar.cmpi .slt v45 c0_i32_57
  let v135 : BitVec 32 := Scalar.extui v134
  let v136 : BitVec 32 := Scalar.subi v133 v135
  let c32_i32_55 : BitVec 32 := 32#32
  let c0_i32_58 : BitVec 32 := 0#32
  let v137 : BitVec 1 := Scalar.cmpi .sgt c32_i32_55 c0_i32_58
  let v138 : BitVec 32 := Scalar.extui v137
  let c0_i32_59 : BitVec 32 := 0#32
  let v139 : BitVec 1 := Scalar.cmpi .slt c32_i32_55 c0_i32_59
  let v140 : BitVec 32 := Scalar.extui v139
  let v141 : BitVec 32 := Scalar.subi v138 v140
  let v142 : BitVec 1 := Scalar.cmpi .ne v136 v141
  let v143 : BitVec 32 := Scalar.remsi v45 c32_i32_55
  let c0_i32_60 : BitVec 32 := 0#32
  let v144 : BitVec 1 := Scalar.cmpi .ne v143 c0_i32_60
  let v145 : BitVec 1 := Scalar.andi v142 v144
  let v131 : BitVec 32 := Scalar.divsi v45 c32_i32_55
  let c1_i32_61 : BitVec 32 := 1#32
  let v146 : BitVec 32 := Scalar.subi v131 c1_i32_61
  let v147 : BitVec 32 := Scalar.select v145 v146 v131
  let v148 : BitVec 32 := Scalar.subi v147 v130
  let c0_i32_62 : BitVec 32 := 0#32
  let v149 : BitVec 32 := Scalar.maxsi v148 c0_i32_62
  let c0_i32_63 : BitVec 32 := 0#32
  let v151 : BitVec 1 := Scalar.cmpi .sgt v149 c0_i32_63
  let v152 : BitVec 32 := Scalar.extui v151
  let c0_i32_64 : BitVec 32 := 0#32
  let v153 : BitVec 1 := Scalar.cmpi .slt v149 c0_i32_64
  let v154 : BitVec 32 := Scalar.extui v153
  let v155 : BitVec 32 := Scalar.subi v152 v154
  let c2_i32 : BitVec 32 := 2#32
  let c0_i32_65 : BitVec 32 := 0#32
  let v156 : BitVec 1 := Scalar.cmpi .sgt c2_i32 c0_i32_65
  let v157 : BitVec 32 := Scalar.extui v156
  let c0_i32_66 : BitVec 32 := 0#32
  let v158 : BitVec 1 := Scalar.cmpi .slt c2_i32 c0_i32_66
  let v159 : BitVec 32 := Scalar.extui v158
  let v160 : BitVec 32 := Scalar.subi v157 v159
  let v161 : BitVec 1 := Scalar.cmpi .ne v155 v160
  let v162 : BitVec 32 := Scalar.remsi v149 c2_i32
  let c0_i32_67 : BitVec 32 := 0#32
  let v163 : BitVec 1 := Scalar.cmpi .ne v162 c0_i32_67
  let v164 : BitVec 1 := Scalar.andi v161 v163
  let v150 : BitVec 32 := Scalar.divsi v149 c2_i32
  let c1_i32_68 : BitVec 32 := 1#32
  let v165 : BitVec 32 := Scalar.subi v150 c1_i32_68
  let v166 : BitVec 32 := Scalar.select v164 v165 v150
  let v174 : BitVec 32 := Scalar.muli c2_i32_73 v166
  let v175 : BitVec 32 := Scalar.addi v130 v174
  let v176 : BitVec 32 := Scalar.subi v147 v175
  let c1_i32_74 : BitVec 32 := 1#32
  let v178 : BitVec 32 := Scalar.divsi v176 c1_i32_74
  let v179 : BitVec 32 := Scalar.muli v178 c1_i32_74
  let v180 : BitVec 32 := Scalar.addi v175 v179
  let v177 : BitVec 32 := Scalar.addi v175 v176
  let c1_i32_76 : BitVec 32 := 1#32
  ⟨v180, v177, c1_i32_76⟩
def k0_off22 (i : grid0.Coords) (v36 : BitVec 32) (v42 : BitVec 32) (k0_t10 : Fin (k0_t10_loop i v36 v42).trips) : Fin 2 → Nat :=
  let c32_i32_80 : BitVec 32 := 32#32
  let c6400_i32_20 : BitVec 32 := 6400#32
  let c0_i32_19 : BitVec 32 := 0#32
  let arg0 : BitVec 32 := BitVec.ofNat 32 (i 0).val
  let c6400_i32 : BitVec 32 := 6400#32
  let v23 : BitVec 32 := Scalar.muli arg0 c6400_i32
  let v37 : BitVec 32 := Scalar.subi v36 v23
  let v38 : BitVec 32 := Scalar.maxsi c0_i32_19 v37
  let v39 : BitVec 32 := Scalar.minsi c6400_i32_20 v38
  let c32_i32_46 : BitVec 32 := 32#32
  let v112 : BitVec 32 := Scalar.addi v39 c32_i32_46
  let c1_i32_47 : BitVec 32 := 1#32
  let v113 : BitVec 32 := Scalar.subi v112 c1_i32_47
  let c0_i32_49 : BitVec 32 := 0#32
  let v115 : BitVec 1 := Scalar.cmpi .sgt v113 c0_i32_49
  let v116 : BitVec 32 := Scalar.extui v115
  let c0_i32_50 : BitVec 32 := 0#32
  let v117 : BitVec 1 := Scalar.cmpi .slt v113 c0_i32_50
  let v118 : BitVec 32 := Scalar.extui v117
  let v119 : BitVec 32 := Scalar.subi v116 v118
  let c32_i32_48 : BitVec 32 := 32#32
  let c0_i32_51 : BitVec 32 := 0#32
  let v120 : BitVec 1 := Scalar.cmpi .sgt c32_i32_48 c0_i32_51
  let v121 : BitVec 32 := Scalar.extui v120
  let c0_i32_52 : BitVec 32 := 0#32
  let v122 : BitVec 1 := Scalar.cmpi .slt c32_i32_48 c0_i32_52
  let v123 : BitVec 32 := Scalar.extui v122
  let v124 : BitVec 32 := Scalar.subi v121 v123
  let v125 : BitVec 1 := Scalar.cmpi .ne v119 v124
  let v126 : BitVec 32 := Scalar.remsi v113 c32_i32_48
  let c0_i32_53 : BitVec 32 := 0#32
  let v127 : BitVec 1 := Scalar.cmpi .ne v126 c0_i32_53
  let v128 : BitVec 1 := Scalar.andi v125 v127
  let v114 : BitVec 32 := Scalar.divsi v113 c32_i32_48
  let c1_i32_54 : BitVec 32 := 1#32
  let v129 : BitVec 32 := Scalar.subi v114 c1_i32_54
  let v130 : BitVec 32 := Scalar.select v128 v129 v114
  let c2_i32_73 : BitVec 32 := 2#32
  let c6400_i32_23 : BitVec 32 := 6400#32
  let c0_i32_22 : BitVec 32 := 0#32
  let v43 : BitVec 32 := Scalar.subi v42 v23
  let v44 : BitVec 32 := Scalar.maxsi c0_i32_22 v43
  let v45 : BitVec 32 := Scalar.minsi c6400_i32_23 v44
  let c0_i32_56 : BitVec 32 := 0#32
  let v132 : BitVec 1 := Scalar.cmpi .sgt v45 c0_i32_56
  let v133 : BitVec 32 := Scalar.extui v132
  let c0_i32_57 : BitVec 32 := 0#32
  let v134 : BitVec 1 := Scalar.cmpi .slt v45 c0_i32_57
  let v135 : BitVec 32 := Scalar.extui v134
  let v136 : BitVec 32 := Scalar.subi v133 v135
  let c32_i32_55 : BitVec 32 := 32#32
  let c0_i32_58 : BitVec 32 := 0#32
  let v137 : BitVec 1 := Scalar.cmpi .sgt c32_i32_55 c0_i32_58
  let v138 : BitVec 32 := Scalar.extui v137
  let c0_i32_59 : BitVec 32 := 0#32
  let v139 : BitVec 1 := Scalar.cmpi .slt c32_i32_55 c0_i32_59
  let v140 : BitVec 32 := Scalar.extui v139
  let v141 : BitVec 32 := Scalar.subi v138 v140
  let v142 : BitVec 1 := Scalar.cmpi .ne v136 v141
  let v143 : BitVec 32 := Scalar.remsi v45 c32_i32_55
  let c0_i32_60 : BitVec 32 := 0#32
  let v144 : BitVec 1 := Scalar.cmpi .ne v143 c0_i32_60
  let v145 : BitVec 1 := Scalar.andi v142 v144
  let v131 : BitVec 32 := Scalar.divsi v45 c32_i32_55
  let c1_i32_61 : BitVec 32 := 1#32
  let v146 : BitVec 32 := Scalar.subi v131 c1_i32_61
  let v147 : BitVec 32 := Scalar.select v145 v146 v131
  let v148 : BitVec 32 := Scalar.subi v147 v130
  let c0_i32_62 : BitVec 32 := 0#32
  let v149 : BitVec 32 := Scalar.maxsi v148 c0_i32_62
  let c0_i32_63 : BitVec 32 := 0#32
  let v151 : BitVec 1 := Scalar.cmpi .sgt v149 c0_i32_63
  let v152 : BitVec 32 := Scalar.extui v151
  let c0_i32_64 : BitVec 32 := 0#32
  let v153 : BitVec 1 := Scalar.cmpi .slt v149 c0_i32_64
  let v154 : BitVec 32 := Scalar.extui v153
  let v155 : BitVec 32 := Scalar.subi v152 v154
  let c2_i32 : BitVec 32 := 2#32
  let c0_i32_65 : BitVec 32 := 0#32
  let v156 : BitVec 1 := Scalar.cmpi .sgt c2_i32 c0_i32_65
  let v157 : BitVec 32 := Scalar.extui v156
  let c0_i32_66 : BitVec 32 := 0#32
  let v158 : BitVec 1 := Scalar.cmpi .slt c2_i32 c0_i32_66
  let v159 : BitVec 32 := Scalar.extui v158
  let v160 : BitVec 32 := Scalar.subi v157 v159
  let v161 : BitVec 1 := Scalar.cmpi .ne v155 v160
  let v162 : BitVec 32 := Scalar.remsi v149 c2_i32
  let c0_i32_67 : BitVec 32 := 0#32
  let v163 : BitVec 1 := Scalar.cmpi .ne v162 c0_i32_67
  let v164 : BitVec 1 := Scalar.andi v161 v163
  let v150 : BitVec 32 := Scalar.divsi v149 c2_i32
  let c1_i32_68 : BitVec 32 := 1#32
  let v165 : BitVec 32 := Scalar.subi v150 c1_i32_68
  let v166 : BitVec 32 := Scalar.select v164 v165 v150
  let v174 : BitVec 32 := Scalar.muli c2_i32_73 v166
  let v175 : BitVec 32 := Scalar.addi v130 v174
  let v176 : BitVec 32 := Scalar.subi v147 v175
  let c1_i32_74 : BitVec 32 := 1#32
  let v178 : BitVec 32 := Scalar.divsi v176 c1_i32_74
  let v179 : BitVec 32 := Scalar.muli v178 c1_i32_74
  let v180 : BitVec 32 := Scalar.addi v175 v179
  let c1_i32_76 : BitVec 32 := 1#32
  let arg12 : BitVec 32 := Scf.iv v180 c1_i32_76 k0_t10
  let v192 : BitVec 32 := Scalar.muli c32_i32_80 arg12
  let v193 : Index := Scalar.indexCast v192
  let c0_81 : Index := 0#32
  ![v193.toNat, 0]

def k0_chk5 (i : grid0.Coords) (v36 : BitVec 32) (v42 : BitVec 32) : Prop :=
  (∀ a, (k0_off16 i v42) a + S32x128.size a ≤ S6400x128.size a) ∧
  ((k0_t7_loop i v36 v42).OK) ∧
  (∀ k0_t7 : Fin (k0_t7_loop i v36 v42).trips, ∀ a, (k0_off17 i v36 v42 k0_t7) a + S32x128.size a ≤ S6400x128.size a) ∧
  (∀ k0_t7 : Fin (k0_t7_loop i v36 v42).trips, ∀ a, (k0_off18 i v36 v42 k0_t7) a + S32x128.size a ≤ S6400x128.size a) ∧
  ((k0_t8_loop i v36 v42).OK) ∧
  (∀ k0_t8 : Fin (k0_t8_loop i v36 v42).trips, ∀ a, (k0_off19 i v36 v42 k0_t8) a + S32x128.size a ≤ S6400x128.size a) ∧
  (∀ k0_t8 : Fin (k0_t8_loop i v36 v42).trips, ∀ a, (k0_off20 i v36 v42 k0_t8) a + S32x128.size a ≤ S6400x128.size a) ∧
  ((k0_t9_loop i v36 v42).OK) ∧
  (∀ k0_t9 : Fin (k0_t9_loop i v36 v42).trips, ∀ a, (k0_off21 i v36 v42 k0_t9) a + S32x128.size a ≤ S6400x128.size a) ∧
  ((k0_t10_loop i v36 v42).OK) ∧
  (∀ k0_t10 : Fin (k0_t10_loop i v36 v42).trips, ∀ a, (k0_off22 i v36 v42 k0_t10) a + S32x128.size a ≤ S6400x128.size a)
theorem k0_off16_inb : ∀ (i : grid0.Coords) (v36 : BitVec 32) (v42 : BitVec 32) (k0_hw5 : k0_chk5 i v36 v42), ∀ a, (k0_off16 i v42) a + S32x128.size a ≤ S6400x128.size a := fun i v36 v42 k0_hw5 => k0_hw5.1
theorem k0_t7_ok : ∀ (i : grid0.Coords) (v36 : BitVec 32) (v42 : BitVec 32) (k0_hw5 : k0_chk5 i v36 v42), (k0_t7_loop i v36 v42).OK := fun i v36 v42 k0_hw5 => k0_hw5.2.1
theorem k0_off17_inb : ∀ (i : grid0.Coords) (v36 : BitVec 32) (v42 : BitVec 32) (k0_hw5 : k0_chk5 i v36 v42) (k0_t7 : Fin (k0_t7_loop i v36 v42).trips), ∀ a, (k0_off17 i v36 v42 k0_t7) a + S32x128.size a ≤ S6400x128.size a := fun i v36 v42 k0_hw5 k0_t7 => k0_hw5.2.2.1 k0_t7
theorem k0_off18_inb : ∀ (i : grid0.Coords) (v36 : BitVec 32) (v42 : BitVec 32) (k0_hw5 : k0_chk5 i v36 v42) (k0_t7 : Fin (k0_t7_loop i v36 v42).trips), ∀ a, (k0_off18 i v36 v42 k0_t7) a + S32x128.size a ≤ S6400x128.size a := fun i v36 v42 k0_hw5 k0_t7 => k0_hw5.2.2.2.1 k0_t7
theorem k0_t8_ok : ∀ (i : grid0.Coords) (v36 : BitVec 32) (v42 : BitVec 32) (k0_hw5 : k0_chk5 i v36 v42), (k0_t8_loop i v36 v42).OK := fun i v36 v42 k0_hw5 => k0_hw5.2.2.2.2.1
theorem k0_off19_inb : ∀ (i : grid0.Coords) (v36 : BitVec 32) (v42 : BitVec 32) (k0_hw5 : k0_chk5 i v36 v42) (k0_t8 : Fin (k0_t8_loop i v36 v42).trips), ∀ a, (k0_off19 i v36 v42 k0_t8) a + S32x128.size a ≤ S6400x128.size a := fun i v36 v42 k0_hw5 k0_t8 => k0_hw5.2.2.2.2.2.1 k0_t8
theorem k0_off20_inb : ∀ (i : grid0.Coords) (v36 : BitVec 32) (v42 : BitVec 32) (k0_hw5 : k0_chk5 i v36 v42) (k0_t8 : Fin (k0_t8_loop i v36 v42).trips), ∀ a, (k0_off20 i v36 v42 k0_t8) a + S32x128.size a ≤ S6400x128.size a := fun i v36 v42 k0_hw5 k0_t8 => k0_hw5.2.2.2.2.2.2.1 k0_t8
theorem k0_t9_ok : ∀ (i : grid0.Coords) (v36 : BitVec 32) (v42 : BitVec 32) (k0_hw5 : k0_chk5 i v36 v42), (k0_t9_loop i v36 v42).OK := fun i v36 v42 k0_hw5 => k0_hw5.2.2.2.2.2.2.2.1
theorem k0_off21_inb : ∀ (i : grid0.Coords) (v36 : BitVec 32) (v42 : BitVec 32) (k0_hw5 : k0_chk5 i v36 v42) (k0_t9 : Fin (k0_t9_loop i v36 v42).trips), ∀ a, (k0_off21 i v36 v42 k0_t9) a + S32x128.size a ≤ S6400x128.size a := fun i v36 v42 k0_hw5 k0_t9 => k0_hw5.2.2.2.2.2.2.2.2.1 k0_t9
theorem k0_t10_ok : ∀ (i : grid0.Coords) (v36 : BitVec 32) (v42 : BitVec 32) (k0_hw5 : k0_chk5 i v36 v42), (k0_t10_loop i v36 v42).OK := fun i v36 v42 k0_hw5 => k0_hw5.2.2.2.2.2.2.2.2.2.1
theorem k0_off22_inb : ∀ (i : grid0.Coords) (v36 : BitVec 32) (v42 : BitVec 32) (k0_hw5 : k0_chk5 i v36 v42) (k0_t10 : Fin (k0_t10_loop i v36 v42).trips), ∀ a, (k0_off22 i v36 v42 k0_t10) a + S32x128.size a ≤ S6400x128.size a := fun i v36 v42 k0_hw5 k0_t10 => k0_hw5.2.2.2.2.2.2.2.2.2.2 k0_t10

def k0_off23 (v20 : BitVec 32) (v22 : BitVec 32) (k0_t6 : Fin (k0_t6_loop v20 v22).trips) : Fin 2 → Nat :=
  let c1_i32 : BitVec 32 := 1#32
  let v26 : BitVec 32 := Scalar.addi v22 c1_i32
  let v27 : BitVec 32 := Scalar.subi v26 v20
  let c1_i32_15 : BitVec 32 := 1#32
  let v29 : BitVec 32 := Scalar.divsi v27 c1_i32_15
  let v30 : BitVec 32 := Scalar.muli v29 c1_i32_15
  let v31 : BitVec 32 := Scalar.addi v20 v30
  let c1_i32_17 : BitVec 32 := 1#32
  let arg11 : BitVec 32 := Scf.iv v31 c1_i32_17 k0_t6
  let v186 : Index := Scalar.indexCast arg11
  let c0_78 : Index := 0#32
  ![v186.toNat, 0]

def k0_chk1 (v20 : BitVec 32) (v22 : BitVec 32) : Prop :=
  ((k0_t1_loop v20 v22).OK) ∧
  (∀ k0_t1 : Fin (k0_t1_loop v20 v22).trips, ∀ a, (k0_off2 v20 v22 k0_t1) a + S1.size a ≤ S513.size a) ∧
  (∀ k0_t1 : Fin (k0_t1_loop v20 v22).trips, ∀ a, (k0_off3 v20 v22 k0_t1) a + S1.size a ≤ S513.size a) ∧
  (∀ k0_t1 : Fin (k0_t1_loop v20 v22).trips, ∀ a, (k0_off12 v20 v22 k0_t1) a + S1x128.size a ≤ S512x128.size a) ∧
  ((k0_t6_loop v20 v22).OK) ∧
  (∀ k0_t6 : Fin (k0_t6_loop v20 v22).trips, ∀ a, (k0_off13 v20 v22 k0_t6) a + S1.size a ≤ S513.size a) ∧
  (∀ k0_t6 : Fin (k0_t6_loop v20 v22).trips, ∀ a, (k0_off14 v20 v22 k0_t6) a + S1.size a ≤ S513.size a) ∧
  (∀ k0_t6 : Fin (k0_t6_loop v20 v22).trips, ∀ a, (k0_off23 v20 v22 k0_t6) a + S1x128.size a ≤ S512x128.size a)
theorem k0_t1_ok : ∀ (v20 : BitVec 32) (v22 : BitVec 32) (k0_hw1 : k0_chk1 v20 v22), (k0_t1_loop v20 v22).OK := fun v20 v22 k0_hw1 => k0_hw1.1
theorem k0_off2_inb : ∀ (v20 : BitVec 32) (v22 : BitVec 32) (k0_hw1 : k0_chk1 v20 v22) (k0_t1 : Fin (k0_t1_loop v20 v22).trips), ∀ a, (k0_off2 v20 v22 k0_t1) a + S1.size a ≤ S513.size a := fun v20 v22 k0_hw1 k0_t1 => k0_hw1.2.1 k0_t1
theorem k0_off3_inb : ∀ (v20 : BitVec 32) (v22 : BitVec 32) (k0_hw1 : k0_chk1 v20 v22) (k0_t1 : Fin (k0_t1_loop v20 v22).trips), ∀ a, (k0_off3 v20 v22 k0_t1) a + S1.size a ≤ S513.size a := fun v20 v22 k0_hw1 k0_t1 => k0_hw1.2.2.1 k0_t1
theorem k0_off12_inb : ∀ (v20 : BitVec 32) (v22 : BitVec 32) (k0_hw1 : k0_chk1 v20 v22) (k0_t1 : Fin (k0_t1_loop v20 v22).trips), ∀ a, (k0_off12 v20 v22 k0_t1) a + S1x128.size a ≤ S512x128.size a := fun v20 v22 k0_hw1 k0_t1 => k0_hw1.2.2.2.1 k0_t1
theorem k0_t6_ok : ∀ (v20 : BitVec 32) (v22 : BitVec 32) (k0_hw1 : k0_chk1 v20 v22), (k0_t6_loop v20 v22).OK := fun v20 v22 k0_hw1 => k0_hw1.2.2.2.2.1
theorem k0_off13_inb : ∀ (v20 : BitVec 32) (v22 : BitVec 32) (k0_hw1 : k0_chk1 v20 v22) (k0_t6 : Fin (k0_t6_loop v20 v22).trips), ∀ a, (k0_off13 v20 v22 k0_t6) a + S1.size a ≤ S513.size a := fun v20 v22 k0_hw1 k0_t6 => k0_hw1.2.2.2.2.2.1 k0_t6
theorem k0_off14_inb : ∀ (v20 : BitVec 32) (v22 : BitVec 32) (k0_hw1 : k0_chk1 v20 v22) (k0_t6 : Fin (k0_t6_loop v20 v22).trips), ∀ a, (k0_off14 v20 v22 k0_t6) a + S1.size a ≤ S513.size a := fun v20 v22 k0_hw1 k0_t6 => k0_hw1.2.2.2.2.2.2.1 k0_t6
theorem k0_off23_inb : ∀ (v20 : BitVec 32) (v22 : BitVec 32) (k0_hw1 : k0_chk1 v20 v22) (k0_t6 : Fin (k0_t6_loop v20 v22).trips), ∀ a, (k0_off23 v20 v22 k0_t6) a + S1x128.size a ≤ S512x128.size a := fun v20 v22 k0_hw1 k0_t6 => k0_hw1.2.2.2.2.2.2.2 k0_t6

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S6400x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6400x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceIdeal.lean ====
abbrev S320000x128 : Shape := ⟨2, ![320000, 128]⟩
abbrev S320000x3 : Shape := ⟨2, ![320000, 3]⟩
abbrev S320000 : Shape := ⟨1, ![320000]⟩
abbrev S131x128 : Shape := ⟨2, ![131, 128]⟩
abbrev S128 : Shape := ⟨1, ![128]⟩
abbrev S320000x131 : Shape := ⟨2, ![320000, 131]⟩
abbrev S1x128 : Shape := ⟨2, ![1, 128]⟩
abbrev S_ : Shape := ⟨0, ![]⟩
abbrev S1x320000 : Shape := ⟨2, ![1, 320000]⟩
abbrev S512 : Shape := ⟨1, ![512]⟩
abbrev S512x1 : Shape := ⟨2, ![512, 1]⟩
abbrev S512x320000 : Shape := ⟨2, ![512, 320000]⟩
abbrev S512x320000x1 : Shape := ⟨3, ![512, 320000, 1]⟩
abbrev S1x320000x128 : Shape := ⟨3, ![1, 320000, 128]⟩
abbrev S512x320000x128 : Shape := ⟨3, ![512, 320000, 128]⟩
abbrev S512x128 : Shape := ⟨2, ![512, 128]⟩
abbrev S512x3 : Shape := ⟨2, ![512, 3]⟩

abbrev nBuf : Space → Nat
  | .hbm => 32
  | .vmem => 0
  | .smem => 0
  | _ => 0

abbrev bufTy : (tb : Table) → Fin (tcTables nBuf tb) → BufTy
  | .hbm, ⟨0, _⟩ => ⟨S320000x128, .f32⟩
  | .hbm, ⟨1, _⟩ => ⟨S320000x3, .f32⟩
  | .hbm, ⟨2, _⟩ => ⟨S320000, .i32⟩
  | .hbm, ⟨3, _⟩ => ⟨S131x128, .f32⟩
  | .hbm, ⟨4, _⟩ => ⟨S128, .f32⟩
  | .hbm, ⟨5, _⟩ => ⟨S320000x131, .f32⟩
  | .hbm, ⟨6, _⟩ => ⟨S320000x128, .f32⟩
  | .hbm, ⟨7, _⟩ => ⟨S1x128, .f32⟩
  | .hbm, ⟨8, _⟩ => ⟨S320000x128, .f32⟩
  | .hbm, ⟨9, _⟩ => ⟨S320000x128, .f32⟩
  | .hbm, ⟨10, _⟩ => ⟨S_, .f32⟩
  | .hbm, ⟨11, _⟩ => ⟨S320000x128, .f32⟩
  | .hbm, ⟨12, _⟩ => ⟨S320000x128, .f32⟩
  | .hbm, ⟨13, _⟩ => ⟨S1x320000, .i32⟩
  | .hbm, ⟨14, _⟩ => ⟨S512, .i32⟩
  | .hbm, ⟨15, _⟩ => ⟨S512x1, .i32⟩
  | .hbm, ⟨16, _⟩ => ⟨S512x320000, .i32⟩
  | .hbm, ⟨17, _⟩ => ⟨S512x320000, .i32⟩
  | .hbm, ⟨18, _⟩ => ⟨S512x320000, .i1⟩
  | .hbm, ⟨19, _⟩ => ⟨S512x320000x1, .i1⟩
  | .hbm, ⟨20, _⟩ => ⟨S1x320000x128, .f32⟩
  | .hbm, ⟨21, _⟩ => ⟨S_, .f32⟩
  | .hbm, ⟨22, _⟩ => ⟨S_, .f32⟩
  | .hbm, ⟨23, _⟩ => ⟨S512x320000x128, .i1⟩
  | .hbm, ⟨24, _⟩ => ⟨S512x320000x128, .f32⟩
  | .hbm, ⟨25, _⟩ => ⟨S512x320000x128, .f32⟩
  | .hbm, ⟨26, _⟩ => ⟨S512x320000x128, .f32⟩
  | .hbm, ⟨27, _⟩ => ⟨S_, .f32⟩
  | .hbm, ⟨28, _⟩ => ⟨S512x128, .f32⟩
  | .hbm, ⟨29, _⟩ => ⟨S_, .f32⟩
  | .hbm, ⟨30, _⟩ => ⟨S512x3, .f32⟩
  | .hbm, ⟨31, _⟩ => ⟨S512, .i32⟩
  | _, _ => ⟨S320000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_call0_cst : Ref sig .tc := ⟨.hbm, 10, rfl⟩
abbrev main_call0_v0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_call1_v3 : Ref sig .tc := ⟨.hbm, 25, rfl⟩
abbrev main_v14 : Ref sig .tc := ⟨.hbm, 26, rfl⟩
abbrev main_cst_0 : Ref sig .tc := ⟨.hbm, 27, rfl⟩
abbrev main_v15 : Ref sig .tc := ⟨.hbm, 28, rfl⟩
abbrev main_cst_1 : Ref sig .tc := ⟨.hbm, 29, rfl⟩
abbrev main_v16 : Ref sig .tc := ⟨.hbm, 30, rfl⟩
abbrev main_v17 : Ref sig .tc := ⟨.hbm, 31, rfl⟩

abbrev nD : Nat := 1
abbrev τ : Topo := Topo.v7x

variable {F : FTy → Type} [FloatOps F]
-- ==== Proof.Words.lean ====
/-
  The integer arithmetic of the kernel's scalar core, read as arithmetic of natural numbers: the clamped bounds of a
  segment inside a block of 6400 rows, rounding division, and the number of 32-row groups that lie wholly inside.
-/
module

public import Idealize.ShloMosaic.Lib.Affine
public import Idealize.ShloMosaic.Lib.Scf

@[expose] public section

namespace Cert.SegMax

open Idealize.ShloMosaic

/-- A word whose signed reading is a natural below the sign bit is the index word of that natural. -/
theorem eq_ofNat_of_isInt {x : BitVec 32} {n : ℕ} (h : Affine.IsInt x (n : ℤ)) (hn : n < 2 ^ 31) :
    x = BitVec.ofNat 32 n := by
  have h2 : Affine.IsInt (BitVec.ofNat 32 n) (n : ℤ) := Affine.ofNat n ⟨rfl, hn⟩
  unfold Affine.IsInt at h h2
  exact BitVec.eq_of_toInt_eq (h.trans h2.symm)

/-- An index word below the sign bit reads, signed, as its natural. -/
theorem isInt_ofNat {n : ℕ} (hn : n < 2 ^ 31) : Affine.IsInt (BitVec.ofNat 32 n) (n : ℤ) := Affine.ofNat n ⟨rfl, hn⟩

/-- The sum of two index words. -/
theorem addi_nat {a b : ℕ} (h : a + b < 2 ^ 31) :
    Scalar.addi (BitVec.ofNat 32 a) (BitVec.ofNat 32 b) = BitVec.ofNat 32 (a + b) :=
  eq_ofNat_of_isInt (Affine.addi (isInt_ofNat (by omega)) (isInt_ofNat (by omega)) ⟨by push_cast; rfl, by omega, by omega⟩) h

/-- The difference of two index words, the second no larger. -/
theorem subi_nat {a b : ℕ} (h : b ≤ a) (ha : a < 2 ^ 31) :
    Scalar.subi (BitVec.ofNat 32 a) (BitVec.ofNat 32 b) = BitVec.ofNat 32 (a - b) :=
  eq_ofNat_of_isInt (Affine.subi (isInt_ofNat (by omega)) (isInt_ofNat (by omega)) ⟨by omega, by omega, by omega⟩)
    (by omega)

/-- The product of two index words. -/
theorem muli_nat {a b : ℕ} (ha : a < 2 ^ 31) (hb : b < 2 ^ 31) (h : a * b < 2 ^ 31) :
    Scalar.muli (BitVec.ofNat 32 a) (BitVec.ofNat 32 b) = BitVec.ofNat 32 (a * b) := by
  have h1 : ((a * b : ℕ) : ℤ) = (a : ℤ) * b := by push_cast; rfl
  have h2 : (0 : ℤ) ≤ ((a * b : ℕ) : ℤ) := Int.natCast_nonneg _
  exact eq_ofNat_of_isInt (Affine.muli (isInt_ofNat ha) (isInt_ofNat hb)
    ⟨h1, by generalize a * b = n at *; omega, by generalize a * b = n at *; omega⟩) h

/-- The positive part of a difference of two index words. -/
theorem maxsi_subi_nat {a b : ℕ} (ha : a < 2 ^ 31) (hb : b < 2 ^ 31) :
    Scalar.maxsi (Scalar.subi (BitVec.ofNat 32 a) (BitVec.ofNat 32 b)) 0#32 = BitVec.ofNat 32 (a - b) :=
  eq_ofNat_of_isInt (Affine.maxsi (e := ((a - b : ℕ) : ℤ)) (ea := (a : ℤ) - b) (eb := 0)
    (Affine.subi (isInt_ofNat ha) (isInt_ofNat hb) ⟨rfl, by omega, by omega⟩) (isInt_ofNat (n := 0) (by omega))
    (by omega)) (by omega)

/-- The same with the operands of the maximum in the other order. -/
theorem maxsi_zero_subi_nat {a b : ℕ} (ha : a < 2 ^ 31) (hb : b < 2 ^ 31) :
    Scalar.maxsi 0#32 (Scalar.subi (BitVec.ofNat 32 a) (BitVec.ofNat 32 b)) = BitVec.ofNat 32 (a - b) :=
  eq_ofNat_of_isInt (Affine.maxsi (e := ((a - b : ℕ) : ℤ)) (ea := 0) (eb := (a : ℤ) - b)
    (isInt_ofNat (n := 0) (by omega)) (Affine.subi (isInt_ofNat ha) (isInt_ofNat hb) ⟨rfl, by omega, by omega⟩)
    (by omega)) (by omega)

/-- The smaller of two index words. -/
theorem minsi_nat {a b : ℕ} (ha : a < 2 ^ 31) (hb : b < 2 ^ 31) :
    Scalar.minsi (BitVec.ofNat 32 a) (BitVec.ofNat 32 b) = BitVec.ofNat 32 (min a b) :=
  eq_ofNat_of_isInt (Affine.minsi (e := ((min a b : ℕ) : ℤ)) (isInt_ofNat ha) (isInt_ofNat hb) (by omega)) (by omega)

/-- Division by one and multiplication by one leave a word as it is. -/
theorem muli_divsi_one (x : BitVec 32) : Scalar.muli (Scalar.divsi x 1#32) 1#32 = x := by
  have h := Affine.muli (Affine.divsi_one (Affine.word x) (isInt_ofNat (n := 1) (by omega)) ⟨rfl, rfl⟩)
    (isInt_ofNat (n := 1) (by omega)) (e := x.toInt) ⟨by simp, (Affine.word_range x).1, (Affine.word_range x).2⟩
  unfold Affine.IsInt at h
  exact BitVec.eq_of_toInt_eq h

/-- The kernel's rounding division: the quotient towards zero, less one where the signs differ and the remainder is
not zero. -/
def floorDiv (a b : BitVec 32) : BitVec 32 :=
  Scalar.select
    (Scalar.andi
      (Scalar.cmpi .ne
        (Scalar.subi (Scalar.extui (Scalar.cmpi .sgt a 0#32)) (Scalar.extui (Scalar.cmpi .slt a 0#32)) : BitVec 32)
        (Scalar.subi (Scalar.extui (Scalar.cmpi .sgt b 0#32)) (Scalar.extui (Scalar.cmpi .slt b 0#32))))
      (Scalar.cmpi .ne (Scalar.remsi a b) 0#32))
    (Scalar.subi (Scalar.divsi a b) 1#32) (Scalar.divsi a b)

/-- On index words the rounding division is the division of natural numbers. -/
theorem floorDiv_nat {a b : ℕ} (ha : a < 2 ^ 31) (h0 : 0 < b) (hb : b < 2 ^ 31) :
    floorDiv (BitVec.ofNat 32 a) (BitVec.ofNat 32 b) = BitVec.ofNat 32 (a / b) := by
  have hA := isInt_ofNat ha
  have hB := isInt_ofNat hb
  have hZ : Affine.IsInt 0#32 ((0 : ℕ) : ℤ) := isInt_ofNat (n := 0) (by omega)
  have hd : Affine.IsInt (Scalar.divsi (BitVec.ofNat 32 a) (BitVec.ofNat 32 b)) ((a / b : ℕ) : ℤ) :=
    Affine.divsi hA hB ⟨by push_cast; rfl, by omega, by omega⟩
  have hlt : a / b < 2 ^ 31 := lt_of_le_of_lt (Nat.div_le_self _ _) ha
  have h1 := Affine.subi hd (isInt_ofNat (n := 1) (by omega)) (e := ((a / b : ℕ) : ℤ) - 1)
    ⟨rfl, by generalize a / b = q at *; omega, by generalize a / b = q at *; omega⟩
  refine eq_ofNat_of_isInt (Affine.select_fails ?_ h1 hd rfl) hlt
  rcases Nat.eq_zero_or_pos a with rfl | hpos
  · have hr : Affine.IsInt (Scalar.remsi (BitVec.ofNat 32 0) (BitVec.ofNat 32 b)) 0 :=
      Affine.remsi hA hB ⟨by simp, by omega, by omega⟩
    exact Affine.andi_fails_right trivial (Affine.ne_fails hr hZ (by omega))
  · have e1 := Affine.extui_holds (e := 1) (Affine.sgt_holds hA hZ (by omega)) rfl
    have e2 := Affine.extui_fails (e := 0) (Affine.slt_fails hA hZ (by omega)) rfl
    have e3 := Affine.extui_holds (e := 1) (Affine.sgt_holds hB hZ (by omega)) rfl
    have e4 := Affine.extui_fails (e := 0) (Affine.slt_fails hB hZ (by omega)) rfl
    exact Affine.andi_fails_left (Affine.ne_fails (Affine.subi e1 e2 (e := 1) ⟨by omega, by omega, by omega⟩)
      (Affine.subi e3 e4 (e := 1) ⟨by omega, by omega, by omega⟩) rfl) trivial

/-- The clamped position of the word `v` in block `i`: its distance past the block's first row, between 0 and 6400. -/
def clampW (i : ℕ) (v : BitVec 32) : BitVec 32 :=
  Scalar.minsi 6400#32 (Scalar.maxsi 0#32 (Scalar.subi v (Scalar.muli (BitVec.ofNat 32 i) 6400#32)))

/-- The clamped position as a natural number. -/
def clampN (i a : ℕ) : ℕ := min 6400 (a - 6400 * i)

theorem clampN_le (i a : ℕ) : clampN i a ≤ 6400 := Nat.min_le_left _ _

theorem clampN_mono (i : ℕ) {a b : ℕ} (h : a ≤ b) : clampN i a ≤ clampN i b := by unfold clampN; omega

/-- The clamped position of a row number. -/
theorem clampW_nat {i : ℕ} {v : BitVec 32} (hi : i < 50) (hv : v.toNat ≤ 320000) :
    clampW i v = BitVec.ofNat 32 (clampN i v.toNat) := by
  obtain ⟨a, ha, rfl⟩ : ∃ a, a ≤ 320000 ∧ v = BitVec.ofNat 32 a := ⟨v.toNat, hv, by simp⟩
  have h1 : Scalar.muli (BitVec.ofNat 32 i) 6400#32 = BitVec.ofNat 32 (i * 6400) :=
    muli_nat (by omega) (by omega) (by omega)
  have h2 : (BitVec.ofNat 32 a).toNat = a := by rw [BitVec.toNat_ofNat, Nat.mod_eq_of_lt (by omega)]
  unfold clampW
  rw [h1, maxsi_zero_subi_nat (by omega) (by omega), minsi_nat (a := 6400) (by omega) (by omega), h2]
  unfold clampN
  rw [Nat.mul_comm i]

/-- The first 32-row group that begins at or after position `s`. -/
def loW (s : BitVec 32) : BitVec 32 := floorDiv (Scalar.subi (Scalar.addi s 32#32) 1#32) 32#32

theorem loW_nat {s : ℕ} (h : s ≤ 6400) : loW (BitVec.ofNat 32 s) = BitVec.ofNat 32 ((s + 31) / 32) := by
  unfold loW
  rw [addi_nat (b := 32) (by omega), subi_nat (b := 1) (by omega) (by omega), floorDiv_nat (b := 32) (by omega) (by omega) (by omega)]
  rfl

/-- The number of pairs of 32-row groups lying wholly between positions `s` and `e`. -/
def pairsW (s e : BitVec 32) : BitVec 32 :=
  floorDiv (Scalar.maxsi (Scalar.subi (floorDiv e 32#32) (loW s)) 0#32) 2#32

/-- The same count as a natural number. -/
def pairsN (s e : ℕ) : ℕ := (e / 32 - (s + 31) / 32) / 2

theorem pairsW_nat {s e : ℕ} (hs : s ≤ 6400) (he : e ≤ 6400) :
    pairsW (BitVec.ofNat 32 s) (BitVec.ofNat 32 e) = BitVec.ofNat 32 (pairsN s e) := by
  unfold pairsW pairsN
  rw [loW_nat hs, floorDiv_nat (b := 32) (by omega) (by omega) (by omega), maxsi_subi_nat (by omega) (by omega),
    floorDiv_nat (b := 2) (by omega) (by omega) (by omega)]

/-- The induction variable of a loop on index words with step one. -/
theorem iv_nat {lb k : ℕ} (h : lb + k < 2 ^ 31) :
    Scf.iv (BitVec.ofNat 32 lb) 1#32 k = BitVec.ofNat 32 (lb + k) :=
  eq_ofNat_of_isInt (Affine.iv (isInt_ofNat (by omega)) (isInt_ofNat (n := 1) (by omega)) k
    ⟨by push_cast; omega, by omega, by omega⟩) h

/-- The trip count of a loop on index words with step one. -/
theorem trips_nat {lb ub : ℕ} (hl : lb < 2 ^ 31) (hu : ub < 2 ^ 31) :
    Scf.trips (BitVec.ofNat 32 lb) (BitVec.ofNat 32 ub) 1#32 = ub - lb := by
  rw [Scf.trips]
  have h1 := isInt_ofNat hl
  have h2 := isInt_ofNat hu
  have h3 := isInt_ofNat (n := 1) (by omega)
  unfold Affine.IsInt at h1 h2 h3
  rw [h1, h2, h3]
  omega

/-- A loop on index words with step one has a meaning. -/
theorem ok_nat {lb ub : ℕ} (hl : lb < 2 ^ 31) (hu : ub < 2 ^ 31) :
    Scf.OK (BitVec.ofNat 32 lb) (BitVec.ofNat 32 ub) 1#32 := by
  have h1 := isInt_ofNat hl
  have h3 := isInt_ofNat (n := 1) (by omega)
  unfold Affine.IsInt at h1 h3
  refine ⟨by rw [h3]; omega, ?_⟩
  rw [trips_nat hl hu, h1, h3]
  omega

end Cert.SegMax
-- ==== Proof.Geometry.lean ====
/-
  Where the kernel reads and writes: the offsets of its loads, the bounds of its loops and the side conditions it
  assumes, each as natural-number arithmetic in the table words it has read.
-/
module

public import proofs.«01_k».proof.KernelIdeal
public import proofs.«01_k».proof.Proof.Words

@[expose] public section

namespace Cert.KernelIdeal

open Idealize.ShloMosaic Cert.SegMax

variable (i : grid0.Coords)

/-- A grid coordinate is below 50. -/
theorem coord_lt : (i 0).val < 50 := (i 0).isLt

/-- The word `v` is a row number of the input, or one past the last. -/
abbrev RowWord (v : BitVec 32) : Prop := v.toNat ≤ 320000

/-- The position of the word `v` inside block `i`, clamped to the block. -/
def pos (v : BitVec 32) : ℕ := clampN (i 0).val v.toNat

theorem pos_le (v : BitVec 32) : pos i v ≤ 6400 := clampN_le _ _

theorem pos_mono {v w : BitVec 32} (h : v.toNat ≤ w.toNat) : pos i v ≤ pos i w := clampN_mono _ h

theorem clampW_eq {v : BitVec 32} (h : RowWord v) : clampW (i 0).val v = BitVec.ofNat 32 (pos i v) :=
  clampW_nat (coord_lt i) h

/-- The first row of the group holding the segment's first row (the last group when that is past the block). -/
theorem off4_eq {v : BitVec 32} (h : RowWord v) :
    k0_off4 i v = ![32 * min (pos i v / 32) 199, 0] := by
  have hc := pos_le i v
  have e : Scalar.muli 32#32 (Scalar.minsi (floorDiv (clampW (i 0).val v) 32#32) 199#32)
      = BitVec.ofNat 32 (32 * min (pos i v / 32) 199) := by
    rw [clampW_eq i h, floorDiv_nat (b := 32) (by omega) (by omega) (by omega),
      minsi_nat (b := 199) (by omega) (by omega), muli_nat (a := 32) (by omega) (by omega) (by omega)]
  show ![(Scalar.muli 32#32 (Scalar.minsi (floorDiv (clampW (i 0).val v) 32#32) 199#32)).toNat, 0] = _
  rw [e, BitVec.toNat_ofNat, Nat.mod_eq_of_lt (by omega)]

/-- The first row of the group holding the segment's last row. -/
theorem off5_eq {w : BitVec 32} (h : RowWord w) :
    k0_off5 i w = ![32 * ((pos i w - 1) / 32), 0] := by
  have hc := pos_le i w
  have e : Scalar.muli 32#32 (Scalar.minsi (floorDiv (Scalar.maxsi (Scalar.subi (clampW (i 0).val w) 1#32) 0#32) 32#32) 199#32)
      = BitVec.ofNat 32 (32 * ((pos i w - 1) / 32)) := by
    rw [clampW_eq i h, maxsi_subi_nat (b := 1) (by omega) (by omega),
      floorDiv_nat (b := 32) (by omega) (by omega) (by omega),
      minsi_nat (b := 199) (by omega) (by omega), muli_nat (a := 32) (by omega) (by omega) (by omega),
      Nat.min_eq_left (by omega)]
  show ![(Scalar.muli 32#32 (Scalar.minsi (floorDiv (Scalar.maxsi (Scalar.subi (clampW (i 0).val w) 1#32) 0#32) 32#32) 199#32)).toNat, 0] = _
  rw [e, BitVec.toNat_ofNat, Nat.mod_eq_of_lt (by omega)]

/-- The first group lying wholly past the segment's first row. -/
def lo (v : BitVec 32) : ℕ := (pos i v + 31) / 32
/-- The group past the last one lying wholly before the segment's end. -/
def hi (w : BitVec 32) : ℕ := pos i w / 32
/-- The number of pairs of groups lying wholly inside the segment. -/
def pairs (v w : BitVec 32) : ℕ := (hi i w - lo i v) / 2

theorem pairsW_eq {v w : BitVec 32} (hv : RowWord v) (hw : RowWord w) :
    pairsW (clampW (i 0).val v) (clampW (i 0).val w) = BitVec.ofNat 32 (pairs i v w) := by
  rw [clampW_eq i hv, clampW_eq i hw, pairsW_nat (pos_le i v) (pos_le i w)]
  rfl

theorem loW_eq {v : BitVec 32} (hv : RowWord v) : loW (clampW (i 0).val v) = BitVec.ofNat 32 (lo i v) := by
  rw [clampW_eq i hv, loW_nat (pos_le i v), lo]

theorem hiW_eq {w : BitVec 32} (hw : RowWord w) : floorDiv (clampW (i 0).val w) 32#32 = BitVec.ofNat 32 (hi i w) := by
  have := pos_le i w
  rw [clampW_eq i hw, floorDiv_nat (b := 32) (by omega) (by omega) (by omega), hi]

theorem pairs_le (v w : BitVec 32) : lo i v + 2 * pairs i v w ≤ max (lo i v) (hi i w) := by
  unfold pairs; omega

theorem bounds (v w : BitVec 32) : lo i v ≤ 200 ∧ hi i w ≤ 200 ∧ pairs i v w ≤ 100 := by
  have := pos_le i v; have := pos_le i w
  unfold pairs lo hi; omega

/-- The paired loop runs over the pairs. -/
theorem t2_loop_eq {v w : BitVec 32} (hv : RowWord v) (hw : RowWord w) :
    k0_t2_loop i v w = ⟨0#32, BitVec.ofNat 32 (pairs i v w), 1#32⟩ := by
  have hb := bounds i v w
  show (⟨0#32, Scalar.addi 0#32 (Scalar.muli (Scalar.divsi (Scalar.subi
    (pairsW (clampW (i 0).val v) (clampW (i 0).val w)) 0#32) 1#32) 1#32), 1#32⟩ : Scf.Loop 32) = _
  rw [muli_divsi_one, pairsW_eq i hv hw, subi_nat (b := 0) (by omega) (by omega), addi_nat (a := 0) (by omega)]
  simp

/-- The paired loop's remainder runs no trip. -/
theorem t3_loop_eq {v w : BitVec 32} (hv : RowWord v) (hw : RowWord w) :
    k0_t3_loop i v w = ⟨BitVec.ofNat 32 (pairs i v w), BitVec.ofNat 32 (pairs i v w), 1#32⟩ := by
  have hb := bounds i v w
  show (⟨Scalar.addi 0#32 (Scalar.muli (Scalar.divsi (Scalar.subi
    (pairsW (clampW (i 0).val v) (clampW (i 0).val w)) 0#32) 1#32) 1#32),
    Scalar.addi 0#32 (Scalar.subi
    (pairsW (clampW (i 0).val v) (clampW (i 0).val w)) 0#32), 1#32⟩ : Scf.Loop 32) = _
  rw [muli_divsi_one, pairsW_eq i hv hw, subi_nat (b := 0) (by omega) (by omega), addi_nat (a := 0) (by omega)]
  simp

/-- The word the single-group loop starts from. -/
theorem restW_eq {v w : BitVec 32} (hv : RowWord v) (hw : RowWord w) :
    Scalar.addi (loW (clampW (i 0).val v)) (Scalar.muli 2#32 (pairsW (clampW (i 0).val v) (clampW (i 0).val w)))
      = BitVec.ofNat 32 (lo i v + 2 * pairs i v w) := by
  have hb := bounds i v w
  rw [loW_eq i hv, pairsW_eq i hv hw, muli_nat (a := 2) (by omega) (by omega) (by omega), addi_nat (by omega)]

/-- The sum of a word and a difference from it. -/
theorem addi_subi (a b : BitVec 32) : Scalar.addi a (Scalar.subi b a) = b := by
  show a + (b - a) = b
  rw [BitVec.add_comm, BitVec.sub_add_cancel]

/-- The single-group loop runs over the group left over by the pairs. -/
theorem t4_loop_eq {v w : BitVec 32} (hv : RowWord v) (hw : RowWord w) :
    k0_t4_loop i v w = ⟨BitVec.ofNat 32 (lo i v + 2 * pairs i v w), BitVec.ofNat 32 (hi i w), 1#32⟩ := by
  show (⟨Scalar.addi (loW (clampW (i 0).val v)) (Scalar.muli 2#32 (pairsW (clampW (i 0).val v) (clampW (i 0).val w))),
    Scalar.addi (Scalar.addi (loW (clampW (i 0).val v)) (Scalar.muli 2#32 (pairsW (clampW (i 0).val v) (clampW (i 0).val w))))
      (Scalar.muli (Scalar.divsi (Scalar.subi (floorDiv (clampW (i 0).val w) 32#32)
        (Scalar.addi (loW (clampW (i 0).val v)) (Scalar.muli 2#32 (pairsW (clampW (i 0).val v) (clampW (i 0).val w)))))
        1#32) 1#32), 1#32⟩ : Scf.Loop 32) = _
  rw [muli_divsi_one, addi_subi, restW_eq i hv hw, hiW_eq i hw]

/-- Its remainder runs no trip. -/
theorem t5_loop_eq {v w : BitVec 32} (hv : RowWord v) (hw : RowWord w) :
    k0_t5_loop i v w = ⟨BitVec.ofNat 32 (hi i w), BitVec.ofNat 32 (hi i w), 1#32⟩ := by
  show (⟨Scalar.addi (Scalar.addi (loW (clampW (i 0).val v)) (Scalar.muli 2#32 (pairsW (clampW (i 0).val v) (clampW (i 0).val w))))
      (Scalar.muli (Scalar.divsi (Scalar.subi (floorDiv (clampW (i 0).val w) 32#32)
        (Scalar.addi (loW (clampW (i 0).val v)) (Scalar.muli 2#32 (pairsW (clampW (i 0).val v) (clampW (i 0).val w)))))
        1#32) 1#32),
    Scalar.addi (Scalar.addi (loW (clampW (i 0).val v)) (Scalar.muli 2#32 (pairsW (clampW (i 0).val v) (clampW (i 0).val w))))
      (Scalar.subi (floorDiv (clampW (i 0).val w) 32#32)
        (Scalar.addi (loW (clampW (i 0).val v)) (Scalar.muli 2#32 (pairsW (clampW (i 0).val v) (clampW (i 0).val w))))), 1#32⟩
    : Scf.Loop 32) = _
  rw [muli_divsi_one, addi_subi, hiW_eq i hw]

variable {i} in
theorem t2_trips {v w : BitVec 32} (hv : RowWord v) (hw : RowWord w) : (k0_t2_loop i v w).trips = pairs i v w := by
  have hb := bounds i v w
  rw [t2_loop_eq i hv hw]
  exact (trips_nat (lb := 0) (by omega) (by omega)).trans (Nat.sub_zero _)

variable {i} in
theorem t3_trips {v w : BitVec 32} (hv : RowWord v) (hw : RowWord w) : (k0_t3_loop i v w).trips = 0 := by
  have hb := bounds i v w
  rw [t3_loop_eq i hv hw]
  exact (trips_nat (by omega) (by omega)).trans (Nat.sub_self _)

variable {i} in
theorem t4_trips {v w : BitVec 32} (hv : RowWord v) (hw : RowWord w) :
    (k0_t4_loop i v w).trips = hi i w - (lo i v + 2 * pairs i v w) := by
  have hb := bounds i v w
  rw [t4_loop_eq i hv hw]
  exact trips_nat (by omega) (by omega)

variable {i} in
theorem t5_trips {v w : BitVec 32} (hv : RowWord v) (hw : RowWord w) : (k0_t5_loop i v w).trips = 0 := by
  have hb := bounds i v w
  rw [t5_loop_eq i hv hw]
  exact (trips_nat (by omega) (by omega)).trans (Nat.sub_self _)

/-- The first row of the first group of pair `t`. -/
theorem off6_eq {v w : BitVec 32} (hv : RowWord v) (hw : RowWord w) (t : Fin (k0_t2_loop i v w).trips) :
    k0_off6 i v w t = ![32 * (lo i v + 2 * t.val), 0] := by
  have hb := bounds i v w
  have ht : t.val < pairs i v w := t2_trips hv hw ▸ t.isLt
  have e : Scalar.muli 32#32 (Scalar.addi (loW (clampW (i 0).val v)) (Scalar.muli 2#32 (Scf.iv 0#32 1#32 t.val)))
      = BitVec.ofNat 32 (32 * (lo i v + 2 * t.val)) := by
    rw [loW_eq i hv, iv_nat (lb := 0) (by omega), muli_nat (a := 2) (by omega) (by omega) (by omega),
      addi_nat (by omega), muli_nat (a := 32) (by omega) (by omega) (by omega), Nat.zero_add]
  show ![(Scalar.muli 32#32 (Scalar.addi (loW (clampW (i 0).val v)) (Scalar.muli 2#32 (Scf.iv 0#32 1#32 t.val)))).toNat, 0] = _
  rw [e, BitVec.toNat_ofNat, Nat.mod_eq_of_lt (by omega)]

/-- The first row of the second group of pair `t`. -/
theorem off7_eq {v w : BitVec 32} (hv : RowWord v) (hw : RowWord w) (t : Fin (k0_t2_loop i v w).trips) :
    k0_off7 i v w t = ![32 * (lo i v + 2 * t.val + 1), 0] := by
  have hb := bounds i v w
  have ht : t.val < pairs i v w := t2_trips hv hw ▸ t.isLt
  have e : Scalar.muli 32#32 (Scalar.addi (Scalar.addi (loW (clampW (i 0).val v)) (Scalar.muli 2#32 (Scf.iv 0#32 1#32 t.val))) 1#32)
      = BitVec.ofNat 32 (32 * (lo i v + 2 * t.val + 1)) := by
    rw [loW_eq i hv, iv_nat (lb := 0) (by omega), muli_nat (a := 2) (by omega) (by omega) (by omega),
      addi_nat (by omega), addi_nat (b := 1) (by omega), muli_nat (a := 32) (by omega) (by omega) (by omega), Nat.zero_add]
  show ![(Scalar.muli 32#32 (Scalar.addi (Scalar.addi (loW (clampW (i 0).val v)) (Scalar.muli 2#32 (Scf.iv 0#32 1#32 t.val))) 1#32)).toNat, 0] = _
  rw [e, BitVec.toNat_ofNat, Nat.mod_eq_of_lt (by omega)]

/-- The first row of the group left over by the pairs. -/
theorem off10_eq {v w : BitVec 32} (hv : RowWord v) (hw : RowWord w) (t : Fin (k0_t4_loop i v w).trips) :
    k0_off10 i v w t = ![32 * (lo i v + 2 * pairs i v w + t.val), 0] := by
  have hb := bounds i v w
  have ht : t.val < hi i w - (lo i v + 2 * pairs i v w) := t4_trips hv hw ▸ t.isLt
  have e : Scalar.muli 32#32 (Scf.iv (Scalar.addi (loW (clampW (i 0).val v)) (Scalar.muli 2#32 (pairsW (clampW (i 0).val v) (clampW (i 0).val w)))) 1#32 t.val)
      = BitVec.ofNat 32 (32 * (lo i v + 2 * pairs i v w + t.val)) := by
    rw [restW_eq i hv hw, iv_nat (by omega), muli_nat (a := 32) (by omega) (by omega) (by omega)]
  show ![(Scalar.muli 32#32 (Scf.iv (Scalar.addi (loW (clampW (i 0).val v)) (Scalar.muli 2#32 (pairsW (clampW (i 0).val v) (clampW (i 0).val w)))) 1#32 t.val)).toNat, 0] = _
  rw [e, BitVec.toNat_ofNat, Nat.mod_eq_of_lt (by omega)]

/-- A rank-2 window of 32 rows at row `o ≤ 6368` lies in the block. -/
theorem inb_slab {o : ℕ} (h : o + 32 ≤ 6400) : ∀ a, (![o, 0] : Fin 2 → ℕ) a + S32x128.size a ≤ S6400x128.size a :=
  Fin.forall_fin_two.mpr ⟨h, le_refl 128⟩

/-- The group holding a segment's first row lies in the block. -/
theorem chk2_of {v : BitVec 32} (hv : RowWord v) : k0_chk2 i v := by
  unfold k0_chk2
  rw [off4_eq i hv]
  exact inb_slab (by omega)

/-- Every group a segment's walk reads lies in the block. -/
theorem chk3_of {v w : BitVec 32} (hv : RowWord v) (hw : RowWord w) : k0_chk3 i v w := by
  have hb := bounds i v w
  have hp := pos_le i w
  have hq := pairs_le i v w
  have hl : hi i w = pos i w / 32 := rfl
  unfold k0_chk3
  refine ⟨by rw [off5_eq i hw]; exact inb_slab (by omega), ?_, fun t => ?_, fun t => ?_, ?_, fun t => ?_, fun t => ?_, ?_,
    fun t => ?_, ?_, fun t => ?_⟩
  · rw [t2_loop_eq i hv hw]; exact ok_nat (lb := 0) (by omega) (by omega)
  · have ht : t.val < pairs i v w := t2_trips hv hw ▸ t.isLt
    rw [off6_eq i hv hw]; exact inb_slab (by omega)
  · have ht : t.val < pairs i v w := t2_trips hv hw ▸ t.isLt
    rw [off7_eq i hv hw]; exact inb_slab (by omega)
  · rw [t3_loop_eq i hv hw]; exact ok_nat (by omega) (by omega)
  · exact absurd (t3_trips hv hw ▸ t.isLt : t.val < 0) (by omega)
  · exact absurd (t3_trips hv hw ▸ t.isLt : t.val < 0) (by omega)
  · rw [t4_loop_eq i hv hw]; exact ok_nat (by omega) (by omega)
  · have ht : t.val < hi i w - (lo i v + 2 * pairs i v w) := t4_trips hv hw ▸ t.isLt
    rw [off10_eq i hv hw]; exact inb_slab (by omega)
  · rw [t5_loop_eq i hv hw]; exact ok_nat (by omega) (by omega)
  · exact absurd (t5_trips hv hw ▸ t.isLt : t.val < 0) (by omega)

/-- The words of a block's first and last segment: both are segment numbers, in order. -/
structure SegWords (v20 v22 : BitVec 32) : Prop where
  le : v20.toNat ≤ v22.toNat
  lt : v22.toNat < 512

variable {v20 v22 : BitVec 32}

theorem ofNat_toNat' (v : BitVec 32) : v = BitVec.ofNat 32 v.toNat := by simp

/-- The walk over a block's segments. -/
theorem t1_loop_eq (h : SegWords v20 v22) :
    k0_t1_loop v20 v22 = ⟨BitVec.ofNat 32 v20.toNat, BitVec.ofNat 32 (v22.toNat + 1), 1#32⟩ := by
  have h1 := h.le; have h2 := h.lt
  show (⟨v20, Scalar.addi v20 (Scalar.muli (Scalar.divsi (Scalar.subi (Scalar.addi v22 1#32) v20) 1#32) 1#32), 1#32⟩ : Scf.Loop 32) = _
  rw [muli_divsi_one, addi_subi]
  have e : Scalar.addi v22 1#32 = BitVec.ofNat 32 (v22.toNat + 1) := by
    conv_lhs => rw [ofNat_toNat' v22]
    exact addi_nat (b := 1) (by omega)
  rw [e, ← ofNat_toNat' v20]

/-- Its remainder runs no trip. -/
theorem t6_loop_eq (h : SegWords v20 v22) :
    k0_t6_loop v20 v22 = ⟨BitVec.ofNat 32 (v22.toNat + 1), BitVec.ofNat 32 (v22.toNat + 1), 1#32⟩ := by
  have h1 := h.le; have h2 := h.lt
  show (⟨Scalar.addi v20 (Scalar.muli (Scalar.divsi (Scalar.subi (Scalar.addi v22 1#32) v20) 1#32) 1#32),
    Scalar.addi v20 (Scalar.subi (Scalar.addi v22 1#32) v20), 1#32⟩ : Scf.Loop 32) = _
  rw [muli_divsi_one, addi_subi]
  have e : Scalar.addi v22 1#32 = BitVec.ofNat 32 (v22.toNat + 1) := by
    conv_lhs => rw [ofNat_toNat' v22]
    exact addi_nat (b := 1) (by omega)
  rw [e]

theorem t1_trips (h : SegWords v20 v22) : (k0_t1_loop v20 v22).trips = v22.toNat + 1 - v20.toNat := by
  have h1 := h.le; have h2 := h.lt
  rw [t1_loop_eq h]
  exact trips_nat (by omega) (by omega)

theorem t6_trips (h : SegWords v20 v22) : (k0_t6_loop v20 v22).trips = 0 := by
  have h1 := h.le; have h2 := h.lt
  rw [t6_loop_eq h]
  exact (trips_nat (by omega) (by omega)).trans (Nat.sub_self _)

/-- The segment walked at trip `t`. -/
theorem seg_iv (h : SegWords v20 v22) (t : Fin (k0_t1_loop v20 v22).trips) :
    Scf.iv v20 1#32 t.val = BitVec.ofNat 32 (v20.toNat + t.val) := by
  have h1 := h.le; have h2 := h.lt
  have ht : t.val < v22.toNat + 1 - v20.toNat := t1_trips h ▸ t.isLt
  generalize t.val = k at ht ⊢
  conv_lhs => rw [ofNat_toNat' v20]
  exact iv_nat (by omega)

theorem off2_eq (h : SegWords v20 v22) (t : Fin (k0_t1_loop v20 v22).trips) :
    k0_off2 v20 v22 t = ![v20.toNat + t.val] := by
  have h1 := h.le; have h2 := h.lt
  have ht : t.val < v22.toNat + 1 - v20.toNat := t1_trips h ▸ t.isLt
  show ![(Scf.iv v20 1#32 t.val).toNat] = _
  rw [seg_iv h, BitVec.toNat_ofNat, Nat.mod_eq_of_lt (by omega)]

theorem off3_eq (h : SegWords v20 v22) (t : Fin (k0_t1_loop v20 v22).trips) :
    k0_off3 v20 v22 t = ![v20.toNat + t.val + 1] := by
  have h1 := h.le; have h2 := h.lt
  have ht : t.val < v22.toNat + 1 - v20.toNat := t1_trips h ▸ t.isLt
  show ![(Scalar.addi (Scf.iv v20 1#32 t.val) 1#32).toNat] = _
  rw [seg_iv h, addi_nat (b := 1) (by omega), BitVec.toNat_ofNat, Nat.mod_eq_of_lt (by omega)]

theorem off12_eq (h : SegWords v20 v22) (t : Fin (k0_t1_loop v20 v22).trips) :
    k0_off12 v20 v22 t = ![v20.toNat + t.val, 0] := by
  have h1 := h.le; have h2 := h.lt
  have ht : t.val < v22.toNat + 1 - v20.toNat := t1_trips h ▸ t.isLt
  show ![(Scf.iv v20 1#32 t.val).toNat, 0] = _
  rw [seg_iv h, BitVec.toNat_ofNat, Nat.mod_eq_of_lt (by omega)]

/-- The walk over a block's segments stays inside the tables and the accumulator. -/
theorem chk1_of (h : SegWords v20 v22) : k0_chk1 v20 v22 := by
  have h1 := h.le; have h2 := h.lt
  have ht (t : Fin (k0_t1_loop v20 v22).trips) : t.val < v22.toNat + 1 - v20.toNat := t1_trips h ▸ t.isLt
  have h6 (t : Fin (k0_t6_loop v20 v22).trips) : False := absurd (t6_trips h ▸ t.isLt : t.val < 0) (by omega)
  unfold k0_chk1
  refine ⟨?_, fun t => ?_, fun t => ?_, fun t => ?_, ?_, fun t => (h6 t).elim, fun t => (h6 t).elim, fun t => (h6 t).elim⟩
  · rw [t1_loop_eq h]; exact ok_nat (by omega) (by omega)
  · have := ht t
    rw [off2_eq h]
    exact fun a => by rw [Subsingleton.elim a 0]; show v20.toNat + t.val + 1 ≤ 513; omega
  · have := ht t
    rw [off3_eq h]
    exact fun a => by rw [Subsingleton.elim a 0]; show v20.toNat + t.val + 1 + 1 ≤ 513; omega
  · have := ht t
    rw [off12_eq h]
    exact Fin.forall_fin_two.mpr ⟨by show v20.toNat + t.val + 1 ≤ 512; omega, le_refl 128⟩
  · rw [t6_loop_eq h]; exact ok_nat (by omega) (by omega)

end Cert.KernelIdeal
-- ==== Proof.Walk.lean ====
/-
  What one grid point computes from its block and its table words: for every segment that has rows in the block, the
  maximum of those rows, folded into that segment's row of the accumulator. Stated over the kernel's own payloads, for
  any float operations.
-/
module

public import proofs.«01_k».proof.Proof.Gen.KernelIdeal.Skeleton
public import proofs.«01_k».proof.Proof.Geometry
public import Idealize.ShloMosaic.Lib.Pointwise.Index

@[expose] public section

noncomputable section

namespace Cert.KernelIdeal

open Idealize.ShloMosaic Cert.SegMax Cert.KernelIdeal.Gen

variable {F : FTy → Type} [FloatOps F]

/-- The 32 rows of the block from row `o`. -/
def slab (h : Vec F S6400x128 .f32) (o : ℕ) : Vec F S32x128 .f32 := fun j =>
  h (ix2 ⟨(o + (j 0).val) % 6400, Nat.mod_lt _ (by decide)⟩ (j 1))

/-- Row `s` of the accumulator. -/
def row (g : Vec F S512x128 .f32) (s : ℕ) : Vec F S1x128 .f32 := fun j =>
  g (ix2 ⟨s % 512, Nat.mod_lt _ (by decide)⟩ (j 1))

/-- The accumulator with row `s` replaced. -/
def putRow (g : Vec F S512x128 .f32) (s : ℕ) (r : Vec F S1x128 .f32) : Vec F S512x128 .f32 := fun j =>
  if (j 0).val = s then r (ix2 0 (j 1)) else g j

/-- The two running maxima after `n` pairs of groups from group `o`. -/
def pairsMax (h : Vec F S6400x128 .f32) (o : ℕ) (acc : Vec F S32x128 .f32 × Vec F S32x128 .f32) :
    ℕ → Vec F S32x128 .f32 × Vec F S32x128 .f32
  | 0 => acc
  | n + 1 => (k0_pay16 (pairsMax h o acc n).1 (slab h (32 * (o + 2 * n))),
      k0_pay17 (pairsMax h o acc n).2 (slab h (32 * (o + 2 * n + 1))))

theorem pairsMax_succ (h : Vec F S6400x128 .f32) (o : ℕ) (acc : Vec F S32x128 .f32 × Vec F S32x128 .f32) (n : ℕ) :
    pairsMax h o acc (n + 1) = (k0_pay16 (pairsMax h o acc n).1 (slab h (32 * (o + 2 * n))),
      k0_pay17 (pairsMax h o acc n).2 (slab h (32 * (o + 2 * n + 1)))) := rfl

/-- The running maximum after `n` single groups from group `o`. -/
def restMax (h : Vec F S6400x128 .f32) (o : ℕ) (acc : Vec F S32x128 .f32) : ℕ → Vec F S32x128 .f32
  | 0 => acc
  | n + 1 => k0_pay20 (restMax h o acc n) (slab h (32 * (o + n)))

theorem restMax_succ (h : Vec F S6400x128 .f32) (o : ℕ) (acc : Vec F S32x128 .f32) (n : ℕ) :
    restMax h o acc (n + 1) = k0_pay20 (restMax h o acc n) (slab h (32 * (o + n))) := rfl

variable (i : grid0.Coords)

/-- The position inside the block of the row number `v`, as the kernel's word. -/
abbrev posW (v : BitVec 32) : BitVec 32 := clampW (i 0).val v

/-- The row numbers 0 to 31. -/
abbrev lanes : IVec S32x1 32 := iota .tc S32x1 32 [0] iota_S32x1_d0_w32

/-- The group that holds the segment's first row, with the rows outside the segment at -∞. -/
def firstGroup (h : Vec F S6400x128 .f32) (v w : BitVec 32) : Vec F S32x128 .f32 :=
  k0_pay9 lanes (k0_pay15 (F := F)) (posW i v) (posW i w) (Scalar.minsi (floorDiv (posW i v) 32#32) 199#32)
    (slab h (32 * min (pos i v / 32) 199))

/-- The last row of the segment inside the block, as the kernel's word. -/
abbrev lastW (w : BitVec 32) : BitVec 32 := Scalar.maxsi (Scalar.subi (posW i w) 1#32) 0#32

/-- The group that holds the segment's last row, with the rows outside the segment at -∞. -/
def lastGroup (h : Vec F S6400x128 .f32) (v w : BitVec 32) : Vec F S32x128 .f32 :=
  k0_pay10 lanes (k0_pay15 (F := F)) (posW i v) (posW i w) (lastW i w) 32#32
    (Scalar.divsi (lastW i w) 32#32)
    (Scalar.subi (Scalar.extui (Scalar.cmpi .sgt (lastW i w) 0#32)) (Scalar.extui (Scalar.cmpi .slt (lastW i w) 0#32)))
    (Scalar.cmpi .sgt 32#32 0#32) (slab h (32 * ((pos i w - 1) / 32)))

/-- A segment's row of the accumulator once the rows from `v` to `w` of the block are folded in. -/
def foldRow (h : Vec F S6400x128 .f32) (v w : BitVec 32) (r : Vec F S1x128 .f32) : Vec F S1x128 .f32 :=
  k0_pay22 (pairsMax h (lo i v) (firstGroup i h v w, lastGroup i h v w) (pairs i v w)).2
    (restMax h (lo i v + 2 * pairs i v w) (pairsMax h (lo i v) (firstGroup i h v w, lastGroup i h v w) (pairs i v w)).1
      (hi i w - (lo i v + 2 * pairs i v w))) r

/-- The first row of segment `s`, read off the table. -/
abbrev startW (T : IVec S513 32) (s : ℕ) : BitVec 32 := T (ix1 ⟨s % 513, Nat.mod_lt _ (by decide)⟩)

/-- The accumulator after segment `s` is folded. -/
def foldSeg (T : IVec S513 32) (h : Vec F S6400x128 .f32) (s : ℕ) (g : Vec F S512x128 .f32) : Vec F S512x128 .f32 :=
  putRow g s (foldRow i h (startW T s) (startW T (s + 1)) (row g s))

/-- The accumulator after the `n` segments from `a` are folded. -/
def foldSegs (T : IVec S513 32) (h : Vec F S6400x128 .f32) (a : ℕ) (g : Vec F S512x128 .f32) : ℕ → Vec F S512x128 .f32
  | 0 => g
  | n + 1 => foldSeg i T h (a + n) (foldSegs T h a g n)

end Cert.KernelIdeal
-- ==== Proof.Trip.lean ====
/-
  One trip of the walk over a block's segments, run on the machine: it leaves the block and the table as they were and
  folds one segment into the accumulator.
-/
module

public import proofs.«01_k».proof.Proof.Gen.KernelIdeal.Loops
public import proofs.«01_k».proof.Proof.Walk
public import Idealize.ShloMosaic.Lib.WholeRead
public import Idealize.ShloMosaic.Lib.WritesUnit

@[expose] public section

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.SegMax Cert.KernelIdeal.Gen

variable {F : FTy → Type} [FloatOps F]

local notation "𝕄" => MT nD τ sig Unit (Elt F) ℕ (UR sig nD τ) ℕ

/-! ## Reads of whole memrefs -/

/-- A load of 32 rows of the block. -/
theorem readAt_slab {m : Memref sig .tc .vmem S6400x128 .f32} (hm : m.IsWhole) (h : Vec F S6400x128 .f32) {off : Fin 2 → ℕ} {o : ℕ}
    (ho : off = ![o, 0]) (inb : ∀ a, off a + S32x128.size a ≤ S6400x128.size a) :
    m.view.readAt (Elt F) (Rect.unit (s := S6400x128) off S32x128.size inb).toLoadRect (hm.unread h) = slab h o := by
  subst ho
  have h0 : o + 32 ≤ 6400 := inb 0
  funext j
  rw [hm.readAt_unread]
  unfold slab
  congr 1
  rw [eq_ix2 ((Rect.unit (s := S6400x128) ![o, 0] S32x128.size inb).toLoadRect.idx j)]
  congr 1
  · apply Fin.ext
    have hj : (j 0).val < 32 := (j 0).isLt
    show o + 1 * (j 0).val = (o + (j 0).val) % 6400
    rw [Nat.mod_eq_of_lt (by omega)]; omega
  · apply Fin.ext
    show 0 + 1 * (j 1).val = (j 1).val
    omega

/-- A load of one row of the accumulator. -/
theorem readAt_row {m : Memref sig .tc .vmem S512x128 .f32} (hm : m.IsWhole) (g : Vec F S512x128 .f32) {off : Fin 2 → ℕ} {s : ℕ}
    (ho : off = ![s, 0]) (inb : ∀ a, off a + S1x128.size a ≤ S512x128.size a) :
    m.view.readAt (Elt F) (Rect.unit (s := S512x128) off S1x128.size inb).toLoadRect (hm.unread g) = row g s := by
  subst ho
  have h0 : s + 1 ≤ 512 := inb 0
  funext j
  rw [hm.readAt_unread]
  unfold row
  congr 1
  rw [eq_ix2 ((Rect.unit (s := S512x128) ![s, 0] S1x128.size inb).toLoadRect.idx j)]
  congr 1
  · apply Fin.ext
    have hj : (j 0).val < 1 := (j 0).isLt
    show s + 1 * (j 0).val = s % 512
    rw [Nat.mod_eq_of_lt (by omega)]; omega
  · apply Fin.ext
    show 0 + 1 * (j 1).val = (j 1).val
    omega

/-- A load of one table word. -/
theorem readAt_word {m : Memref sig .tc .smem S513 .i32} (hm : m.IsWhole) (T : Vec F S513 .i32) {off : Fin 1 → ℕ} {s : ℕ}
    (ho : off = ![s]) (inb : ∀ a, off a + S1.size a ≤ S513.size a) (x) :
    m.view.readAt (Elt F) (Rect.unit (s := S513) off S1.size inb).toLoadRect (hm.unread T) x = startW T s := by
  subst ho
  have h0 : s + 1 ≤ 513 := inb 0
  rw [hm.readAt_unread]
  congr 1
  rw [eq_ix1 ((Rect.unit (s := S513) ![s] S1.size inb).toLoadRect.idx x)]
  congr 1
  apply Fin.ext
  have hj : (x 0).val < 1 := (x 0).isLt
  show s + 1 * (x 0).val = s % 513
  rw [Nat.mod_eq_of_lt (by omega)]; omega

/-! ## The inner loops' values -/

section Inner
variable (c : Dev nD) (i : grid0.Coords)
  (arg1 : Memref sig .tc .smem S50 .i32) (harg1 : arg1.IsWhole) (arg2 : Memref sig .tc .smem S50 .i32) (harg2 : arg2.IsWhole)
  (arg3 : Memref sig .tc .smem S513 .i32) (harg3 : arg3.IsWhole) (arg4 : Memref sig .tc .vmem S6400x128 .f32) (harg4 : arg4.IsWhole)
  (arg5 : Memref sig .tc .vmem S6400x3 .f32) (harg5 : arg5.IsWhole) (arg6 : Memref sig .tc .vmem S128x128 .f32) (harg6 : arg6.IsWhole)
  (arg7 : Memref sig .tc .vmem S3x128 .f32) (harg7 : arg7.IsWhole) (arg8 : Memref sig .tc .vmem S1x128 .f32) (harg8 : arg8.IsWhole)
  (arg9 : Memref sig .tc .vmem S512x128 .f32) (harg9 : arg9.IsWhole) (arg10 : Memref sig .tc .vmem S6400x128 .f32) (harg10 : arg10.IsWhole)

/-- The paired loop's carried values are the running maxima over the pairs. -/
theorem st_t2 (h : Vec F S6400x128 .f32) (v w : BitVec 32) (hv : RowWord v) (hw : RowWord w) (hc : k0_chk3 i v w)
    (init : Vec F S32x128 .f32 × Vec F S32x128 .f32) (k : ℕ) (hk : k ≤ (k0_t2_loop i v w).trips) :
    Gen.st_k0_t2 (F := F) Variants.none c none i arg1 harg1 arg2 harg2 arg3 harg3 arg4 harg4 arg5 harg5 arg6 harg6 arg7 harg7 arg8 harg8
      arg9 harg9 arg10 harg10 v w hc (harg10.unread h) init k = pairsMax h (lo i v) init k := by
  induction k with
  | zero => exact Gen.st_k0_t2_zero ..
  | succ k ih =>
    have e := Gen.st_k0_t2_succ (F := F) Variants.none c none i arg1 harg1 arg2 harg2 arg3 harg3 arg4 harg4 arg5 harg5 arg6 harg6 arg7 harg7
      arg8 harg8 arg9 harg9 arg10 harg10 v w hc (harg10.unread h) init ⟨k, hk⟩
    rw [e]
    rw [ih (by omega), pairsMax_succ]
    unfold Gen.tripR_k0_t2 Gen.trip_k0_t2
    rw [← readAt_slab harg10 h (off6_eq i hv hw ⟨k, hk⟩) (k0_off6_inb i v w hc ⟨k, hk⟩),
      ← readAt_slab harg10 h (off7_eq i hv hw ⟨k, hk⟩) (k0_off7_inb i v w hc ⟨k, hk⟩)]

/-- The single-group loop's carried value is the running maximum over those groups. -/
theorem st_t4 (h : Vec F S6400x128 .f32) (v w : BitVec 32) (hv : RowWord v) (hw : RowWord w) (hc : k0_chk3 i v w)
    (init : Vec F S32x128 .f32) (k : ℕ) (hk : k ≤ (k0_t4_loop i v w).trips) :
    Gen.st_k0_t4 (F := F) Variants.none c none i arg1 harg1 arg2 harg2 arg3 harg3 arg4 harg4 arg5 harg5 arg6 harg6 arg7 harg7 arg8 harg8
      arg9 harg9 arg10 harg10 v w hc (harg10.unread h) init k = restMax h (lo i v + 2 * pairs i v w) init k := by
  induction k with
  | zero => exact Gen.st_k0_t4_zero ..
  | succ k ih =>
    have e := Gen.st_k0_t4_succ (F := F) Variants.none c none i arg1 harg1 arg2 harg2 arg3 harg3 arg4 harg4 arg5 harg5 arg6 harg6 arg7 harg7
      arg8 harg8 arg9 harg9 arg10 harg10 v w hc (harg10.unread h) init ⟨k, hk⟩
    rw [e]
    rw [ih (by omega), restMax_succ]
    unfold Gen.tripR_k0_t4 Gen.trip_k0_t4
    rw [← readAt_slab harg10 h (off10_eq i hv hw ⟨k, hk⟩) (k0_off10_inb i v w hc ⟨k, hk⟩)]

/-- The row one trip stores, at the values the loops leave, is the folded row. -/
theorem foldRow_eq (h : Vec F S6400x128 .f32) (v w : BitVec 32) (hv : RowWord v) (hw : RowWord w) (hc2 : k0_chk2 i v) (hc : k0_chk3 i v w)
    (r : Vec F S1x128 .f32) :
    (let v97 := arg10.view.readAt (Elt F) (Rect.unit (s := S6400x128) (k0_off4 i v) S32x128.size (k0_off4_inb i v hc2)).toLoadRect (harg10.unread h)
     let v108 := arg10.view.readAt (Elt F) (Rect.unit (s := S6400x128) (k0_off5 i w) S32x128.size (k0_off5_inb i v w hc)).toLoadRect (harg10.unread h)
     let a := k0_pay9 lanes (k0_pay15 (F := F)) (posW i v) (posW i w) (Scalar.minsi (floorDiv (posW i v) 32#32) 199#32) v97
     let b := k0_pay10 lanes (k0_pay15 (F := F)) (posW i v) (posW i w) (lastW i w) 32#32
      (Scalar.divsi (lastW i w) 32#32)
      (Scalar.subi (Scalar.extui (Scalar.cmpi .sgt (lastW i w) 0#32)) (Scalar.extui (Scalar.cmpi .slt (lastW i w) 0#32)))
      (Scalar.cmpi .sgt 32#32 0#32) v108
     let p2 := Gen.st_k0_t2 (F := F) Variants.none c none i arg1 harg1 arg2 harg2 arg3 harg3 arg4 harg4 arg5 harg5 arg6 harg6 arg7 harg7 arg8 harg8
      arg9 harg9 arg10 harg10 v w hc (harg10.unread h) (a, b) (k0_t2_loop i v w).trips
     let p3 := Gen.st_k0_t3 (F := F) Variants.none c none i arg1 harg1 arg2 harg2 arg3 harg3 arg4 harg4 arg5 harg5 arg6 harg6 arg7 harg7 arg8 harg8
      arg9 harg9 arg10 harg10 v w hc (harg10.unread h) (p2.1, p2.2) (k0_t3_loop i v w).trips
     let p4 := Gen.st_k0_t4 (F := F) Variants.none c none i arg1 harg1 arg2 harg2 arg3 harg3 arg4 harg4 arg5 harg5 arg6 harg6 arg7 harg7 arg8 harg8
      arg9 harg9 arg10 harg10 v w hc (harg10.unread h) p3.1 (k0_t4_loop i v w).trips
     let p5 := Gen.st_k0_t5 (F := F) Variants.none c none i arg1 harg1 arg2 harg2 arg3 harg3 arg4 harg4 arg5 harg5 arg6 harg6 arg7 harg7 arg8 harg8
      arg9 harg9 arg10 harg10 v w hc (harg10.unread h) p4 (k0_t5_loop i v w).trips
     k0_pay22 p3.2 p5 r) = foldRow i h v w r := by
  extract_lets v97 v108 a b p2 p3 p4 p5
  have h3 : p3 = (p2.1, p2.2) := by
    dsimp only [p3]
    rw [t3_trips hv hw]; exact Gen.st_k0_t3_zero ..
  have h5 : p5 = p4 := by
    dsimp only [p5]
    rw [t5_trips hv hw]; exact Gen.st_k0_t5_zero ..
  have h2 : p2 = pairsMax h (lo i v) (a, b) (pairs i v w) :=
    (st_t2 (F := F) c i arg1 harg1 arg2 harg2 arg3 harg3 arg4 harg4 arg5 harg5 arg6 harg6 arg7 harg7 arg8 harg8
      arg9 harg9 arg10 harg10 h v w hv hw hc (a, b) _ le_rfl).trans (by rw [t2_trips hv hw])
  have h4 : p4 = restMax h (lo i v + 2 * pairs i v w) p3.1 (hi i w - (lo i v + 2 * pairs i v w)) :=
    (st_t4 (F := F) c i arg1 harg1 arg2 harg2 arg3 harg3 arg4 harg4 arg5 harg5 arg6 harg6 arg7 harg7 arg8 harg8
      arg9 harg9 arg10 harg10 h v w hv hw hc p3.1 _ le_rfl).trans (by rw [t4_trips hv hw])
  have ha : a = firstGroup i h v w := by
    have e : v97 = slab h (32 * min (pos i v / 32) 199) := readAt_slab harg10 h (off4_eq i hv) _
    dsimp only [a]; rw [e]; rfl
  have hb : b = lastGroup i h v w := by
    have e : v108 = slab h (32 * ((pos i w - 1) / 32)) := readAt_slab harg10 h (off5_eq i hw) _
    dsimp only [b]; rw [e]; rfl
  rw [h5, h4, h3, h2, ha, hb]; rfl

/-- Storing a row into the accumulator. -/
theorem write_row {m : Memref sig .tc .vmem S512x128 .f32} (hm : m.IsWhole) (g : Vec F S512x128 .f32) {off : Fin 2 → ℕ} {s : ℕ} (ho : off = ![s, 0])
    (inb : ∀ a, off a + S1x128.size a ≤ S512x128.size a) (r : Vec F S1x128 .f32) :
    m.view.writes (Elt F) (hm.unread g) [⟨Rect.unit (s := S512x128) off S1x128.size inb, r⟩] = hm.unread (putRow g s r) := by
  subst ho
  apply hm.eq_unread
  have h0 : s + 1 ≤ 512 := inb 0
  funext y
  by_cases hy : (y 0).val = s
  · rw [View.read_writes_cons_rows_of_mem (o := s) m.view (hm.unread g) inb r [] y (ix2 0 (y 1)) rfl (by simp [hy]) rfl]
    unfold putRow; rw [if_pos hy]
  · rw [View.read_writes_cons_rows_of_not_mem (o := s) (W := 1) m.view (hm.unread g) inb r [] y rfl rfl (by omega)]
    unfold putRow; rw [if_neg hy]
    exact congrFun (hm.read_unread g) y

variable {i}

/-- One trip folds one segment into the accumulator. -/
theorem trip_run {v20 v22 : BitVec 32} (hs : SegWords v20 v22) (hc : k0_chk1 v20 v22) (T : Vec F S513 .i32) (hT : ∀ x, RowWord (T x))
    (h : Vec F S6400x128 .f32) (g : Vec F S512x128 .f32) (k : Fin (k0_t1_loop v20 v22).trips) (acc : Unit) :
    iprop((arg3.view.loc (c : Thread nD τ) ↦{fullShare.right} harg3.unread T)
        ∗ (arg10.view.loc (c : Thread nD τ) ↦[arg10.view.set]{fullShare} harg10.unread h)
        ∗ (arg9.view.loc (c : Thread nD τ) ↦[arg9.view.set]{fullShare} harg9.unread g) : sProp 𝕄)
      ⊢ wp frame (wpE (defs₀ (F := F)) Variants.none (c : Thread nD τ) none) Set.univ
          (Gen.k0_t1_body (F := F) i arg1 harg1 arg2 harg2 arg3 harg3 arg4 harg4 arg5 harg5 arg6 harg6 arg7 harg7 arg8 harg8
            arg9 harg9 arg10 harg10 v20 v22 hc (Scalar.muli (BitVec.ofNat 32 (i 0).val) 6400#32) lanes k acc)
          (fun _ => iprop((arg3.view.loc (c : Thread nD τ) ↦{fullShare.right} harg3.unread T)
            ∗ (arg10.view.loc (c : Thread nD τ) ↦[arg10.view.set]{fullShare} harg10.unread h)
            ∗ (arg9.view.loc (c : Thread nD τ) ↦[arg9.view.set]{fullShare} harg9.unread (foldSeg i T h (v20.toNat + k.val) g)))) := by
  have e2 := readAt_word harg3 T (off2_eq hs k) (k0_off2_inb v20 v22 hc k) (Shape.Idx.first (numel1_S1.symm ▸ Nat.one_pos))
  have e3 := readAt_word harg3 T (off3_eq hs k) (k0_off3_inb v20 v22 hc k) (Shape.Idx.first (numel1_S1.symm ▸ Nat.one_pos))
  have c2 : k0_chk2 i (arg3.view.readAt (Elt F) (Rect.unit (s := S513) (k0_off2 v20 v22 k) S1.size (k0_off2_inb v20 v22 hc k)).toLoadRect
      (harg3.unread T) (Shape.Idx.first (numel1_S1.symm ▸ Nat.one_pos))) := by rw [e2]; exact chk2_of i (hT _)
  have c3 : k0_chk3 i (arg3.view.readAt (Elt F) (Rect.unit (s := S513) (k0_off2 v20 v22 k) S1.size (k0_off2_inb v20 v22 hc k)).toLoadRect
      (harg3.unread T) (Shape.Idx.first (numel1_S1.symm ▸ Nat.one_pos)))
      (arg3.view.readAt (Elt F) (Rect.unit (s := S513) (k0_off3 v20 v22 k) S1.size (k0_off3_inb v20 v22 hc k)).toLoadRect
      (harg3.unread T) (Shape.Idx.first (numel1_S1.symm ▸ Nat.one_pos))) := by rw [e2, e3]; exact chk3_of i (hT _) (hT _)
  have t3 : (k0_t3_loop i (arg3.view.readAt (Elt F) (Rect.unit (s := S513) (k0_off2 v20 v22 k) S1.size (k0_off2_inb v20 v22 hc k)).toLoadRect
      (harg3.unread T) (Shape.Idx.first (numel1_S1.symm ▸ Nat.one_pos)))
      (arg3.view.readAt (Elt F) (Rect.unit (s := S513) (k0_off3 v20 v22 k) S1.size (k0_off3_inb v20 v22 hc k)).toLoadRect
      (harg3.unread T) (Shape.Idx.first (numel1_S1.symm ▸ Nat.one_pos)))).trips = 0 := by rw [e2, e3]; exact t3_trips (hT _) (hT _)
  have t5 : (k0_t5_loop i (arg3.view.readAt (Elt F) (Rect.unit (s := S513) (k0_off2 v20 v22 k) S1.size (k0_off2_inb v20 v22 hc k)).toLoadRect
      (harg3.unread T) (Shape.Idx.first (numel1_S1.symm ▸ Nat.one_pos)))
      (arg3.view.readAt (Elt F) (Rect.unit (s := S513) (k0_off3 v20 v22 k) S1.size (k0_off3_inb v20 v22 hc k)).toLoadRect
      (harg3.unread T) (Shape.Idx.first (numel1_S1.symm ▸ Nat.one_pos)))).trips = 0 := by rw [e2, e3]; exact t5_trips (hT _) (hT _)
  unfold Gen.k0_t1_body
  iintro ⟨HT, H10, H9⟩
  sl_exec (disch := first | sl_exact c2 | sl_exact c3)
  have E := (write_row harg9 g (off12_eq hs k) (k0_off12_inb v20 v22 hc k)
    (foldRow i h (startW T (v20.toNat + k.val)) (startW T (v20.toNat + k.val + 1)) (row g (v20.toNat + k.val)))).symm
  conv_rhs at E =>
    rw [← readAt_row harg9 g (off12_eq hs k) (k0_off12_inb v20 v22 hc k), ← e2, ← e3,
    ← foldRow_eq (F := F) c i arg1 harg1 arg2 harg2 arg3 harg3 arg4 harg4 arg5 harg5 arg6 harg6 arg7 harg7 arg8 harg8
      arg9 harg9 arg10 harg10 h _ _ (e2 ▸ hT _) (e3 ▸ hT _) c2 c3]
  unfold foldSeg
  rw [E]
  sl_step
  isplitl [HT]; · iexact HT
  isplitl [H10]; · iexact H10
  iexact H9

end Inner

end Cert.KernelIdeal
-- ==== Proof.Body.lean ====
/-
  The kernel's body at one grid point, run on the machine: the block's rows go to the scratch, every segment of the block
  is folded into the accumulator, and the last point maps the accumulator to the result.
-/
module

public import proofs.«01_k».proof.Proof.Trip
public import Idealize.ShloMosaic.Lib.LoopEntry
public import Idealize.ShloMosaic.Lib.VecWindow

@[expose] public section

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.SegMax Cert.KernelIdeal.Gen

variable {F : FTy → Type} [FloatOps F]

local notation "𝕄" => MT nD τ sig Unit (Elt F) ℕ (UR sig nD τ) ℕ

/-! ## What the point computes -/

/-- The word of a block table at the point. -/
abbrev blockW (T : IVec S50 32) (i : grid0.Coords) : BitVec 32 := T (ix1 ⟨(i 0).val, (i 0).isLt⟩)

/-- The accumulator a point starts from: -∞ everywhere at the first. -/
def startAcc (i : grid0.Coords) (g : Vec F S512x128 .f32) : Vec F S512x128 .f32 := if (i 0).val = 0 then k0_pay13 else g

/-- The accumulator once the point's segments are folded. -/
def foldBlock (i : grid0.Coords) (T1 T2 : IVec S50 32) (T3 : IVec S513 32) (h : Vec F S6400x128 .f32) (g : Vec F S512x128 .f32) :
    Vec F S512x128 .f32 :=
  foldSegs i T3 h (blockW T1 i).toNat (startAcc i g) ((blockW T2 i).toNat + 1 - (blockW T1 i).toNat)

/-- The accumulator a point leaves: at the last, the result. -/
def leave (i : grid0.Coords) (g : Vec F S512x128 .f32) : Vec F S512x128 .f32 := if (i 0).val = 49 then k0_pay8 g else g

/-- What the point leaves in the output block. -/
def point (i : grid0.Coords) (T1 T2 : IVec S50 32) (T3 : IVec S513 32) (x0 : Vec F S6400x128 .f32) (x1 : Vec F S6400x3 .f32)
    (x2 : Vec F S128x128 .f32) (x3 : Vec F S3x128 .f32) (x4 : Vec F S1x128 .f32) (g : Vec F S512x128 .f32) : Vec F S512x128 .f32 :=
  leave i (foldBlock i T1 T2 T3 (k0_pay14 x0 x2 x1 x3 x4) g)

/-! ## The branches -/

/-- The guard of the first point's branch. -/
abbrev guard0 (i : grid0.Coords) : BitVec 1 :=
  Scalar.cmpi .ne (Scalar.extui (Scalar.cmpi .eq (BitVec.ofNat 32 (i 0).val) 0#32) : BitVec 32) 0#32
/-- The guard of the last point's branch. -/
abbrev guard49 (i : grid0.Coords) : BitVec 1 :=
  Scalar.cmpi .ne (Scalar.extui (Scalar.cmpi .eq (BitVec.ofNat 32 (i 0).val) 49#32) : BitVec 32) 0#32

theorem guard0_iff (i : grid0.Coords) : guard0 i = 1#1 ↔ (i 0).val = 0 := by
  have : ∀ k : Fin 50, (Scalar.cmpi .ne (Scalar.extui (Scalar.cmpi .eq (BitVec.ofNat 32 k.val) 0#32) : BitVec 32) 0#32 = 1#1) ↔ k.val = 0 := by decide +kernel
  exact this (i 0)
theorem guard49_iff (i : grid0.Coords) : guard49 i = 1#1 ↔ (i 0).val = 49 := by
  have : ∀ k : Fin 50, (Scalar.cmpi .ne (Scalar.extui (Scalar.cmpi .eq (BitVec.ofNat 32 k.val) 49#32) : BitVec 32) 0#32 = 1#1) ↔ k.val = 49 := by decide +kernel
  exact this (i 0)

/-- A load of one block-table word. -/
theorem readAt_block {m : Memref sig .tc .smem S50 .i32} (hm : m.IsWhole) (T : Vec F S50 .i32) (i : grid0.Coords) (x) :
    m.view.readAt (Elt F) (Rect.unit (s := S50) (k0_off1 i) S1.size (k0_off1_inb i)).toLoadRect (hm.unread T) x = blockW T i := by
  have hi := coord_lt i
  have ho : k0_off1 i = ![(i 0).val] := by
    show ![(BitVec.ofNat 32 (i 0).val).toNat] = _
    rw [BitVec.toNat_ofNat, Nat.mod_eq_of_lt (by omega)]
  rw [hm.readAt_unread]
  congr 1
  rw [eq_ix1 ((Rect.unit (s := S50) (k0_off1 i) S1.size (k0_off1_inb i)).toLoadRect.idx x)]
  congr 1
  apply Fin.ext
  have hj : (x 0).val < 1 := (x 0).isLt
  have e : k0_off1 i 0 = (i 0).val := congrFun ho 0
  show k0_off1 i 0 + 1 * (x 0).val = (i 0).val
  omega

section Stores
variable (i : grid0.Coords)
  (arg4 : Memref sig .tc .vmem S6400x128 .f32) (harg4 : arg4.IsWhole)
  (arg5 : Memref sig .tc .vmem S6400x3 .f32) (harg5 : arg5.IsWhole) (arg6 : Memref sig .tc .vmem S128x128 .f32) (harg6 : arg6.IsWhole)
  (arg7 : Memref sig .tc .vmem S3x128 .f32) (harg7 : arg7.IsWhole) (arg8 : Memref sig .tc .vmem S1x128 .f32) (harg8 : arg8.IsWhole)
  (arg9 : Memref sig .tc .vmem S512x128 .f32) (harg9 : arg9.IsWhole) (arg10 : Memref sig .tc .vmem S6400x128 .f32) (harg10 : arg10.IsWhole)

/-- The scratch after the block's rows are stored. -/
theorem slab_store (x0 : Vec F S6400x128 .f32) (x1 : Vec F S6400x3 .f32) (x2 : Vec F S128x128 .f32) (x3 : Vec F S3x128 .f32)
    (x4 : Vec F S1x128 .f32) :
    arg10.view.writes (Elt F) arg10.view.junk [⟨Rect.unit (s := S6400x128) ![0, 0] S6400x128.size inb_S6400x128_S6400x128_0_0,
        k0_pay14 (arg4.view.readAt (Elt F) (Rect.unit (s := S6400x128) ![0, 0] S6400x128.size inb_S6400x128_S6400x128_0_0).toLoadRect (harg4.unread x0))
          (arg6.view.readAt (Elt F) (Rect.unit (s := S128x128) ![0, 0] S128x128.size inb_S128x128_S128x128_0_0).toLoadRect (harg6.unread x2))
          (arg5.view.readAt (Elt F) (Rect.unit (s := S6400x3) ![0, 0] S6400x3.size inb_S6400x3_S6400x3_0_0).toLoadRect (harg5.unread x1))
          (arg7.view.readAt (Elt F) (Rect.unit (s := S3x128) ![0, 0] S3x128.size inb_S3x128_S3x128_0_0).toLoadRect (harg7.unread x3))
          (arg8.view.readAt (Elt F) (Rect.unit (s := S1x128) ![0, 0] S1x128.size inb_S1x128_S1x128_0_0).toLoadRect (harg8.unread x4))⟩]
      = harg10.unread (k0_pay14 x0 x2 x1 x3 x4) := by
  refine harg10.eq_unread ((View.read_writes_full ..).trans ?_)
  rw [View.readAt_full, View.readAt_full, View.readAt_full, View.readAt_full, View.readAt_full, harg4.read_unread, harg5.read_unread,
    harg6.read_unread, harg7.read_unread, harg8.read_unread]

/-- The output block after the first point's branch. -/
theorem start_store (g : Vec F S512x128 .f32) :
    (if guard0 i = 1#1 then
      arg9.view.writes (Elt F) (harg9.unread g) [⟨Rect.unit (s := S512x128) ![0, 0] S512x128.size inb_S512x128_S512x128_0_0, k0_pay13⟩]
    else harg9.unread g) = harg9.unread (startAcc i g) := by
  unfold startAcc
  by_cases h : (i 0).val = 0
  · rw [if_pos ((guard0_iff i).2 h), if_pos h]
    exact harg9.eq_unread (View.read_writes_full ..)
  · rw [if_neg (fun e => h ((guard0_iff i).1 e)), if_neg h]

/-- The output block after the last point's branch. -/
theorem leave_store (g : Vec F S512x128 .f32) :
    (if guard49 i = 1#1 then
      arg9.view.writes (Elt F) (harg9.unread g) [⟨Rect.unit (s := S512x128) ![0, 0] S512x128.size inb_S512x128_S512x128_0_0,
        k0_pay8 (arg9.view.readAt (Elt F) (Rect.unit (s := S512x128) ![0, 0] S512x128.size inb_S512x128_S512x128_0_0).toLoadRect (harg9.unread g))⟩]
    else harg9.unread g) = harg9.unread (leave i g) := by
  unfold leave
  by_cases h : (i 0).val = 49
  · rw [if_pos ((guard49_iff i).2 h), if_pos h]
    refine harg9.eq_unread ((View.read_writes_full ..).trans ?_)
    rw [View.readAt_full, harg9.read_unread]
  · rw [if_neg (fun e => h ((guard49_iff i).1 e)), if_neg h]

theorem foldSegs_zero (T : IVec S513 32) (h : Vec F S6400x128 .f32) (a : ℕ) (g : Vec F S512x128 .f32) : foldSegs i T h a g 0 = g := rfl

end Stores

section Run
variable (c : Dev nD) (i : grid0.Coords)
  (arg1 : Memref sig .tc .smem S50 .i32) (harg1 : arg1.IsWhole) (arg2 : Memref sig .tc .smem S50 .i32) (harg2 : arg2.IsWhole)
  (arg3 : Memref sig .tc .smem S513 .i32) (harg3 : arg3.IsWhole) (arg4 : Memref sig .tc .vmem S6400x128 .f32) (harg4 : arg4.IsWhole)
  (arg5 : Memref sig .tc .vmem S6400x3 .f32) (harg5 : arg5.IsWhole) (arg6 : Memref sig .tc .vmem S128x128 .f32) (harg6 : arg6.IsWhole)
  (arg7 : Memref sig .tc .vmem S3x128 .f32) (harg7 : arg7.IsWhole) (arg8 : Memref sig .tc .vmem S1x128 .f32) (harg8 : arg8.IsWhole)
  (arg9 : Memref sig .tc .vmem S512x128 .f32) (harg9 : arg9.IsWhole) (arg10 : Memref sig .tc .vmem S6400x128 .f32) (harg10 : arg10.IsWhole)

set_option maxHeartbeats 1000000 in
/-- The body on whole memrefs: inputs and tables as they were, the output block at what the point computes, the scratch at
    some contents. -/
theorem body_run (T1 T2 : Vec F S50 .i32) (T3 : Vec F S513 .i32) (hs : SegWords (blockW T1 i) (blockW T2 i)) (hT : ∀ x, RowWord (T3 x))
    (x0 : Vec F S6400x128 .f32) (x1 : Vec F S6400x3 .f32) (x2 : Vec F S128x128 .f32) (x3 : Vec F S3x128 .f32) (x4 : Vec F S1x128 .f32)
    (g : Vec F S512x128 .f32) (K : PUnit → sProp 𝕄) :
    iprop((owns (c : Thread nD τ) arg4 fullShare x0 ∗ owns (c : Thread nD τ) arg5 fullShare x1 ∗ owns (c : Thread nD τ) arg6 fullShare x2
        ∗ owns (c : Thread nD τ) arg7 fullShare x3 ∗ owns (c : Thread nD τ) arg8 fullShare x4 ∗ owns (c : Thread nD τ) arg9 fullShare g
        ∗ (∃ d, owns (c : Thread nD τ) arg10 fullShare d)
        ∗ (arg1.view.loc (c : Thread nD τ) ↦{fullShare.right} harg1.unread T1)
        ∗ (arg2.view.loc (c : Thread nD τ) ↦{fullShare.right} harg2.unread T2)
        ∗ (arg3.view.loc (c : Thread nD τ) ↦{fullShare.right} harg3.unread T3))
        ∗ ((owns (c : Thread nD τ) arg4 fullShare x0 ∗ owns (c : Thread nD τ) arg5 fullShare x1 ∗ owns (c : Thread nD τ) arg6 fullShare x2
        ∗ owns (c : Thread nD τ) arg7 fullShare x3 ∗ owns (c : Thread nD τ) arg8 fullShare x4
        ∗ owns (c : Thread nD τ) arg9 fullShare (point i T1 T2 T3 x0 x1 x2 x3 x4 g)
        ∗ (∃ d, owns (c : Thread nD τ) arg10 fullShare d)
        ∗ (arg1.view.loc (c : Thread nD τ) ↦{fullShare.right} harg1.unread T1)
        ∗ (arg2.view.loc (c : Thread nD τ) ↦{fullShare.right} harg2.unread T2)
        ∗ (arg3.view.loc (c : Thread nD τ) ↦{fullShare.right} harg3.unread T3)) -∗ K ⟨⟩))
      ⊢ wp frame (wpE (defs₀ (F := F)) Variants.none (c : Thread nD τ) none) Set.univ
          (cc0__fused_kernel (F := F) i arg1 harg1 arg2 harg2 arg3 harg3 arg4 harg4 arg5 harg5 arg6 harg6 arg7 harg7 arg8 harg8
            arg9 harg9 arg10 harg10) K := by
  have e1 : arg1.view.readAt (Elt F) (Rect.unit (s := S50) (k0_off1 i) S1.size (k0_off1_inb i)).toLoadRect (harg1.unread T1)
      (Shape.Idx.first (numel1_S1.symm ▸ Nat.one_pos)) = blockW T1 i := readAt_block harg1 T1 i _
  have e2 : arg2.view.readAt (Elt F) (Rect.unit (s := S50) (k0_off1 i) S1.size (k0_off1_inb i)).toLoadRect (harg2.unread T2)
      (Shape.Idx.first (numel1_S1.symm ▸ Nat.one_pos)) = blockW T2 i := readAt_block harg2 T2 i _
  have hs' : SegWords (arg1.view.readAt (Elt F) (Rect.unit (s := S50) (k0_off1 i) S1.size (k0_off1_inb i)).toLoadRect (harg1.unread T1)
      (Shape.Idx.first (numel1_S1.symm ▸ Nat.one_pos)))
      (arg2.view.readAt (Elt F) (Rect.unit (s := S50) (k0_off1 i) S1.size (k0_off1_inb i)).toLoadRect (harg2.unread T2)
      (Shape.Idx.first (numel1_S1.symm ▸ Nat.one_pos))) := by rw [e1, e2]; exact hs
  have c1 := chk1_of hs'
  have t6 := t6_trips hs'
  rw [cc0__fused_kernel_eq_skeleton]; unfold cc0__fused_kernel_skel
  unfold owns
  iintro ⟨⟨⟨%f4, %hf4, H4⟩, ⟨%f5, %hf5, H5⟩, ⟨%f6, %hf6, H6⟩, ⟨%f7, %hf7, H7⟩, ⟨%f8, %hf8, H8⟩, ⟨%f9, %hf9, H9⟩, ⟨%d, %f10, -, H10⟩, H1, H2, H3⟩, Hk⟩
  obtain rfl := harg4.eq_unread hf4
  obtain rfl := harg5.eq_unread hf5
  obtain rfl := harg6.eq_unread hf6
  obtain rfl := harg7.eq_unread hf7
  obtain rfl := harg8.eq_unread hf8
  obtain rfl := harg9.eq_unread hf9
  sl_exec (disch := first | sl_exact c1)
  sl_for (fun k _ => iprop((arg3.view.loc (c : Thread nD τ) ↦{fullShare.right} harg3.unread T3)
      ∗ (arg10.view.loc (c : Thread nD τ) ↦[arg10.view.set]{fullShare} harg10.unread (k0_pay14 x0 x2 x1 x3 x4))
      ∗ (arg9.view.loc (c : Thread nD τ) ↦[arg9.view.set]{fullShare}
          harg9.unread (foldSegs i T3 (k0_pay14 x0 x2 x1 x3 x4) (blockW T1 i).toNat (startAcc i g) k)) : sProp 𝕄)) $$ [H9 H10 H3]
  · intro k acc
    have E : (blockW T1 i).toNat = (arg1.view.readAt (Elt F) (Rect.unit (s := S50) (k0_off1 i) S1.size (k0_off1_inb i)).toLoadRect (harg1.unread T1)
      (Shape.Idx.first (numel1_S1.symm ▸ Nat.one_pos))).toNat := by rw [e1]
    have R := trip_run c (i := i) arg1 harg1 arg2 harg2 arg3 harg3 arg4 harg4 arg5 harg5 arg6 harg6 arg7 harg7 arg8 harg8
      arg9 harg9 arg10 harg10 hs' c1 T3 hT (k0_pay14 x0 x2 x1 x3 x4)
      (foldSegs i T3 (k0_pay14 x0 x2 x1 x3 x4) (blockW T1 i).toNat (startAcc i g) k) k acc
    rw [← E] at R
    exact R
  · isplitl [H3]; · iexact H3
    isplitl [H10]
    · rw [← slab_store arg4 harg4 arg5 harg5 arg6 harg6 arg7 harg7 arg8 harg8 arg10 harg10 x0 x1 x2 x3 x4]
      iexact H10
    · rw [foldSegs_zero, ← start_store i arg9 harg9 g]
      iexact H9
  · iintro %acc ⟨H3, H10, H9⟩
    sl_exec
    sl_for (fun _ _ => iprop((arg3.view.loc (c : Thread nD τ) ↦{fullShare.right} harg3.unread T3) : sProp 𝕄)) $$ [H3]
    · intro k acc
      exact absurd (t6 ▸ k.isLt : k.val < 0) (by omega)
    · iexact H3
    · iintro %acc H3
      sl_exec
      have tr := t1_trips hs'
      have E9 := leave_store i arg9 harg9 (foldSegs i T3 (k0_pay14 x0 x2 x1 x3 x4) (blockW T1 i).toNat (startAcc i g)
        (k0_t1_loop (arg1.view.readAt (Elt F) (Rect.unit (s := S50) (k0_off1 i) S1.size (k0_off1_inb i)).toLoadRect (harg1.unread T1)
          (Shape.Idx.first (numel1_S1.symm ▸ Nat.one_pos)))
          (arg2.view.readAt (Elt F) (Rect.unit (s := S50) (k0_off1 i) S1.size (k0_off1_inb i)).toLoadRect (harg2.unread T2)
          (Shape.Idx.first (numel1_S1.symm ▸ Nat.one_pos)))).trips)
      have E : point i T1 T2 T3 x0 x1 x2 x3 x4 g = leave i (foldSegs i T3 (k0_pay14 x0 x2 x1 x3 x4) (blockW T1 i).toNat (startAcc i g)
        (k0_t1_loop (arg1.view.readAt (Elt F) (Rect.unit (s := S50) (k0_off1 i) S1.size (k0_off1_inb i)).toLoadRect (harg1.unread T1)
          (Shape.Idx.first (numel1_S1.symm ▸ Nat.one_pos)))
          (arg2.view.readAt (Elt F) (Rect.unit (s := S50) (k0_off1 i) S1.size (k0_off1_inb i)).toLoadRect (harg2.unread T2)
          (Shape.Idx.first (numel1_S1.symm ▸ Nat.one_pos)))).trips) := by
        rw [tr, e1, e2]; rfl
      sl_step
      iapply Hk
      isplitl [H4]
      · iexists _; isplitr; · ipureintro; exact harg4.read_unread _
        iexact H4
      isplitl [H5]
      · iexists _; isplitr; · ipureintro; exact harg5.read_unread _
        iexact H5
      isplitl [H6]
      · iexists _; isplitr; · ipureintro; exact harg6.read_unread _
        iexact H6
      isplitl [H7]
      · iexists _; isplitr; · ipureintro; exact harg7.read_unread _
        iexact H7
      isplitl [H8]
      · iexists _; isplitr; · ipureintro; exact harg8.read_unread _
        iexact H8
      isplitl [H9]
      · iexists _; isplitr
        · ipureintro; exact (congrArg (arg9.view.read (Elt F)) E9).trans ((harg9.read_unread _).trans E.symm)
        iexact H9
      isplitl [H10]
      · iexists _; iexists _; isplitr
        · ipureintro; exact harg10.read_unread (k0_pay14 x0 x2 x1 x3 x4)
        iexact H10
      isplitl [H1]; · iexact H1
      isplitl [H2]; · iexact H2
      iexact H3

end Run

end Cert.KernelIdeal
-- ==== Proof.Launch.lean ====
/-
  The pipeline around the body: the contents when the region is entered, what the output block holds point by point, the
  body at every point, and the run of the whole program from any memory whose tables are well formed.
-/
module

public import proofs.«01_k».proof.Proof.Body
public import proofs.«01_k».proof.Proof.Gen.KernelIdeal.Launch
public import Idealize.ShloMosaic.Lib.Pipeline.FrameSuffix
public import Idealize.ShloMosaic.Lib.Pipeline.FrameBody
public import Idealize.ShloMosaic.Lib.Claim

@[expose] public section

set_option maxRecDepth 16384

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.SegMax Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The buffers of core `c` when the region is entered: after the host operations before it. -/
abbrev V0 (c : Dev nD) : Valuation τ sig (Elt F) := StableHlo.after (List.flatten [hostOps0]) (fun b => m (c, b))
/-- The same at a TensorCore reference. -/
abbrev V (c : Dev nD) (b : Ref sig .tc) : Buf (Elt F) ((c : Thread nD τ).loc b) := V0 m c (Proc.devRef .tc b)

/-- The references that the host operations before the region write, in order. -/
abbrev hostWrites0 : List (Ref sig .tc) :=
  [main_v0, main_v1, main_v2, main_v3, main_v4, main_v5, main_v6, main_v7, main_c, main_v8, main_c_0, main_v9, main_v10, main_v11,
    main_c_1, main_v12, main_v13, main_c_2, main_v14, main_v15, main_v16, main_v17, main_v18, main_v19, main_v20, main_v21, main_v22, main_c_3,
    main_v23, main_c_4, main_v24, main_v25, main_v26, main_v27, main_c_5, main_v28, main_v29, main_v30, main_v31, main_v32, main_v33, main_v34,
    main_v35, main_c_6, main_v36, main_c_7, main_v37, main_v38, main_v39, main_c_8, main_v40, main_v41, main_c_9, main_v42, main_v43, main_v44,
    main_v45, main_v46, main_v47, main_v48, main_c_10, main_v49, main_c_11, main_v50, main_v51, main_v52, main_v53, main_v54]
theorem hostOps0_writes : (hostOps0 : List (HloOp τ sig (Elt F))).Forall fun op => op.writes ⊆ (hostWrites0.map (Proc.devRef (τ := τ) .tc)).toFinset :=
  StableHlo.forall_writes_sub_of_map rfl
theorem hostOps0_fresh : (hostOps0 : List (HloOp τ sig (Elt F))).Forall fun op => op.fresh = ∅ := StableHlo.forall_fresh_of_map rfl
theorem hostOps1_fresh : (hostOps1 : List (HloOp τ sig (Elt F))).Forall fun op => op.fresh = ∅ := StableHlo.forall_fresh_of_map rfl

/-- A buffer that no host operation before the region writes is entered as launched. -/
theorem V_kept (c : Dev nD) (b : Ref sig .tc) (hb : b ∉ hostWrites0) : V m c b = m ((c : Thread nD τ).loc b) := by
  unfold V V0
  rw [show List.flatten [hostOps0 (F := F)] = hostOps0 from List.append_nil _]
  exact StableHlo.after_of_writes_sub hostOps0 _ hostOps0_writes hb

set_option maxHeartbeats 4000000 in
/-- @main runs the host lines, then the region, then the later lines. -/
theorem hmain (𝒱₀ : Variants) : Pipeline.HMainPK (Ix := Unit) (Name := ℕ) (U := UR sig nD τ) (Lvl := ℕ) pcfgs 0 defs₀ 𝒱₀ m (main (F := F)) (V m)
      (fun _ => Pipeline.chain ([hostOps1].map StableHlo.seq)) :=
  Pipeline.hmainP_around pcfgs 0 defs₀ 𝒱₀ m main [hostOps0] [hostOps1] (by simp only [List.Forall]; exact hostOps0_sub)
    (by simp only [List.Forall]; exact hostOps0_fresh) main_chain

/-- The lines after the region touch arrays and bypassing buffers only. -/
theorem sfx_sub : ∀ ops ∈ ([hostOps1] : List (List (HloOp τ sig (Elt F)))), ∀ op ∈ ops, op.bufs ⊆ Pipeline.tailRefs sig pre0 spec0 := by
  intro ops hops op hop
  simp only [List.mem_cons, List.mem_nil_iff, or_false] at hops
  rcases hops with rfl
  refine Pipeline.sub_tailRefs pre0 spec0 op ((List.forall_iff_forall_mem.mp hostOps1_sub) op hop) ?_
  simp only [hostOps1, List.mem_cons, List.mem_nil_iff, or_false] at hop
  rcases hop with rfl | rfl | rfl
  all_goals intro j; fin_cases j <;> simp only [StableHlo.nullary_bufs, StableHlo.unary_bufs, Finset.mem_insert, Finset.mem_singleton, not_or]
      <;> and_intros <;> exact StableHlo.devRef_ne_of_ne (by decide)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
/-- They write no array of the pipeline. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl | rfl | rfl
  all_goals intro w; fin_cases w <;> simp only [StableHlo.nullary_writes, StableHlo.unary_writes, Finset.mem_singleton] <;> exact StableHlo.devRef_ne_of_ne (by decide)

/-! ## The tables -/

/-- The tables' contents when the region is entered (one device). -/
def tbl : pre0.Contents (Elt F) := fun j => V m (0 : Dev nD) (pre0.ref j)
theorem V_pre (c : Dev nD) (j : Fin 3) : V m c (pre0.ref j) = tbl m j := by
  obtain rfl : c = 0 := Subsingleton.elim _ _; rfl

/-- The tables as admissible contents, and the pipeline at them. -/
abbrev adm : (pcfg0 (F := F)).Adm := ⟨tbl m, trivial⟩
abbrev cfgM : Pipeline.Cfg sig Λ₀ := cfg0 (adm m)

/-- The first-segment table, the last-segment table and the segments' first rows. -/
def segLo : Vec F S50 .i32 := tbl m 0
def segHi : Vec F S50 .i32 := tbl m 1
def starts : Vec F S513 .i32 := tbl m 2

/-- A table's buffer held at half the full share. -/
abbrev tbPt (c : Dev nD) {S : Shape} {e : EltTy} (M : Memref sig .tc .smem S e) (f : Buf (Elt F) (M.view.loc (c : Thread nD τ))) : sProp 𝕄 :=
  M.view.loc (c : Thread nD τ) ↦{fullShare.right} f

theorem PhiT_eq (c : Dev nD) : (Pipeline.ΦT pre0 (tbl m) c : sProp 𝕄)
    = iprop(tbPt c (Memref.whole main_v38) ((Memref.isWhole_whole main_v38).unread (segLo m))
      ∗ tbPt c (Memref.whole main_v51) ((Memref.isWhole_whole main_v51).unread (segHi m))
      ∗ tbPt c (Memref.whole main_v26) ((Memref.isWhole_whole main_v26).unread (starts m))) := by
  rw [show (Memref.isWhole_whole main_v38).unread (segLo m) = tbl m 0 from (Memref.isWhole_whole main_v38).unread_read (tbl m 0),
    show (Memref.isWhole_whole main_v51).unread (segHi m) = tbl m 1 from (Memref.isWhole_whole main_v51).unread_read (tbl m 1),
    show (Memref.isWhole_whole main_v26).unread (starts m) = tbl m 2 from (Memref.isWhole_whole main_v26).unread_read (tbl m 2)]
  unfold Pipeline.ΦT Pipeline.prefHeld
  rw [bigSep_univ_eq_bigSepL [(0 : Fin 3), (1 : Fin 3), (2 : Fin 3)] (by decide) (by decide)]
  rfl

/-! ## The windows' blocks and the accumulator -/

/-- Window `w`'s block at point `t`, read off its array as the region finds it. -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

/-- What point `t` leaves in the output block when it finds `g` there. -/
def step (c : Dev nD) (t : Fin grid0.N) (g : Vec F S512x128 .f32) : Vec F S512x128 .f32 :=
  point (grid0.coords t) (segLo m) (segHi m) (starts m) (iblk m c 0 t) (iblk m c 1 t) (iblk m c 2 t) (iblk m c 3 t) (iblk m c 4 t) g

/-- The output block after each point. -/
def acc (c : Dev nD) : (n : ℕ) → n < grid0.N → Vec F S512x128 .f32
  | 0, h => step m c ⟨0, h⟩ k0_pay13
  | n + 1, h => step m c ⟨n + 1, h⟩ (acc c n (Nat.lt_of_succ_lt h))

/-- The point's one coordinate is its number. -/
theorem coords_val : ∀ t : Fin grid0.N, (grid0.coords t 0).val = t.val := by decide +kernel

/-- The first point starts over: it does not look at what it finds. -/
theorem step_zero (c : Dev nD) (h : 0 < grid0.N) (g g' : Vec F S512x128 .f32) : step m c ⟨0, h⟩ g = step m c ⟨0, h⟩ g' := by
  have e : (grid0.coords ⟨0, h⟩ 0).val = 0 := coords_val ⟨0, h⟩
  unfold step point foldBlock startAcc
  rw [if_pos e, if_pos e]

/-! ## The proof data -/

/-- The arrays as the region finds them; after the body every input block in place and the output block at `acc`. -/
def dats (_ : Fin 1) (c : Dev nD) : Dat τ (Elt F) Unit ℕ (UR sig nD τ) ℕ (cfgM m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => acc m c t.val t.isLt
  Φ _ := iprop(Pipeline.ΦA spec0 c ∗ Pipeline.ΦT pre0 (tbl m) c)
  q _ := fullShare
  owed _ := 0

theorem A_eq (c : Dev nD) (w : Fin (cfgM m).W) : (dats m 0 c).A w = V m c (Pipeline.arrRef spec0 w) := by
  dsimp only [dats]

theorem after_0 (c : Dev nD) (t : Fin (cfgM m).N) : (dats m 0 c).after 0 t = iblk m c 0 t := by dsimp only [dats]; try rfl
theorem after_1 (c : Dev nD) (t : Fin (cfgM m).N) : (dats m 0 c).after 1 t = iblk m c 1 t := by dsimp only [dats]; try rfl
theorem after_2 (c : Dev nD) (t : Fin (cfgM m).N) : (dats m 0 c).after 2 t = iblk m c 2 t := by dsimp only [dats]; try rfl
theorem after_3 (c : Dev nD) (t : Fin (cfgM m).N) : (dats m 0 c).after 3 t = iblk m c 3 t := by dsimp only [dats]; try rfl
theorem after_4 (c : Dev nD) (t : Fin (cfgM m).N) : (dats m 0 c).after 4 t = iblk m c 4 t := by dsimp only [dats]; try rfl
theorem after_5 (c : Dev nD) (t : Fin (cfgM m).N) : (dats m 0 c).after 5 t = acc m c t.val t.isLt := by dsimp only [dats]; try rfl

/-! Each input's staging buffer holds its block at every point. -/

theorem before_0 (c : Dev nD) (t : Fin (cfgM m).N) (d) : (dats m 0 c).before 0 t d = iblk m c 0 t :=
  ((dats m 0 c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin (cfgM m).N) (d) : (dats m 0 c).before 1 t d = iblk m c 1 t :=
  ((dats m 0 c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin (cfgM m).N) (d) : (dats m 0 c).before 2 t d = iblk m c 2 t :=
  ((dats m 0 c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_3 (c : Dev nD) (t : Fin (cfgM m).N) (d) : (dats m 0 c).before 3 t d = iblk m c 3 t :=
  ((dats m 0 c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)
theorem before_4 (c : Dev nD) (t : Fin (cfgM m).N) (d) : (dats m 0 c).before 4 t d = iblk m c 4 t :=
  ((dats m 0 c).before_in_eq_fetched 4 rfl (fun _ => rfl) (fun _ _ _ => rfl)
    (fun t => by rw [after_4]; unfold Dat.blockOf iblk; rw [A_eq]; try rfl) t d).trans
    (by unfold Dat.fetched Dat.blockOf iblk; rw [A_eq]; try rfl)

/-- The output window is written back at the last point only. -/
theorem flush_5 (t : Fin (cfgM m).N) : ((cfgM m).win 5).flush t = true ↔ t.val % 50 = 49 :=
  (fun t => Pipeline.Window.flushOf_const cc0_transform_5 (fun _ _ => rfl) (n := 50) N_0 (by decide) t
    : ∀ t : Fin grid0.N, Pipeline.Window.flushOf grid0 true cc0_transform_5 t = true ↔ t.val % 50 = 49) t

/-- The output window holds, after the body at a point, the point's step from what it held. -/
theorem after_step (c : Dev nD) (t : Fin (cfgM m).N) (d) : step m c t ((dats m 0 c).before 5 t d) = acc m c t.val t.isLt := by
  obtain ⟨n, hn⟩ := t
  have hN : (cfgM m).N = 50 := N_0
  cases n with
  | zero => exact step_zero m c hn _ _
  | succ n =>
    rw [(dats m 0 c).before_out_kept 5 rfl ⟨n + 1, hn⟩ (Nat.succ_ne_zero n) (by
      rw [Bool.eq_false_iff, Ne, flush_5]; simp only [Nat.add_sub_cancel]; omega) (fun _ => rfl) (fun _ _ => rfl) d, after_5]
    rfl

/-! ## The body obligation -/

/-- The table words are well formed: at every point the block's first and last segments are ordered and below 512, and every
    segment starts at a row of the array. -/
structure Tables : Prop where
  seg : ∀ i : grid0.Coords, SegWords (blockW (segLo m) i) (blockW (segHi m) i)
  row : ∀ x, RowWord (starts m x)

abbrev ms_0 (t : Fin (cfgM m).N) : Memref sig .tc .vmem S6400x128 .f32 := spec0_0.stage ((cfgM m).slots t 0)
abbrev ms_1 (t : Fin (cfgM m).N) : Memref sig .tc .vmem S6400x3 .f32 := spec0_1.stage ((cfgM m).slots t 1)
abbrev ms_2 (t : Fin (cfgM m).N) : Memref sig .tc .vmem S128x128 .f32 := spec0_2.stage ((cfgM m).slots t 2)
abbrev ms_3 (t : Fin (cfgM m).N) : Memref sig .tc .vmem S3x128 .f32 := spec0_3.stage ((cfgM m).slots t 3)
abbrev ms_4 (t : Fin (cfgM m).N) : Memref sig .tc .vmem S1x128 .f32 := spec0_4.stage ((cfgM m).slots t 4)
abbrev ms_5 (t : Fin (cfgM m).N) : Memref sig .tc .vmem S512x128 .f32 := spec0_5.stage ((cfgM m).slots t 5)

/-- The body at point `t`, on what the pipeline calls it with. -/
abbrev bodyAt (t : Fin (cfgM m).N) : Prog (TpuEff nD τ sig (Elt F) Λ₀ .tc) PUnit :=
  cc0__fused_kernel (grid0.coords t) (Memref.whole main_v38) (Memref.isWhole_whole _) (Memref.whole main_v51) (Memref.isWhole_whole _)
    (Memref.whole main_v26) (Memref.isWhole_whole _) (ms_0 m t) (hstage0_0 (((cfgM m).slots t 0).cast nbuf0_0))
    (ms_1 m t) (hstage0_1 (((cfgM m).slots t 1).cast nbuf0_1)) (ms_2 m t) (hstage0_2 (((cfgM m).slots t 2).cast nbuf0_2))
    (ms_3 m t) (hstage0_3 (((cfgM m).slots t 3).cast nbuf0_3)) (ms_4 m t) (hstage0_4 (((cfgM m).slots t 4).cast nbuf0_4))
    (ms_5 m t) (hstage0_5 (((cfgM m).slots t 5).cast nbuf0_5)) (Memref.whole cc0_scratch0) (Memref.isWhole_whole _)

/-- What the body is called with at point `t`. -/
def bodyPre (c : Dev nD) (t : Fin (cfgM m).N) : sProp 𝕄 :=
  iprop((dats m 0 c).Φ t.castSucc ∗ (dats m 0 c).owesAt () t.castSucc
    ∗ (∃ d, owns (c : Thread nD τ) (ms_0 m t) fullShare ((dats m 0 c).before 0 t d))
    ∗ (∃ d, owns (c : Thread nD τ) (ms_1 m t) fullShare ((dats m 0 c).before 1 t d))
    ∗ (∃ d, owns (c : Thread nD τ) (ms_2 m t) fullShare ((dats m 0 c).before 2 t d))
    ∗ (∃ d, owns (c : Thread nD τ) (ms_3 m t) fullShare ((dats m 0 c).before 3 t d))
    ∗ (∃ d, owns (c : Thread nD τ) (ms_4 m t) fullShare ((dats m 0 c).before 4 t d))
    ∗ (∃ d, owns (c : Thread nD τ) (ms_5 m t) fullShare ((dats m 0 c).before 5 t d)))

/-- What it returns. -/
def bodyPost (c : Dev nD) (t : Fin (cfgM m).N) : sProp 𝕄 :=
  iprop((dats m 0 c).Φ t.succ ∗ (dats m 0 c).owesAt () t.succ
    ∗ owns (c : Thread nD τ) (ms_0 m t) fullShare ((dats m 0 c).after 0 t)
    ∗ owns (c : Thread nD τ) (ms_1 m t) fullShare ((dats m 0 c).after 1 t)
    ∗ owns (c : Thread nD τ) (ms_2 m t) fullShare ((dats m 0 c).after 2 t)
    ∗ owns (c : Thread nD τ) (ms_3 m t) fullShare ((dats m 0 c).after 3 t)
    ∗ owns (c : Thread nD τ) (ms_4 m t) fullShare ((dats m 0 c).after 4 t)
    ∗ owns (c : Thread nD τ) (ms_5 m t) fullShare ((dats m 0 c).after 5 t))

/-- The region's own resources: the scratch at some contents and the generator register. -/
theorem PhiA_eq (c : Dev nD) : (Pipeline.ΦA spec0 c : sProp 𝕄)
    = iprop((∃ d : Buf (Elt F) ((c : Thread nD τ).loc cc0_scratch0), owns (c : Thread nD τ) (Memref.whole cc0_scratch0) fullShare d) ∗ ∃ r, prngReg c r) := by
  unfold Pipeline.ΦA
  rw [scopedRest0_eq]
  have e : ∀ d : Buf (Elt F) ((c : Thread nD τ).loc cc0_scratch0),
      (owns (c : Thread nD τ) (Memref.whole cc0_scratch0) fullShare d : sProp 𝕄) = (((c : Thread nD τ).loc cc0_scratch0) ↦{fullShare} d) :=
    fun d => owns_whole (c : Thread nD τ) cc0_scratch0 fullShare d
  simp only [e]

variable {m} in
/-- The body at any point: the run applies and the output block goes from what it held to the point's `acc`. -/
theorem sound_body (hT : Tables m) (c : Dev nD) (t : Fin (cfgM m).N) :
    bodyPre m c t ⊢ wp frame (wpE (defs₀ (F := F)) Variants.none c none) Set.univ (bodyAt m t) (fun _ => bodyPost m c t) := by
  unfold bodyPre bodyPost bodyAt
  simp only [before_0, before_1, before_2, before_3, before_4]
  rw [show (dats m 0 c).Φ t.succ = (dats m 0 c).Φ t.castSucc from rfl,
    show (dats m 0 c).owesAt () t.succ = (dats m 0 c).owesAt () t.castSucc from rfl,
    after_0, after_1, after_2, after_3, after_4, after_5]
  rw [show (dats m 0 c).Φ t.castSucc = iprop(Pipeline.ΦA spec0 c ∗ Pipeline.ΦT pre0 (tbl m) c) from rfl, PhiT_eq, PhiA_eq]
  iintro ⟨⟨⟨HS, HR⟩, H1, H2, H3⟩, Ho, ⟨%d4, H4⟩, ⟨%d5, H5⟩, ⟨%d6, H6⟩, ⟨%d7, H7⟩, ⟨%d8, H8⟩, ⟨%d9, H9⟩⟩
  rw [← after_step m c t d9]
  iapply (body_run c (grid0.coords t) _ _ _ _ _ _ _ _ _ _ _ _ _ _ _ _ _ _ _ _ (segLo m) (segHi m) (starts m)
    (hT.seg _) hT.row (iblk m c 0 t) (iblk m c 1 t) (iblk m c 2 t) (iblk m c 3 t) (iblk m c 4 t) _ _)
  isplitr [HR Ho]
  · isplitl [H4]; · iexact H4
    isplitl [H5]; · iexact H5
    isplitl [H6]; · iexact H6
    isplitl [H7]; · iexact H7
    isplitl [H8]; · iexact H8
    isplitl [H9]; · iexact H9
    isplitl [HS]; · iexact HS
    isplitl [H1]; · iexact H1
    isplitl [H2]; · iexact H2
    iexact H3
  iintro ⟨H4, H5, H6, H7, H8, H9, HS, H1, H2, H3⟩
  isplitl [HR HS H1 H2 H3]
  · isplitl [HR HS]
    · isplitl [HS]
      · iexact HS
      iexact HR
    isplitl [H1]; · iexact H1
    isplitl [H2]; · iexact H2
    iexact H3
  isplitl [Ho]; · iexact Ho
  isplitl [H4]; · iexact H4
  isplitl [H5]; · iexact H5
  isplitl [H6]; · iexact H6
  isplitl [H7]; · iexact H7
  isplitl [H8]; · iexact H8
  iexact H9

theorem defs₀_row (t : Fin (cfgM m).N) :
    defs₀ (F := F) .tc (cfgM m).body ((cfgM m).bodyArgs t ((cfgM m).slots t)) = bodyAt m t := by
  unfold defs₀; rw [Defs.onTc_tc]

variable {m} in
theorem body_obligation (hT : Tables m) (c : Dev nD) : BodyObligation (dats (F := F) m 0 c) (defs₀ (F := F)) Variants.none () Set.univ := fun t => by
  rw [bigSep_W0, bigSep_W0, defs₀_row m]
  exact triple_restated (sound_body hT c t) rfl .rfl fun _ => .rfl

/-! ## The run -/

variable {m} in
set_option backward.isDefEq.respectTransparency.types false in
/-- The whole program from well-formed tables: it terminates, the arrays end at what the points leave, every other buffer at
    what the later lines leave, every semaphore counter at zero. -/
theorem run_main (hT : Tables m) : θ_run defs (onTc (τ := τ) (main (F := F))) (s₀ m ρ)
    (fun r => Pipeline.FramePost (Pipeline.pin pcfgs fun _ => adm m) (dats m) 0 (Pipeline.afterTail pcfgs (fun _ => adm m) (dats m) 0 (V0 m) [hostOps1]) r
      ∧ r.2.sem = fun _ => 0) :=
  Pipeline.θ_run_frameP_around (Q' := _) pcfgs (fun _ => adm m) (dats m) (0 : Fin 1) launch0 defs₀ Variants.none m ρ main
    (hbody := fun c => (body_obligation hT c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hpf := V_pre m) (hΦ := fun _ _ => rfl)

end Cert.KernelIdeal
-- ==== Proof.Run.lean ====
/-
  What the run leaves, buffer by buffer: the pooled array holds the accumulator after the last point, the other two results
  hold the constants the last lines write, the arguments are untouched and every semaphore counter reads zero.
-/
module

public import proofs.«01_k».proof.Proof.Launch
public import Idealize.ShloMosaic.Lib.Pipeline.ValueKit

@[expose] public section

set_option maxRecDepth 16384

noncomputable section

namespace Cert.KernelIdeal

open Idealize.ShloMosaic Idealize.ShloMosaic.TcCoe Idealize.ShloMosaic.Tactic
open Idealize.SL Idealize.SL.Sem
open Idealize.ShloMosaic.Pipeline (Dat Cfg Window)
open Cert.SegMax Cert.KernelIdeal.Gen

variable {F : FTy → Type} [FloatOps F]
variable (m : (ℓ : Loc nD τ sig) → Buf (Elt F) ℓ) (ρ : Dev nD → PrngReg)

/-- What the later lines leave in a buffer. -/
abbrev tailV (c : Dev nD) (b : Ref sig .tc) : Buf (Elt F) ((c : Thread nD τ).loc b) :=
  Pipeline.afterTail pcfgs (fun _ => adm m) (dats m) 0 (V0 m) [hostOps1] c b

/-- A buffer that no host line writes and no window stages is left as launched. -/
theorem tail_kept (c : Dev nD) (b : Ref sig .tc) (h1 : b ∉ [main_cst, main_v56, main_v57])
    (h2 : ∀ w, Pipeline.arrRef spec0 w ≠ b) (h3 : b ∉ hostWrites0) : tailV m c b = m ((c : Thread nD τ).loc b) := by
  unfold tailV Pipeline.afterTail
  rw [show List.flatten [hostOps1 (F := F)] = hostOps1 from List.append_nil _,
    StableHlo.after_of_writes_sub (W := [main_cst, main_v56, main_v57]) hostOps1 _ (StableHlo.forall_writes_sub_of_map rfl) h1,
    Pipeline.withArrays_of_ne _ c (V0 m c) _ b (by exact h2)]
  exact V_kept m c b h3

/-- The second result: zeros. -/
theorem tail_56 (c : Dev nD) : tailV m c main_v56
    = (broadcastInDim S512x3 ![] bcast_S_S512x3 (constant S_ .f32 0x00000000#32 : (⟨S_, .f32⟩ : BufTy).Contents (Elt F)) : (⟨S512x3, .f32⟩ : BufTy).Contents (Elt F)) := by
  unfold tailV Pipeline.afterTail
  rw [show List.flatten [hostOps1 (F := F)] = hostOps1 from List.append_nil _]
  after_results

/-- The third result: the segment numbers. -/
theorem tail_57 (c : Dev nD) : tailV m c main_v57 = (iotaInDim S512 32 0 : (⟨S512, .i32⟩ : BufTy).Contents (Elt F)) := by
  unfold tailV Pipeline.afterTail
  rw [show List.flatten [hostOps1 (F := F)] = hostOps1 from List.append_nil _]
  after_results

/-- The accumulator after the last point. -/
def accLast (c : Dev nD) : Vec F S512x128 .f32 := acc m c 49 (by rw [N_0]; decide)

/-- The pooled array ends at the accumulator. -/
theorem arr_5 (c : Dev nD) : (dats m 0 c).arrAt 5 (cfgM m).N = accLast m c :=
  Dat.arrAt_eq_of_after_last (dats m 0 c) 5 (⟨49, by rw [show (cfgM m).N = 50 from N_0]; decide⟩ : Fin (cfgM m).N)
    (by
      have hN : (cfgM m).N = 50 := N_0
      refine ⟨(flush_5 m _).mpr rfl, fun t h => Fin.ext ?_, fun a => by fin_cases a <;> exact ⟨rfl, rfl⟩⟩
      have h := (flush_5 m t).mp h
      have := t.isLt
      show t.val = 49
      omega)
    (accLast m c) (fun j => by
      rw [after_5]
      blk_simp
      rfl) (Memref.isWhole_whole _)

variable {m} in
/-- THE RUN: from well-formed tables the program terminates with the three results as named, the arguments unchanged and every
    semaphore counter at zero. -/
theorem run_results (hT : Tables m) : θ_run defs (onTc (τ := τ) (main (F := F))) ⟨m, fun _ => 0, ρ⟩ (fun r =>
    (∀ c : Dev nD, r.2.mem ((c.tc : Thread nD τ).loc main_v55) = accLast m c
      ∧ r.2.mem ((c.tc : Thread nD τ).loc main_v56)
        = (broadcastInDim S512x3 ![] bcast_S_S512x3 (constant S_ .f32 0x00000000#32 : (⟨S_, .f32⟩ : BufTy).Contents (Elt F)) : (⟨S512x3, .f32⟩ : BufTy).Contents (Elt F))
      ∧ r.2.mem ((c.tc : Thread nD τ).loc main_v57) = (iotaInDim S512 32 0 : (⟨S512, .i32⟩ : BufTy).Contents (Elt F))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
    ∧ r.2.sem = fun _ => 0) := by
  refine θ_run_mono (run_main ρ hT) fun r h => ⟨fun c => ?_, h.2⟩
  have h := h.1
  refine ⟨((h c).1 5).trans (arr_5 m c), ((h c).2 main_v56 (by decide : main_v56 ∈ Pipeline.restRefs sig spec0)).trans (tail_56 m c),
    ((h c).2 main_v57 (by decide : main_v57 ∈ Pipeline.restRefs sig spec0)).trans (tail_57 m c),
    ((h c).1 0).trans (((dats m 0 c).arrAt_in 0 rfl _).trans ((A_eq m c 0).trans (V_kept m c main_arg0 (by decide)))),
    ((h c).1 1).trans (((dats m 0 c).arrAt_in 1 rfl _).trans ((A_eq m c 1).trans (V_kept m c main_arg1 (by decide)))),
    ((h c).2 main_arg2 (by decide : main_arg2 ∈ Pipeline.restRefs sig spec0)).trans (tail_kept m c main_arg2 (by decide) (by decide) (by decide)),
    ((h c).2 main_arg3 (by decide : main_arg3 ∈ Pipeline.restRefs sig spec0)).trans (tail_kept m c main_arg3 (by decide) (by decide) (by decide)),
    ((h c).2 main_arg4 (by decide : main_arg4 ∈ Pipeline.restRefs sig spec0)).trans (tail_kept m c main_arg4 (by decide) (by decide) (by decide))⟩

end Cert.KernelIdeal
-- ==== Proof.Count.lean ====
/-
  Counting in a sorted list of segment numbers: where each segment starts, that the two-level search finds it, and that the
  number of segments starting no later than a row names the row's own segment. Natural numbers only.
-/
module

public import Mathlib.Data.Nat.Count

@[expose] public section

namespace Cert.SegMax

/-- A property that goes down: the numbers below `N` that have it are those below their count. -/
theorem lt_count_iff (P : ℕ → Prop) [DecidablePred P] (N : ℕ) (hP : ∀ a b, a ≤ b → b < N → P b → P a) (n : ℕ) (hn : n < N) :
    n < Nat.count P N ↔ P n := by
  induction N with
  | zero => omega
  | succ N ih =>
    have ih := ih (fun a b hab hb => hP a b hab (by omega))
    by_cases hN : P N
    · have hall : Nat.count P (N + 1) = N + 1 :=
        (Nat.count_iff_forall).mpr fun k hk => hP k N (by omega) (by omega) hN
      rw [hall]
      exact ⟨fun _ => hP n N (by omega) (by omega) hN, fun _ => hn⟩
    · rw [Nat.count_succ, if_neg hN, Nat.add_zero]
      by_cases e : n = N
      · subst e
        have : Nat.count P n ≤ n := Nat.count_le _
        exact ⟨fun h => by omega, fun h => absurd h hN⟩
      · exact ih (by omega)

/-- Every row's segment is below 512. -/
def InRange (B : ℕ → ℕ) : Prop := ∀ a, a < 320000 → B a < 512

/-- Rows numbered below 320000 in ascending segments, the segments below 512. -/
structure Ids (B : ℕ → ℕ) : Prop where
  mono : ∀ a b, a ≤ b → b < 320000 → B a ≤ B b
  lt : InRange B

/-- The first row of segment `q`: the number of rows in earlier segments. -/
def startN (B : ℕ → ℕ) (q : ℕ) : ℕ := Nat.count (fun n => B n < q) 320000
/-- The number of whole chunks of 128 rows in earlier segments, at most the last chunk's number. -/
def chunkN (B : ℕ → ℕ) (q : ℕ) : ℕ := min (Nat.count (fun j => B (128 * j + 127) < q) 2500) 2499
/-- The number of rows of that chunk in earlier segments. -/
def fineN (B : ℕ → ℕ) (q : ℕ) : ℕ := Nat.count (fun l => B (128 * chunkN B q + l) < q) 128
/-- What the two-level search answers for segment `q`, in any order of the rows. -/
def foundN (B : ℕ → ℕ) (q : ℕ) : ℕ := 128 * chunkN B q + fineN B q
/-- The number of segments, and the end, that the search places no later than row `n`. -/
def upToN (B : ℕ → ℕ) (n : ℕ) : ℕ := Nat.count (fun q => foundN B q ≤ n) 513

variable {B : ℕ → ℕ}

theorem chunkN_le (B : ℕ → ℕ) (q : ℕ) : chunkN B q ≤ 2499 := Nat.min_le_right _ _
theorem fineN_le (B : ℕ → ℕ) (q : ℕ) : fineN B q ≤ 128 := Nat.count_le _

/-- The search never answers beyond the last row's end. -/
theorem foundN_le (B : ℕ → ℕ) (q : ℕ) : foundN B q ≤ 320000 := by
  have h1 := chunkN_le B q
  have h2 := fineN_le B q
  unfold foundN
  omega

/-- The first segment is placed at row 0. -/
theorem foundN_zero (B : ℕ → ℕ) : foundN B 0 = 0 := by
  simp [foundN, chunkN, fineN]

/-- The end is placed after the last row. -/
theorem foundN_end (h : InRange B) : foundN B 512 = 320000 := by
  have hc : Nat.count (fun j => B (128 * j + 127) < 512) 2500 = 2500 :=
    Nat.count_iff_forall.mpr fun j hj => h _ (by omega)
  have hk : chunkN B 512 = 2499 := by unfold chunkN; rw [hc]; rfl
  have hf : fineN B 512 = 128 := by
    unfold fineN
    rw [hk]
    exact Nat.count_iff_forall.mpr fun l hl => h _ (by omega)
  unfold foundN
  omega

/-- The first segment counts for every row. -/
theorem upToN_pos (B : ℕ → ℕ) (n : ℕ) : 0 < upToN B n := by
  have h1 : Nat.count (fun q => foundN B q ≤ n) 1 = 1 :=
    Nat.count_iff_forall.mpr fun q hq => by rw [show q = 0 by omega, foundN_zero]; exact Nat.zero_le _
  have h2 : Nat.count (fun q => foundN B q ≤ n) 1 ≤ upToN B n := Nat.count_monotone _ (by decide)
  omega

/-- The end counts for no row. -/
theorem upToN_le (h : InRange B) (n : ℕ) (hn : n < 320000) : upToN B n ≤ 512 := by
  have he := foundN_end h
  unfold upToN
  rw [Nat.count_succ, if_neg (by omega), Nat.add_zero]
  exact Nat.count_le _

/-- A later row has no fewer segments placed before it. -/
theorem upToN_mono (B : ℕ → ℕ) {a b : ℕ} (hab : a ≤ b) : upToN B a ≤ upToN B b :=
  Nat.count_mono_left fun _ _ h => h.trans hab

theorem startN_le (q : ℕ) : startN B q ≤ 320000 := Nat.count_le _

/-- A row lies before segment `q`'s start exactly when its segment is an earlier one. -/
theorem lt_startN (h : Ids B) (q n : ℕ) (hn : n < 320000) : n < startN B q ↔ B n < q :=
  lt_count_iff (fun n => B n < q) 320000 (fun a b hab hb hq => Nat.lt_of_le_of_lt (h.mono a b hab hb) hq) n hn

theorem startN_le_iff (h : Ids B) (q n : ℕ) (hn : n < 320000) : startN B q ≤ n ↔ q ≤ B n := by
  have := lt_startN h q n hn
  omega

/-- In sorted rows the two-level search finds the start. -/
theorem foundN_eq (h : Ids B) (q : ℕ) : foundN B q = startN B q := by
  unfold foundN
  have hc := fun j hj => lt_count_iff (fun j => B (128 * j + 127) < q) 2500
    (fun a b hab hb hq => Nat.lt_of_le_of_lt (h.mono _ _ (by omega) (by omega)) hq) j hj
  have hk : chunkN B q ≤ 2499 := Nat.min_le_right _ _
  have hf := fun l hl => lt_count_iff (fun l => B (128 * chunkN B q + l) < q) 128
    (fun a b hab hb hq => Nat.lt_of_le_of_lt (h.mono _ _ (by omega) (by omega)) hq) l hl
  have hf128 : fineN B q ≤ 128 := Nat.count_le _
  change ∀ l, l < 128 → (l < fineN B q ↔ _) at hf
  have hs := startN_le (B := B) q
  have key : ∀ n, n < 320000 → (n < 128 * chunkN B q + fineN B q ↔ B n < q) := by
    intro n hn
    obtain ⟨j, l, hl, rfl⟩ : ∃ j l, l < 128 ∧ n = 128 * j + l := ⟨n / 128, n % 128, Nat.mod_lt _ (by decide), by omega⟩
    have hkdef : chunkN B q = min (Nat.count (fun j => B (128 * j + 127) < q) 2500) 2499 := rfl
    have hcj := hc j (by omega)
    rcases Nat.lt_trichotomy j (chunkN B q) with hj | hj | hj
    · have h1 : B (128 * j + 127) < q := hcj.mp (by omega)
      have h2 := h.mono (128 * j + l) (128 * j + 127) (by omega) (by omega)
      omega
    · subst hj
      have := hf l hl
      omega
    · have hck := hc (chunkN B q) (by omega)
      have h1 : ¬ B (128 * chunkN B q + 127) < q := fun hx => by have := hck.mpr hx; omega
      have h2 := h.mono (128 * chunkN B q + 127) (128 * j + l) (by omega) hn
      omega
  rcases Nat.lt_trichotomy (128 * chunkN B q + fineN B q) (startN B q) with hlt | heq | hgt
  · have := key (128 * chunkN B q + fineN B q) (by omega)
    have := lt_startN h q (128 * chunkN B q + fineN B q) (by omega)
    omega
  · exact heq
  · have := key (startN B q) (by omega)
    have := lt_startN h q (startN B q) (by omega)
    omega

/-- The segments that start no later than row `x` are those up to the row's own. -/
theorem count_starts (h : Ids B) (x : ℕ) (hx : x < 320000) : Nat.count (fun q => startN B q ≤ x) 513 = B x + 1 := by
  have hB := h.lt x hx
  have hc := fun j hj => lt_count_iff (fun q => startN B q ≤ x) 513
    (fun a b hab hb hq => by rw [startN_le_iff h _ _ hx] at hq ⊢; omega) j hj
  have h1 := hc (B x) (by omega)
  have h2 := hc (B x + 1) (by omega)
  rw [startN_le_iff h _ _ hx] at h1 h2
  omega

/-- In sorted rows the segments placed no later than a row are those up to its own. -/
theorem upToN_eq (h : Ids B) (x : ℕ) (hx : x < 320000) : upToN B x = B x + 1 := by
  rw [← count_starts h x hx]
  simp only [upToN, foundN_eq h]

end Cert.SegMax
-- ==== Proof.Host.lean ====
/-
  The host lines before the region, as functions of the segment numbers: where each segment starts, and each block's first and
  last segment. At sorted segment numbers they hold what their names say.
-/
module

public import proofs.«01_k».proof.Proof.Launch
public import proofs.«01_k».proof.Proof.Count
public import Idealize.ShloMosaic.Lib.Pointwise
public import Idealize.ShloMosaic.Lib.Routing.Ops

@[expose] public section

set_option maxRecDepth 16384

noncomputable section

namespace Cert.KernelIdeal

open Idealize.ShloMosaic Idealize.ShloMosaic.TcCoe Idealize.ShloMosaic.Tactic
open Cert.SegMax Cert.KernelIdeal.Gen

/-! ## The host's terms -/

/-- Per segment number, which chunks of 128 rows end in an earlier segment. -/
def chunkBefore (b : IVec S320000 32) : IVec S513x2500 1 :=
  cmpi .slt
    (broadcastInDim S513x2500 ![0, 1] bcast_S1x2500_S513x2500_0_1
      (broadcastInDim S1x2500 ![1] bcast_S2500_S1x2500_1 (Host.slice S2500 ![127] ![128] b slicesBy_S320000_S2500_127s128)))
    (broadcastInDim S513x2500 ![0, 1] bcast_S513x1_S513x2500_0_1 (broadcastInDim S513x1 ![0] bcast_S513_S513x1_0 (iotaInDim S513 32 0)))

/-- Per segment number, the chunk its start lies in. -/
def chunkW (b : IVec S320000 32) : IVec S513 32 :=
  minsi (Host.reduce IntOp.addi (extui 32 (chunkBefore b) natLt_1_32) (constantI S_ 32 0#32) reducesTo_S513x2500_S513_d1 h_S_)
    (broadcastInDim S513 ![] bcast_S_S513 (constantI S_ 32 2499#32))

/-- The chunk numbers as the gather takes them (a negative one counted from the end). -/
def chunkIx (b : IVec S320000 32) : IVec S513x1 32 :=
  broadcastInDim S513x1 ![0] bcast_S513_S513x1_0
    (select (cmpi .slt (chunkW b) (broadcastInDim S513 ![] bcast_S_S513 (constantI S_ 32 0#32)))
      (addi (chunkW b) (broadcastInDim S513 ![] bcast_S_S513 (constantI S_ 32 2500#32))) (chunkW b))

/-- Per segment number, which rows of that chunk are in an earlier segment. -/
def rowBefore (b : IVec S320000 32) : IVec S513x128 1 :=
  cmpi .slt (Host.gather gather_S2500x128_S513x1_S513x128_1_0_n_n_0_1_1128 (shapeCast S2500x128 b shapeCasts_S320000_S2500x128) (chunkIx b))
    (broadcastInDim S513x128 ![0, 1] bcast_S513x1_S513x128_0_1 (broadcastInDim S513x1 ![0] bcast_S513_S513x1_0 (iotaInDim S513 32 0)))

/-- Per segment number, its first row. -/
def startsW (b : IVec S320000 32) : IVec S513 32 :=
  addi (muli (broadcastInDim S513 ![] bcast_S_S513 (constantI S_ 32 128#32)) (chunkW b))
    (Host.reduce IntOp.addi (extui 32 (rowBefore b) natLt_1_32) (constantI S_ 32 0#32) reducesTo_S513x128_S513_d1 h_S_)

/-- Per block, its first row. -/
def blockRow : IVec S50 32 := muli (iotaInDim S50 32 0) (broadcastInDim S50 ![] bcast_S_S50 (constantI S_ 32 6400#32))
/-- Per block, its last row. -/
def blockEnd : IVec S50 32 :=
  subi (addi blockRow (broadcastInDim S50 ![] bcast_S_S50 (constantI S_ 32 6400#32))) (broadcastInDim S50 ![] bcast_S_S50 (constantI S_ 32 1#32))

/-- Per block, which segments start no later than the row given for it. -/
def startsBy (b : IVec S320000 32) (r : IVec S50 32) : IVec S50x513 1 :=
  cmpi .sle (broadcastInDim S50x513 ![0, 1] bcast_S1x513_S50x513_0_1 (broadcastInDim S1x513 ![1] bcast_S513_S1x513_1 (startsW b)))
    (broadcastInDim S50x513 ![0, 1] bcast_S50x1_S50x513_0_1 (broadcastInDim S50x1 ![0] bcast_S50_S50x1_0 r))

/-- Per block, the segment of the row given for it. -/
def segAt (b : IVec S320000 32) (r : IVec S50 32) : IVec S50 32 :=
  subi (Host.reduce IntOp.addi (extui 32 (startsBy b r) natLt_1_32) (constantI S_ 32 0#32) reducesTo_S50x513_S50_d1 h_S_)
    (broadcastInDim S50 ![] bcast_S_S50 (constantI S_ 32 1#32))

/-! ## The tables are these terms -/

variable {F : FTy → Type} [FloatOps F]
variable (m : (ℓ : Loc nD τ sig) → Buf (Elt F) ℓ)

/-- The segment numbers as launched. -/
def ids : IVec S320000 32 := m (((0 : Dev nD).tc : Thread nD τ).loc main_arg2)

set_option maxHeartbeats 4000000 in
theorem starts_eq : starts m = startsW (ids m) := by
  show StableHlo.after (List.flatten [hostOps0]) (fun b => m ((0 : Dev nD), b)) (Proc.devRef .tc main_v26) = _
  rw [show List.flatten [hostOps0 (F := F)] = hostOps0 from List.append_nil _]
  after_results
  rfl

set_option maxHeartbeats 4000000 in
theorem segLo_eq : segLo m = segAt (ids m) blockRow := by
  show StableHlo.after (List.flatten [hostOps0]) (fun b => m ((0 : Dev nD), b)) (Proc.devRef .tc main_v38) = _
  rw [show List.flatten [hostOps0 (F := F)] = hostOps0 from List.append_nil _]
  after_results
  rfl

set_option maxHeartbeats 4000000 in
theorem segHi_eq : segHi m = segAt (ids m) blockEnd := by
  show StableHlo.after (List.flatten [hostOps0]) (fun b => m ((0 : Dev nD), b)) (Proc.devRef .tc main_v51) = _
  rw [show List.flatten [hostOps0 (F := F)] = hostOps0 from List.append_nil _]
  after_results
  rfl

end Cert.KernelIdeal
-- ==== Proof.Tables.lean ====
/-
  The host's tables at segment numbers in range: every entry as a natural number, and from them that the tables are well formed;
  then what the entries are when the segment numbers are also sorted.
-/
module

public import proofs.«01_k».proof.Proof.Host

@[expose] public section

set_option maxRecDepth 16384

noncomputable section

namespace Cert.KernelIdeal

open Idealize.ShloMosaic Idealize.ShloMosaic.TcCoe Idealize.ShloMosaic.Tactic
open Idealize.ShloMosaic.StableHlo.Predicate (slt_iff_toNat sle_iff_toNat)
open Cert.SegMax Cert.KernelIdeal.Gen

/-- The segment number of row `n`, as a natural number. -/
def idN (b : IVec S320000 32) (n : ℕ) : ℕ := (b (ix1 (⟨n % 320000, Nat.mod_lt _ (by decide)⟩ : Fin 320000))).toNat

theorem toNat_id (b : IVec S320000 32) (n : Fin 320000) : (b (ix1 n)).toNat = idN b n.val := by
  unfold idN
  rw [show (⟨n.val % 320000, Nat.mod_lt _ (by decide)⟩ : Fin 320000) = n from Fin.ext (Nat.mod_eq_of_lt n.isLt)]

theorem ix1_eq {n : ℕ} (a : Fin n) : (ix1 a : (⟨1, ![n]⟩ : Shape).Idx) = ValueIdx.ix1 a := by
  funext d; match d with | ⟨0, _⟩ => rfl
theorem ix2_eq {n k : ℕ} (a : Fin n) (c : Fin k) : (ix2 a c : (⟨2, ![n, k]⟩ : Shape).Idx) = ValueIdx.ix2 a c := by
  funext d; match d with | ⟨0, _⟩ => rfl | ⟨1, _⟩ => rfl

/-- The sum of a row of widened bits is the number of bits set. -/
theorem count_row {n k : ℕ} (hk : k < 2 ^ 32) (msk : IVec ⟨2, ![n, k]⟩ 1) (hw : 1 < 32) (hr : (⟨2, ![n, k]⟩ : Shape).ReducesTo [1] ⟨1, ![n]⟩)
    (hu : 0 < S_.numel) (i : Fin n) (Q : ℕ → Prop) [DecidablePred Q] (hQ : ∀ q : Fin k, msk (ix2 i q) = 1#1 ↔ Q q.val) :
    Host.reduce IntOp.addi (extui 32 msk hw) (constantI S_ 32 0#32) hr hu (ix1 i) = BitVec.ofNat 32 (Nat.count Q k) := by
  rw [ix1_eq]
  exact Routing.reduce_count hk msk hw hr hu i Q fun q => by rw [← ix2_eq]; exact hQ q

/-- A gathered row is the row its word names. -/
theorem gather_at (x : IVec S2500x128 32) (ix : IVec S513x1 32) (q : Fin 513) (l : Fin 128) (k : Fin 2500)
    (hk : ix (ix2 q (0 : Fin 1)) = BitVec.ofNat 32 k.val) :
    Host.gather gather_S2500x128_S513x1_S513x128_1_0_n_n_0_1_1128 x ix (ix2 q l) = x (ix2 k l) := by
  rw [ix2_eq] at hk
  rw [ix2_eq, ix2_eq]
  exact Routing.gather_row _ rfl rfl rfl rfl rfl x ix q l k hk (by decide)

variable {b : IVec S320000 32}

theorem chunkBefore_iff (h : InRange (idN b)) (q : Fin 513) (j : Fin 2500) :
    chunkBefore b (ix2 q j) = 1#1 ↔ idN b (128 * j.val + 127) < q.val := by
  pointwise [chunkBefore]
  have hq := q.isLt
  have hj := j.isLt
  have e := toNat_id b ⟨127 + 128 * j.val, by omega⟩
  have hl := h (127 + 128 * j.val) (by omega)
  have e2 : 127 + 128 * j.val = 128 * j.val + 127 := by omega
  dsimp only at e
  have eq : (BitVec.ofNat 32 q.val).toNat = q.val := by rw [BitVec.toNat_ofNat]; omega
  rw [e2] at hl
  replace e := e.trans (congrArg (idN b) e2)
  rw [slt_iff_toNat (by rw [e]; omega) (by rw [eq]; omega), e, eq]

/-- The chunk a segment's start lies in. -/
theorem chunkW_eq (h : InRange (idN b)) (q : Fin 513) : chunkW b (ix1 q) = BitVec.ofNat 32 (chunkN (idN b) q.val) := by
  unfold chunkW
  show IntOp.minsi _ 2499#32 = _
  rw [count_row (by decide) _ _ _ _ q (fun j => idN b (128 * j + 127) < q.val) (fun j => chunkBefore_iff h q j)]
  have hc : Nat.count (fun j => idN b (128 * j + 127) < q.val) 2500 ≤ 2500 := Nat.count_le _
  exact eq_ofNat_of_isInt (Affine.minsi (e := ((chunkN (idN b) q.val : ℕ) : ℤ))
    (isInt_ofNat (n := Nat.count (fun j => idN b (128 * j + 127) < q.val) 2500) (by omega)) (isInt_ofNat (n := 2499) (by omega))
    (by unfold chunkN; omega)) (by unfold chunkN; omega)

theorem chunkIx_eq (h : InRange (idN b)) (q : Fin 513) : chunkIx b (ix2 q (0 : Fin 1)) = BitVec.ofNat 32 (chunkN (idN b) q.val) := by
  pointwise [chunkIx]
  have hk := chunkN_le (idN b) q.val
  have et : (BitVec.ofNat 32 (chunkN (idN b) q.val)).toNat = chunkN (idN b) q.val := by rw [BitVec.toNat_ofNat]; omega
  rw [chunkW_eq h]
  have hn : ¬ IntOp.cmpi .slt (BitVec.ofNat 32 (chunkN (idN b) q.val)) 0#32 = 1#1 := by
    rw [slt_iff_toNat (by rw [et]; omega) (by decide)]
    exact Nat.not_lt_zero _
  unfold Scalar.select
  exact if_neg hn

theorem rowBefore_iff (h : InRange (idN b)) (q : Fin 513) (l : Fin 128) :
    rowBefore b (ix2 q l) = 1#1 ↔ idN b (128 * chunkN (idN b) q.val + l.val) < q.val := by
  pointwise [rowBefore]
  have hk := chunkN_le (idN b) q.val
  have hq := q.isLt
  have hl := l.isLt
  rw [gather_at _ _ q l ⟨chunkN (idN b) q.val, by omega⟩ (chunkIx_eq h q)]
  pointwise []
  have e := toNat_id b ⟨chunkN (idN b) q.val * 128 + l.val, by omega⟩
  dsimp only at e
  have e2 : chunkN (idN b) q.val * 128 + l.val = 128 * chunkN (idN b) q.val + l.val := by omega
  have hB := h (128 * chunkN (idN b) q.val + l.val) (by omega)
  replace e := e.trans (congrArg (idN b) e2)
  have eq : (BitVec.ofNat 32 q.val).toNat = q.val := by rw [BitVec.toNat_ofNat]; omega
  rw [slt_iff_toNat (by rw [e]; omega) (by rw [eq]; omega), e, eq]

/-- Where the search places a segment. -/
theorem startsW_eq (h : InRange (idN b)) (q : Fin 513) : startsW b (ix1 q) = BitVec.ofNat 32 (foundN (idN b) q.val) := by
  unfold startsW
  show IntOp.addi (IntOp.muli 128#32 (chunkW b (ix1 q))) _ = _
  have hk := chunkN_le (idN b) q.val
  have hf : fineN (idN b) q.val ≤ 128 := Nat.count_le _
  rw [count_row (by decide) _ _ _ _ q (fun l => idN b (128 * chunkN (idN b) q.val + l) < q.val) (fun l => rowBefore_iff h q l),
    chunkW_eq h]
  exact (congrArg (IntOp.addi · _) (muli_nat (a := 128) (by omega) (by omega) (by omega))).trans (addi_nat (b := fineN (idN b) q.val) (by omega))

theorem startsBy_iff (h : InRange (idN b)) (r : IVec S50 32) (n : ℕ) (hn : n < 320000) (i : Fin 50) (hr : r (ix1 i) = BitVec.ofNat 32 n)
    (q : Fin 513) : startsBy b r (ix2 i q) = 1#1 ↔ foundN (idN b) q.val ≤ n := by
  pointwise [startsBy]
  have hs := foundN_le (idN b) q.val
  have et : (BitVec.ofNat 32 (foundN (idN b) q.val)).toNat = foundN (idN b) q.val := by rw [BitVec.toNat_ofNat]; omega
  have en : (BitVec.ofNat 32 n).toNat = n := by rw [BitVec.toNat_ofNat]; omega
  rw [startsW_eq h, hr, sle_iff_toNat (by rw [et]; omega) (by rw [en]; omega), et, en]

/-- The last segment placed no later than the row named for a block. -/
theorem segAt_eq (h : InRange (idN b)) (r : IVec S50 32) (n : ℕ) (hn : n < 320000) (i : Fin 50) (hr : r (ix1 i) = BitVec.ofNat 32 n) :
    segAt b r (ix1 i) = BitVec.ofNat 32 (upToN (idN b) n - 1) := by
  unfold segAt
  show IntOp.subi _ 1#32 = _
  rw [count_row (by decide) _ _ _ _ i (fun q => foundN (idN b) q ≤ n) (fun q => startsBy_iff h r n hn i hr q)]
  have h1 := upToN_pos (idN b) n
  have h2 := upToN_le h n hn
  exact subi_nat (a := upToN (idN b) n) (b := 1) (by omega) (by omega)

theorem blockRow_eq (i : Fin 50) : blockRow (ix1 i) = BitVec.ofNat 32 (6400 * i.val) := by
  pointwise [blockRow]
  have := i.isLt
  rw [Nat.mul_comm]
  exact muli_nat (b := 6400) (by omega) (by omega) (by omega)

theorem blockEnd_eq (i : Fin 50) : blockEnd (ix1 i) = BitVec.ofNat 32 (6400 * i.val + 6399) := by
  have hi := i.isLt
  show IntOp.subi (IntOp.addi (blockRow (ix1 i)) 6400#32) 1#32 = _
  rw [blockRow_eq]
  exact (congrArg (IntOp.subi · 1#32) (addi_nat (b := 6400) (by omega))).trans (subi_nat (b := 1) (by omega) (by omega))

/-! ## The tables -/

variable {F : FTy → Type} [FloatOps F]
variable {m : (ℓ : Loc nD τ sig) → Buf (Elt F) ℓ}

/-- A table entry of a segment is where the search places it. -/
theorem starts_found (h : InRange (idN (ids m))) (q : Fin 513) : starts m (ix1 q) = BitVec.ofNat 32 (foundN (idN (ids m)) q.val) := by
  rw [starts_eq]; exact startsW_eq h q

theorem segLo_found (h : InRange (idN (ids m))) (i : Fin 50) :
    segLo m (ix1 i) = BitVec.ofNat 32 (upToN (idN (ids m)) (6400 * i.val) - 1) := by
  rw [segLo_eq]; exact segAt_eq h _ _ (by have := i.isLt; omega) i (blockRow_eq i)

theorem segHi_found (h : InRange (idN (ids m))) (i : Fin 50) :
    segHi m (ix1 i) = BitVec.ofNat 32 (upToN (idN (ids m)) (6400 * i.val + 6399) - 1) := by
  rw [segHi_eq]; exact segAt_eq h _ _ (by have := i.isLt; omega) i (blockEnd_eq i)

/-- Segment numbers in range make the tables well formed, in any order. -/
theorem tables_of (h : InRange (idN (ids m))) : Tables m where
  seg i := by
    have hi : (i 0).val < 50 := (i 0).isLt
    have h1 := upToN_mono (idN (ids m)) (Nat.le_add_right (6400 * (i 0).val) 6399)
    have h2 := upToN_pos (idN (ids m)) (6400 * (i 0).val)
    have h3 := upToN_le h (6400 * (i 0).val + 6399) (by omega)
    have e1 : blockW (segLo m) i = BitVec.ofNat 32 (upToN (idN (ids m)) (6400 * (i 0).val) - 1) := segLo_found h ⟨(i 0).val, hi⟩
    have e2 : blockW (segHi m) i = BitVec.ofNat 32 (upToN (idN (ids m)) (6400 * (i 0).val + 6399) - 1) :=
      segHi_found h ⟨(i 0).val, hi⟩
    rw [e1, e2]
    constructor
    · rw [BitVec.toNat_ofNat, BitVec.toNat_ofNat]; omega
    · rw [BitVec.toNat_ofNat]; omega
  row x := by
    obtain ⟨q, rfl⟩ : ∃ q : Fin 513, x = ix1 q := ⟨x 0, eq_ix1 x⟩
    have := foundN_le (idN (ids m)) q.val
    unfold RowWord
    rw [starts_found h, BitVec.toNat_ofNat]
    omega

/-! ## The tables of sorted segment numbers -/

theorem starts_at (h : Ids (idN (ids m))) (q : Fin 513) : starts m (ix1 q) = BitVec.ofNat 32 (startN (idN (ids m)) q.val) := by
  rw [starts_found h.lt, foundN_eq h]

theorem segLo_at (h : Ids (idN (ids m))) (i : Fin 50) : segLo m (ix1 i) = BitVec.ofNat 32 (idN (ids m) (6400 * i.val)) := by
  rw [segLo_found h.lt, upToN_eq h _ (by have := i.isLt; omega), Nat.add_sub_cancel]

theorem segHi_at (h : Ids (idN (ids m))) (i : Fin 50) : segHi m (ix1 i) = BitVec.ofNat 32 (idN (ids m) (6400 * i.val + 6399)) := by
  rw [segHi_found h.lt, upToN_eq h _ (by have := i.isLt; omega), Nat.add_sub_cancel]

end Cert.KernelIdeal
-- ==== Proof.Frames.lean ====
/-
  The frame claims of the kernel's program at any float instance.
-/
module

public import proofs.«01_k».proof.Proof.Run
public import proofs.«01_k».proof.Proof.Tables

@[expose] public section

set_option maxRecDepth 16384

noncomputable section

namespace Cert.KernelIdeal

open Idealize.ShloMosaic Idealize.ShloMosaic.TcCoe Idealize.SL.Sem
open Cert.SegMax Cert.KernelIdeal.Gen

variable {F : FTy → Type} [FloatOps F]

/-- From segment numbers in range the program terminates with its arguments unchanged and every semaphore counter at zero. -/
theorem frame_of (m : (ℓ : Loc nD τ sig) → Buf (Elt F) ℓ) (ρ : Dev nD → PrngReg) (h : InRange (idN (ids m))) :
    θ_run defs (onTc (τ := τ) (main (F := F))) ⟨m, fun _ => 0, ρ⟩ (fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4))
      ∧ r.2.sem = fun _ => 0) :=
  θ_run_mono (run_results ρ (tables_of h)) fun r hr => ⟨fun c => (hr.1 c).2.2.2, hr.2⟩

end Cert.KernelIdeal
-- ==== Proof.Pre.lean ====
/-
  What the first precondition says of the argument arrays: the segment numbers are below 512; and how
  sorted numbers in range give what the counting needs.
-/
module

public import proofs.«01_k».proof.Proof.Tables
public import proofs.«01_k».proof.Pre_ids_in_range

@[expose] public section

set_option maxRecDepth 16384

noncomputable section

namespace Cert.KernelIdeal

open Idealize.ShloMosaic Idealize.ShloMosaic.TcCoe Idealize.ShloMosaic.Tactic
open Idealize.ShloMosaic.StableHlo.Predicate (slt_iff_toNat sle_iff_toNat toInt_eq_toNat_of_lt)
open Cert.SegMax Cert.KernelIdeal.Gen

/-- A word at least 0 and below 512, signed, is a natural below 512. -/
theorem word_lt (w : BitVec 32) (h : IntOp.andi (IntOp.cmpi .sge w 0#32) (IntOp.cmpi .slt w 512#32) = 1#1) : w.toNat < 512 := by
  unfold IntOp.andi IntOp.cmpi at h
  dsimp only at h
  have hor : ∀ a b : Bool, BitVec.ofBool a &&& BitVec.ofBool b = 1#1 → a = true ∧ b = true := by decide
  obtain ⟨h1, h2⟩ := hor _ _ h
  rw [BitVec.sle, decide_eq_true_eq] at h1
  rw [BitVec.slt, decide_eq_true_eq] at h2
  have e0 : (0#32).toInt = 0 := by decide
  have e1 : (512#32).toInt = 512 := by decide
  have e2 := BitVec.toInt_eq_toNat_cond w
  split at e2 <;> omega

/-- In range and in order are what the counting needs. -/
theorem ids_of (b : IVec S320000 32)
    (h1 : ∀ n : Fin 320000, IntOp.andi (IntOp.cmpi .sge (b (ix1 n)) 0#32) (IntOp.cmpi .slt (b (ix1 n)) 512#32) = 1#1)
    (h2 : ∀ (n : ℕ) (h : n + 1 < 320000), IntOp.cmpi .sle (b (ix1 (⟨n, by omega⟩ : Fin 320000))) (b (ix1 (⟨n + 1, h⟩ : Fin 320000))) = 1#1) :
    Ids (idN b) := by
  have hlt : ∀ a, idN b a < 512 := fun a => word_lt _ (h1 _)
  refine ⟨fun a c hac hc => ?_, fun a _ => hlt a⟩
  induction c with
  | zero => rw [show a = 0 by omega]
  | succ c ih =>
    rcases Nat.lt_or_ge c a with h | h
    · rw [show a = c + 1 by omega]
    · refine (ih h (by omega)).trans ?_
      have hs := h2 c hc
      have e1 := toNat_id b ⟨c, by omega⟩
      have e2 := toNat_id b ⟨c + 1, hc⟩
      have l1 := hlt c
      have l2 := hlt (c + 1)
      dsimp only at e1 e2
      rw [sle_iff_toNat (by rw [e1]; omega) (by rw [e2]; omega), e1, e2] at hs
      exact hs

/-- The first precondition: the segment numbers are in range. -/
theorem inRange_of_pre {F : FTy → Type} [FloatOps F] [Cert.Pre_ids_in_range.Facts] (x : FVec F S320000x128 .f32) (p : FVec F S320000x3 .f32)
    (b : IVec S320000 32) (W : FVec F S131x128 .f32) (bias : FVec F S128 .f32)
    (h : Cert.Pre_ids_in_range.fn (F := F) x p b W bias = fun _ => 1#1) : InRange (idN b) := by
  have hw : ∀ n : Fin 320000, (b (ix1 n)).toNat < 512 := fun n => word_lt _ (by
    have e := congrFun h (ix1 n); pointwise [Cert.Pre_ids_in_range.fn] at e; exact e)
  exact fun _ _ => hw _

end Cert.KernelIdeal
-- ==== Proof.PreFinite.lean ====
/-
  What the second precondition, the value claim's, says of the argument arrays: the segment numbers are sorted and below 512, and
  every float entry is finite.
-/
module

public import proofs.«01_k».proof.Proof.Pre
public import proofs.«01_k».proof.Pre_ids_sorted_finite

@[expose] public section

set_option maxRecDepth 16384

noncomputable section

namespace Cert.KernelIdeal

open Idealize.ShloMosaic Idealize.ShloMosaic.TcCoe Idealize.ShloMosaic.Tactic
open Idealize.ShloMosaic.StableHlo.Predicate (slt_iff_toNat sle_iff_toNat toInt_eq_toNat_of_lt)
open Cert.SegMax Cert.KernelIdeal.Gen

/-- The second precondition says the same of the segment numbers. -/
theorem ids_of_pre_finite {F : FTy → Type} [FloatOps F] [Cert.Pre_ids_sorted_finite.Facts] (x : FVec F S320000x128 .f32) (p : FVec F S320000x3 .f32)
    (b : IVec S320000 32) (W : FVec F S131x128 .f32) (bias : FVec F S128 .f32)
    (h1 : (Cert.Pre_ids_sorted_finite.fn (F := F) x p b W bias).1 = fun _ => 1#1)
    (h2 : (Cert.Pre_ids_sorted_finite.fn (F := F) x p b W bias).2.1 = fun _ => 1#1) :
    Ids (idN b) :=
  ids_of b (fun n => by have e := congrFun h1 (ix1 n); pointwise [Cert.Pre_ids_sorted_finite.fn, Cert.Pre_ids_sorted_finite.fn_part1] at e; exact e) (fun n h => by
    have e := congrFun h2 (ix1 (⟨n, by omega⟩ : Fin 319999)); pointwise [Cert.Pre_ids_sorted_finite.fn, Cert.Pre_ids_sorted_finite.fn_part1] at e
    simpa only [Nat.zero_add, Nat.add_comm 1] using e)

/-! ## Finite entries -/

/-- The pattern of plus infinity. -/
theorem ofBits_top : Ideal.ofBits .f32 0x7F800000#32 = ⊤ := by
  show Ideal.ieee 8 23 (0x7F800000#32 : BitVec 32) = ⊤
  unfold Ideal.ieee
  dsimp only
  rw [if_pos (by decide), if_pos (by decide), if_neg (by decide)]

/-- A magnitude below infinity is that of a real number. -/
theorem finite_of_lt (x : EReal) (h : BitVec.ofBool (decide (FloatOps.absf (F := Ideal) (φ := .f32) x < Ideal.ofBits .f32 0x7F800000#32)) = 1#1) :
    x ≠ ⊥ ∧ x ≠ ⊤ := by
  rw [ofBits_top, StableHlo.Predicate.ofBool_eq_one_iff, decide_eq_true_eq] at h
  change max x (-x) < ⊤ at h
  rw [max_lt_iff] at h
  refine ⟨fun e => ?_, h.1.ne⟩
  rw [e, EReal.neg_bot] at h
  exact absurd h.2 (lt_irrefl _)

/-- The second precondition: every float entry is finite. -/
theorem finite_of_pre [Cert.Pre_ids_sorted_finite.Facts] (x : FVec Ideal S320000x128 .f32) (p : FVec Ideal S320000x3 .f32)
    (b : IVec S320000 32) (W : FVec Ideal S131x128 .f32) (bias : FVec Ideal S128 .f32)
    (h1 : (Cert.Pre_ids_sorted_finite.fn (F := Ideal) x p b W bias).2.2.1 = fun _ => 1#1)
    (h2 : (Cert.Pre_ids_sorted_finite.fn (F := Ideal) x p b W bias).2.2.2.1 = fun _ => 1#1)
    (h3 : (Cert.Pre_ids_sorted_finite.fn (F := Ideal) x p b W bias).2.2.2.2.1 = fun _ => 1#1)
    (h4 : (Cert.Pre_ids_sorted_finite.fn (F := Ideal) x p b W bias).2.2.2.2.2 = fun _ => 1#1) :
    (∀ (i : Fin 320000) (j : Fin 128), x (ix2 i j) ≠ ⊥ ∧ x (ix2 i j) ≠ ⊤) ∧ (∀ (i : Fin 320000) (j : Fin 3), p (ix2 i j) ≠ ⊥ ∧ p (ix2 i j) ≠ ⊤)
      ∧ (∀ (i : Fin 131) (j : Fin 128), W (ix2 i j) ≠ ⊥ ∧ W (ix2 i j) ≠ ⊤) ∧ (∀ j : Fin 128, bias (ix1 j) ≠ ⊥ ∧ bias (ix1 j) ≠ ⊤) := by
  refine ⟨fun i j => finite_of_lt _ ?_, fun i j => finite_of_lt _ ?_, fun i j => finite_of_lt _ ?_, fun j => finite_of_lt _ ?_⟩
  · have e := congrFun h1 (ix2 i j)
    pointwise [Cert.Pre_ids_sorted_finite.fn, Cert.Pre_ids_sorted_finite.fn_part1] at e
    exact e
  · have e := congrFun h2 (ix2 i j)
    pointwise [Cert.Pre_ids_sorted_finite.fn, Cert.Pre_ids_sorted_finite.fn_part1] at e
    exact e
  · have e := congrFun h3 (ix2 i j)
    pointwise [Cert.Pre_ids_sorted_finite.fn, Cert.Pre_ids_sorted_finite.fn_part1] at e
    exact e
  · have e := congrFun h4 (ix1 j)
    pointwise [Cert.Pre_ids_sorted_finite.fn, Cert.Pre_ids_sorted_finite.fn_part1] at e
    exact e

end Cert.KernelIdeal
-- ==== Proof.Fold.lean ====
/-
  What folding a segment computes over the extended reals: an entry of the accumulator's row is bounded by `c` exactly when the old
  entry is and so is every row of the block between the segment's two positions.
-/
module

public import proofs.«01_k».proof.Proof.Walk
public import Idealize.ShloMosaic.Lib.Pointwise
public import Idealize.ShloMosaic.Lib.StableHlo.Predicate

@[expose] public section

set_option maxRecDepth 16384

noncomputable section

namespace Cert.KernelIdeal

open Idealize.ShloMosaic
open Idealize.ShloMosaic.StableHlo.Predicate (slt_iff_toNat sle_iff_toNat)
open Cert.SegMax Cert.KernelIdeal.Gen

/-- The pattern of minus infinity. -/
theorem ofBits_bot : Ideal.ofBits .f32 0xFF800000#32 = (⊥ : EReal) := by
  show Ideal.ieee 8 23 (0xFF800000#32 : BitVec 32) = ⊥
  unfold Ideal.ieee
  dsimp only
  rw [if_pos (by decide), if_pos (by decide), if_pos (by decide)]

/-- A value kept where a position lies in a range, and minus infinity elsewhere, is bounded when the value is there. -/
theorem masked_le {n s e : ℕ} (hn : n < 2 ^ 31) (hs : s < 2 ^ 31) (he : e < 2 ^ 31) (y c : EReal) :
    (Scalar.select (IntOp.andi (IntOp.cmpi .sge (BitVec.ofNat 32 n) (BitVec.ofNat 32 s)) (IntOp.cmpi .slt (BitVec.ofNat 32 n) (BitVec.ofNat 32 e)))
      y (Ideal.ofBits .f32 0xFF800000#32) : EReal) ≤ c ↔ (s ≤ n → n < e → y ≤ c) := by
  have en : (BitVec.ofNat 32 n).toNat = n := by rw [BitVec.toNat_ofNat]; omega
  have es : (BitVec.ofNat 32 s).toNat = s := by rw [BitVec.toNat_ofNat]; omega
  have ee : (BitVec.ofNat 32 e).toNat = e := by rw [BitVec.toNat_ofNat]; omega
  have h1 : IntOp.cmpi .slt (BitVec.ofNat 32 n) (BitVec.ofNat 32 e) = 1#1 ↔ n < e := by
    rw [slt_iff_toNat (by omega) (by omega), en, ee]
  have h2 : IntOp.cmpi .sge (BitVec.ofNat 32 n) (BitVec.ofNat 32 s) = 1#1 ↔ s ≤ n := by
    show IntOp.cmpi .sle (BitVec.ofNat 32 s) (BitVec.ofNat 32 n) = 1#1 ↔ _
    rw [sle_iff_toNat (by omega) (by omega), en, es]
  have hand : ∀ a b : BitVec 1, IntOp.andi a b = 1#1 ↔ a = 1#1 ∧ b = 1#1 := by decide
  unfold Scalar.select
  split
  · rename_i h
    have h := (hand _ _).mp h
    rw [h1, h2] at h
    exact ⟨fun x _ _ => x, fun x => x h.1 h.2⟩
  · rename_i h
    rw [ofBits_bot]
    exact ⟨fun _ a b => absurd ((hand _ _).mpr ⟨h2.mpr a, h1.mpr b⟩) h, fun _ => bot_le⟩

variable (i : grid0.Coords)

/-- Entry `l` of row `n` of a block. -/
def rowAt (h : Vec Ideal S6400x128 .f32) (l : Fin 128) (n : ℕ) : EReal := h (ix2 ⟨n % 6400, Nat.mod_lt _ (by decide)⟩ l)

theorem slab_at (h : Vec Ideal S6400x128 .f32) (o : ℕ) (p : Fin 32) (l : Fin 128) :
    slab h o (ix2 p l) = rowAt h l (o + p.val) := rfl

theorem firstGroup_le (h : Vec Ideal S6400x128 .f32) {v w : BitVec 32} (hv : RowWord v) (hw : RowWord w) (p : Fin 32) (l : Fin 128) (c : EReal) :
    firstGroup i h v w (ix2 p l) ≤ c ↔
      (pos i v ≤ 32 * min (pos i v / 32) 199 + p.val → 32 * min (pos i v / 32) 199 + p.val < pos i w →
        rowAt h l (32 * min (pos i v / 32) 199 + p.val) ≤ c) := by
  unfold firstGroup
  pointwise [k0_pay9, k0_pay15]
  have h1 := pos_le i v
  have h2 := pos_le i w
  have hp := p.isLt
  have e : IntOp.addi (BitVec.ofNat 32 p.val) (Scalar.muli 32#32 (Scalar.minsi (floorDiv (posW i v) 32#32) 199#32))
      = BitVec.ofNat 32 (32 * min (pos i v / 32) 199 + p.val) := by
    rw [show posW i v = _ from clampW_eq i hv, floorDiv_nat (b := 32) (by omega) (by omega) (by omega),
      minsi_nat (b := 199) (by omega) (by omega), muli_nat (a := 32) (by omega) (by omega) (by omega), Nat.add_comm]
    exact addi_nat (by omega)
  rw [e, show posW i v = _ from clampW_eq i hv, show posW i w = _ from clampW_eq i hw]
  exact masked_le (by omega) (by omega) (by omega) _ c

theorem lastGroup_le (h : Vec Ideal S6400x128 .f32) {v w : BitVec 32} (hv : RowWord v) (hw : RowWord w) (p : Fin 32) (l : Fin 128) (c : EReal) :
    lastGroup i h v w (ix2 p l) ≤ c ↔
      (pos i v ≤ 32 * ((pos i w - 1) / 32) + p.val → 32 * ((pos i w - 1) / 32) + p.val < pos i w →
        rowAt h l (32 * ((pos i w - 1) / 32) + p.val) ≤ c) := by
  unfold lastGroup
  pointwise [k0_pay10, k0_pay15]
  have h1 := pos_le i v
  have h2 := pos_le i w
  have hp := p.isLt
  have e : IntOp.addi (BitVec.ofNat 32 p.val) (Scalar.muli 32#32 (Scalar.minsi (floorDiv (lastW i w) 32#32) 199#32))
      = BitVec.ofNat 32 (32 * ((pos i w - 1) / 32) + p.val) := by
    rw [show lastW i w = Scalar.maxsi (Scalar.subi (BitVec.ofNat 32 (pos i w)) 1#32) 0#32 from
        congrArg (fun x => Scalar.maxsi (Scalar.subi x 1#32) 0#32) (clampW_eq i hw), maxsi_subi_nat (b := 1) (by omega) (by omega), floorDiv_nat (b := 32) (by omega) (by omega) (by omega),
      minsi_nat (b := 199) (by omega) (by omega), muli_nat (a := 32) (by omega) (by omega) (by omega),
      Nat.min_eq_left (by omega), Nat.add_comm]
    exact addi_nat (by omega)
  change (Scalar.select (IntOp.andi
      (IntOp.cmpi .sge (IntOp.addi (BitVec.ofNat 32 p.val) (Scalar.muli 32#32 (Scalar.minsi (floorDiv (lastW i w) 32#32) 199#32))) (posW i v))
      (IntOp.cmpi .slt (IntOp.addi (BitVec.ofNat 32 p.val) (Scalar.muli 32#32 (Scalar.minsi (floorDiv (lastW i w) 32#32) 199#32))) (posW i w)))
    _ _ : EReal) ≤ c ↔ _
  rw [e, show posW i v = _ from clampW_eq i hv, show posW i w = _ from clampW_eq i hw]
  exact masked_le (by omega) (by omega) (by omega) _ c

theorem pairsMax_fst_le (h : Vec Ideal S6400x128 .f32) (o : ℕ) (acc : Vec Ideal S32x128 .f32 × Vec Ideal S32x128 .f32) (n : ℕ) (p : Fin 32)
    (l : Fin 128) (c : EReal) : (pairsMax h o acc n).1 (ix2 p l) ≤ c ↔
      acc.1 (ix2 p l) ≤ c ∧ ∀ k < n, rowAt h l (32 * (o + 2 * k) + p.val) ≤ c := by
  induction n with
  | zero => exact ⟨fun e => ⟨e, fun k hk => absurd hk (by omega)⟩, fun e => e.1⟩
  | succ n ih =>
    rw [pairsMax_succ]
    pointwise [k0_pay16]
    rw [max_le_iff, ih, slab_at]
    constructor
    · rintro ⟨⟨a, b⟩, d⟩
      refine ⟨a, fun k hk => ?_⟩
      rcases Nat.lt_or_ge k n with h | h
      · exact b k h
      · rw [show k = n by omega]; exact d
    · rintro ⟨a, b⟩
      exact ⟨⟨a, fun k hk => b k (by omega)⟩, b n (by omega)⟩

theorem pairsMax_snd_le (h : Vec Ideal S6400x128 .f32) (o : ℕ) (acc : Vec Ideal S32x128 .f32 × Vec Ideal S32x128 .f32) (n : ℕ) (p : Fin 32)
    (l : Fin 128) (c : EReal) : (pairsMax h o acc n).2 (ix2 p l) ≤ c ↔
      acc.2 (ix2 p l) ≤ c ∧ ∀ k < n, rowAt h l (32 * (o + 2 * k + 1) + p.val) ≤ c := by
  induction n with
  | zero => exact ⟨fun e => ⟨e, fun k hk => absurd hk (by omega)⟩, fun e => e.1⟩
  | succ n ih =>
    rw [pairsMax_succ]
    pointwise [k0_pay17]
    rw [max_le_iff, ih, slab_at]
    constructor
    · rintro ⟨⟨a, b⟩, d⟩
      refine ⟨a, fun k hk => ?_⟩
      rcases Nat.lt_or_ge k n with h | h
      · exact b k h
      · rw [show k = n by omega]; exact d
    · rintro ⟨a, b⟩
      exact ⟨⟨a, fun k hk => b k (by omega)⟩, b n (by omega)⟩

theorem restMax_le (h : Vec Ideal S6400x128 .f32) (o : ℕ) (acc : Vec Ideal S32x128 .f32) (n : ℕ) (p : Fin 32)
    (l : Fin 128) (c : EReal) : restMax h o acc n (ix2 p l) ≤ c ↔
      acc (ix2 p l) ≤ c ∧ ∀ k < n, rowAt h l (32 * (o + k) + p.val) ≤ c := by
  induction n with
  | zero => exact ⟨fun e => ⟨e, fun k hk => absurd hk (by omega)⟩, fun e => e.1⟩
  | succ n ih =>
    rw [restMax_succ]
    pointwise [k0_pay20]
    rw [max_le_iff, ih, slab_at]
    constructor
    · rintro ⟨⟨a, b⟩, d⟩
      refine ⟨a, fun k hk => ?_⟩
      rcases Nat.lt_or_ge k n with h | h
      · exact b k h
      · rw [show k = n by omega]; exact d
    · rintro ⟨a, b⟩
      exact ⟨⟨a, fun k hk => b k (by omega)⟩, b n (by omega)⟩

/-- The 32 lanes and the old row, joined. -/
theorem join_le (a b : Vec Ideal S32x128 .f32) (r : Vec Ideal S1x128 .f32) (l : Fin 128) (c : EReal) :
    k0_pay22 a b r (ix2 0 l) ≤ c ↔ r (ix2 0 l) ≤ c ∧ ∀ p : Fin 32, b (ix2 p l) ≤ c ∧ a (ix2 p l) ≤ c := by
  pointwise [k0_pay22]
  rw [max_le_iff, Finset.fold_max_le, ofBits_bot]
  refine and_congr_right fun _ => ⟨fun e p => max_le_iff.mp (e.2 p (Finset.mem_univ p)), fun e => ⟨bot_le, fun p _ => max_le_iff.mpr (e p)⟩⟩

theorem foldRow_le (h : Vec Ideal S6400x128 .f32) {v w : BitVec 32} (hv : RowWord v) (hw : RowWord w) (r : Vec Ideal S1x128 .f32)
    (l : Fin 128) (c : EReal) :
    foldRow i h v w r (ix2 0 l) ≤ c ↔ r (ix2 0 l) ≤ c ∧ ∀ n, pos i v ≤ n → n < pos i w → rowAt h l n ≤ c := by
  have h1 := pos_le i v
  have h2 := pos_le i w
  unfold foldRow
  rw [join_le]
  refine and_congr_right fun _ => ?_
  constructor
  · intro H n hn1 hn2
    obtain ⟨H1, H2⟩ := H ⟨n % 32, Nat.mod_lt _ (by decide)⟩
    rw [restMax_le, pairsMax_fst_le, firstGroup_le i h hv hw] at H1
    rw [pairsMax_snd_le, lastGroup_le i h hv hw] at H2
    obtain ⟨⟨F, P⟩, R⟩ := H1
    obtain ⟨L, Q⟩ := H2
    dsimp only at F P R L Q
    by_cases c1 : n / 32 = min (pos i v / 32) 199
    · have e : 32 * min (pos i v / 32) 199 + n % 32 = n := by omega
      rw [e] at F
      exact F hn1 hn2
    by_cases c2 : n / 32 = (pos i w - 1) / 32
    · have e : 32 * ((pos i w - 1) / 32) + n % 32 = n := by omega
      rw [e] at L
      exact L hn1 hn2
    have c3 : lo i v ≤ n / 32 := by unfold lo; omega
    have c4 : n / 32 < hi i w := by unfold hi; omega
    by_cases c5 : n / 32 < lo i v + 2 * pairs i v w
    · rcases Nat.even_or_odd' (n / 32 - lo i v) with ⟨k, hk | hk⟩
      · have e : 32 * (lo i v + 2 * k) + n % 32 = n := by omega
        have := P k (by omega)
        rwa [e] at this
      · have e : 32 * (lo i v + 2 * k + 1) + n % 32 = n := by omega
        have := Q k (by omega)
        rwa [e] at this
    · have e : 32 * (lo i v + 2 * pairs i v w + (n / 32 - (lo i v + 2 * pairs i v w))) + n % 32 = n := by omega
      have := R (n / 32 - (lo i v + 2 * pairs i v w)) (by omega)
      rwa [e] at this
  · intro H p
    have hp := p.isLt
    rw [restMax_le, pairsMax_fst_le, firstGroup_le i h hv hw, pairsMax_snd_le, lastGroup_le i h hv hw]
    have hb : lo i v = (pos i v + 31) / 32 := rfl
    have hd : hi i w = pos i w / 32 := rfl
    have hq : pairs i v w = (hi i w - lo i v) / 2 := rfl
    exact ⟨⟨⟨H _, fun k hk => H _ (by omega) (by omega)⟩, fun k hk => H _ (by omega) (by omega)⟩,
      H _, fun k hk => H _ (by omega) (by omega)⟩

theorem startW_mod (T : IVec S513 32) (s : ℕ) (hs : s < 513) : startW T s = T (ix1 (⟨s, hs⟩ : Fin 513)) := by
  unfold startW
  exact congrArg (fun q : Fin 513 => T (ix1 q)) (Fin.ext (Nat.mod_eq_of_lt hs))

/-- Folding a run of segments bounds each of their rows by the old row and by the segment's rows of the block. -/
theorem foldSegs_le (T : IVec S513 32) (hT : ∀ q : Fin 513, RowWord (T (ix1 q))) (h : Vec Ideal S6400x128 .f32) (a : ℕ)
    (g : Vec Ideal S512x128 .f32) (n : ℕ) (s : Fin 512) (l : Fin 128) (c : EReal) :
    foldSegs i T h a g n (ix2 s l) ≤ c ↔ g (ix2 s l) ≤ c ∧ (a ≤ s.val → s.val < a + n →
      ∀ r, pos i (startW T s.val) ≤ r → r < pos i (startW T (s.val + 1)) → rowAt h l r ≤ c) := by
  induction n with
  | zero => exact ⟨fun e => ⟨e, fun _ hk => absurd hk (by omega)⟩, fun e => e.1⟩
  | succ n ih =>
    show (putRow (foldSegs i T h a g n) (a + n) _ (ix2 s l) : EReal) ≤ c ↔ _
    unfold putRow
    by_cases e : s.val = a + n
    · rw [if_pos (by exact e)]
      show (foldRow i h (startW T (a + n)) (startW T (a + n + 1)) (row (foldSegs i T h a g n) (a + n)) (ix2 0 l) : EReal) ≤ c ↔ _
      rw [foldRow_le i h (hT _) (hT _)]
      have er : row (foldSegs i T h a g n) (a + n) (ix2 0 l) = foldSegs i T h a g n (ix2 s l) := by
        unfold row
        exact congrArg (fun q : Fin 512 => foldSegs i T h a g n (ix2 q l)) (Fin.ext (by rw [← e]; exact Nat.mod_eq_of_lt s.isLt))
      rw [er, ih, ← e]
      constructor
      · rintro ⟨⟨x, _⟩, y⟩; exact ⟨x, fun _ _ => y⟩
      · rintro ⟨x, y⟩; exact ⟨⟨x, fun _ hk => absurd hk (by omega)⟩, y (by omega) (by omega)⟩
    · rw [if_neg (by exact e), ih]
      constructor
      · rintro ⟨x, y⟩; exact ⟨x, fun h1 h2 => y h1 (by omega)⟩
      · rintro ⟨x, y⟩; exact ⟨x, fun h1 h2 => y h1 (by omega)⟩

end Cert.KernelIdeal
-- ==== Proof.Linear.lean ====
/-
  The linear layer: every row of the kernel's block product is the row of the whole layer.
-/
module

public import proofs.«01_k».proof.Proof.Fold
public import proofs.«01_k».proof.Proof.Tables
public import Idealize.ShloMosaic.Lib.Pipeline.ValueKit

@[expose] public section

set_option maxRecDepth 16384

noncomputable section

namespace Cert.KernelIdeal

open Idealize.ShloMosaic Idealize.ShloMosaic.TcCoe Idealize.ShloMosaic.Tactic
open Cert.SegMax Cert.KernelIdeal.Gen

/-- Entry `l` of row `n` of the linear layer: the two parts of the row times the two parts of the weights, and the bias. -/
def lin (x : FVec Ideal S320000x128 .f32) (p : FVec Ideal S320000x3 .f32) (W : FVec Ideal S131x128 .f32) (bias : FVec Ideal S128 .f32)
    (n : Fin 320000) (l : Fin 128) : EReal :=
  (∑ k : Fin 128, x (ix2 n k) * W (ix2 (⟨k.val, by omega⟩ : Fin 131) l))
    + (∑ k : Fin 3, p (ix2 n k) * W (ix2 (⟨128 + k.val, by omega⟩ : Fin 131) l)) + bias (ix1 l)

variable (m : (ℓ : Loc nD τ sig) → Buf (Elt Ideal) ℓ)

theorem emb_0 (t : Fin (cfgM m).N) (r : Fin 6400) (k : Fin 128) (hn : 6400 * t.val + r.val < 320000) :
    ((((cfgM m).win 0).blk t).view.emb (ix2 r k) : S320000x128.Idx) = ix2 (⟨6400 * t.val + r.val, hn⟩ : Fin 320000) k := by
  have hc := coords_val t
  have ht : t.val < 50 := t.isLt.trans_eq N_0
  have e0 : ((cfgM m).win 0).index t (0 : Fin 2) = t.val := by
    show (BitVec.ofNat 32 (grid0.coords t 0).val).toNat = t.val
    rw [hc, BitVec.toNat_ofNat]
    omega
  have e1 : ((cfgM m).win 0).index t (1 : Fin 2) = 0 := rfl
  funext a
  refine Fin.ext ?_
  match a with
  | ⟨0, _⟩ => blk_simp [e0]; show t.val * 6400 + r.val = 6400 * t.val + r.val; omega
  | ⟨1, _⟩ => blk_simp [e1]

theorem emb_1 (t : Fin (cfgM m).N) (r : Fin 6400) (k : Fin 3) (hn : 6400 * t.val + r.val < 320000) :
    ((((cfgM m).win 1).blk t).view.emb (ix2 r k) : S320000x3.Idx) = ix2 (⟨6400 * t.val + r.val, hn⟩ : Fin 320000) k := by
  have hc := coords_val t
  have ht : t.val < 50 := t.isLt.trans_eq N_0
  have e0 : ((cfgM m).win 1).index t (0 : Fin 2) = t.val := by
    show (BitVec.ofNat 32 (grid0.coords t 0).val).toNat = t.val
    rw [hc, BitVec.toNat_ofNat]
    omega
  have e1 : ((cfgM m).win 1).index t (1 : Fin 2) = 0 := rfl
  funext a
  refine Fin.ext ?_
  match a with
  | ⟨0, _⟩ => blk_simp [e0]; show t.val * 6400 + r.val = 6400 * t.val + r.val; omega
  | ⟨1, _⟩ => blk_simp [e1]

theorem emb_2 (t : Fin (cfgM m).N) (r : Fin 128) (k : Fin 128) :
    ((((cfgM m).win 2).blk t).view.emb (ix2 r k) : S128x128.Idx) = ix2 r k := by
  have e0 : ((cfgM m).win 2).index t (0 : Fin 2) = 0 := rfl
  have e1 : ((cfgM m).win 2).index t (1 : Fin 2) = 0 := rfl
  funext a
  refine Fin.ext ?_
  match a with
  | ⟨0, _⟩ => blk_simp [e0]
  | ⟨1, _⟩ => blk_simp [e1]

theorem emb_3 (t : Fin (cfgM m).N) (r : Fin 3) (k : Fin 128) :
    ((((cfgM m).win 3).blk t).view.emb (ix2 r k) : S3x128.Idx) = ix2 r k := by
  have e0 : ((cfgM m).win 3).index t (0 : Fin 2) = 0 := rfl
  have e1 : ((cfgM m).win 3).index t (1 : Fin 2) = 0 := rfl
  funext a
  refine Fin.ext ?_
  match a with
  | ⟨0, _⟩ => blk_simp [e0]
  | ⟨1, _⟩ => blk_simp [e1]

theorem emb_4 (t : Fin (cfgM m).N) (r : Fin 1) (k : Fin 128) :
    ((((cfgM m).win 4).blk t).view.emb (ix2 r k) : S1x128.Idx) = ix2 r k := by
  have e0 : ((cfgM m).win 4).index t (0 : Fin 2) = 0 := rfl
  have e1 : ((cfgM m).win 4).index t (1 : Fin 2) = 0 := rfl
  funext a
  refine Fin.ext ?_
  match a with
  | ⟨0, _⟩ => blk_simp [e0]
  | ⟨1, _⟩ => blk_simp [e1]

set_option maxHeartbeats 4000000 in
theorem V_52 (c : Dev nD) : V m c main_v52 = (extractStridedSlice S128x128 ![0, 0] (m ((c : Thread nD τ).loc main_arg3)) slices_S131x128_S128x128_0_0 : (⟨S128x128, .f32⟩ : BufTy).Contents (Elt Ideal)) := by
  show StableHlo.after (List.flatten [hostOps0]) (fun b => m (c, b)) (Proc.devRef .tc main_v52) = _
  rw [show List.flatten [hostOps0 (F := Ideal)] = hostOps0 from List.append_nil _]
  after_results

set_option maxHeartbeats 4000000 in
theorem V_53 (c : Dev nD) : V m c main_v53 = (extractStridedSlice S3x128 ![128, 0] (m ((c : Thread nD τ).loc main_arg3)) slices_S131x128_S3x128_128_0 : (⟨S3x128, .f32⟩ : BufTy).Contents (Elt Ideal)) := by
  show StableHlo.after (List.flatten [hostOps0]) (fun b => m (c, b)) (Proc.devRef .tc main_v53) = _
  rw [show List.flatten [hostOps0 (F := Ideal)] = hostOps0 from List.append_nil _]
  after_results

set_option maxHeartbeats 4000000 in
theorem V_54 (c : Dev nD) : V m c main_v54 = (shapeCast S1x128 (m ((c : Thread nD τ).loc main_arg4)) shapeCasts_S128_S1x128 : (⟨S1x128, .f32⟩ : BufTy).Contents (Elt Ideal)) := by
  show StableHlo.after (List.flatten [hostOps0]) (fun b => m (c, b)) (Proc.devRef .tc main_v54) = _
  rw [show List.flatten [hostOps0 (F := Ideal)] = hostOps0 from List.append_nil _]
  after_results
  rfl

theorem block_0 (c : Dev nD) (t : Fin grid0.N) (r : Fin 6400) (k : Fin 128) (hn : 6400 * t.val + r.val < 320000) :
    (iblk m c 0 t (ix2 r k) : EReal) = (m ((c : Thread nD τ).loc main_arg0) : FVec Ideal S320000x128 .f32) (ix2 (⟨6400 * t.val + r.val, hn⟩ : Fin 320000) k) := by
  unfold iblk
  blk_simp
  refine (congrFun (V_kept m c main_arg0 (by decide)) _).trans ?_
  exact congrArg (m ((c : Thread nD τ).loc main_arg0)) (emb_0 m t r k hn)

theorem block_1 (c : Dev nD) (t : Fin grid0.N) (r : Fin 6400) (k : Fin 3) (hn : 6400 * t.val + r.val < 320000) :
    (iblk m c 1 t (ix2 r k) : EReal) = (m ((c : Thread nD τ).loc main_arg1) : FVec Ideal S320000x3 .f32) (ix2 (⟨6400 * t.val + r.val, hn⟩ : Fin 320000) k) := by
  unfold iblk
  blk_simp
  refine (congrFun (V_kept m c main_arg1 (by decide)) _).trans ?_
  exact congrArg (m ((c : Thread nD τ).loc main_arg1)) (emb_1 m t r k hn)

theorem block_2 (c : Dev nD) (t : Fin grid0.N) (r : Fin 128) (k : Fin 128) :
    (iblk m c 2 t (ix2 r k) : EReal) = (m ((c : Thread nD τ).loc main_arg3) : FVec Ideal S131x128 .f32) (ix2 (⟨r.val, by omega⟩ : Fin 131) k) := by
  unfold iblk
  blk_simp
  refine (congrArg (V m c (Pipeline.arrRef spec0 2)) (emb_2 m t r k)).trans ?_
  refine (congrFun (V_52 m c) (ix2 r k)).trans ?_
  pointwise []

theorem block_3 (c : Dev nD) (t : Fin grid0.N) (r : Fin 3) (k : Fin 128) :
    (iblk m c 3 t (ix2 r k) : EReal) = (m ((c : Thread nD τ).loc main_arg3) : FVec Ideal S131x128 .f32) (ix2 (⟨128 + r.val, by omega⟩ : Fin 131) k) := by
  unfold iblk
  blk_simp
  refine (congrArg (V m c (Pipeline.arrRef spec0 3)) (emb_3 m t r k)).trans ?_
  refine (congrFun (V_53 m c) (ix2 r k)).trans ?_
  pointwise []

theorem block_4 (c : Dev nD) (t : Fin grid0.N) (k : Fin 128) :
    (iblk m c 4 t (ix2 0 k) : EReal) = (m ((c : Thread nD τ).loc main_arg4) : FVec Ideal S128 .f32) (ix1 k) := by
  unfold iblk
  blk_simp
  refine (congrArg (V m c (Pipeline.arrRef spec0 4)) (emb_4 m t 0 k)).trans ?_
  refine (congrFun (V_54 m c) (ix2 0 k)).trans ?_
  pointwise []

/-- Row `r` of the block product is row `6400 t + r` of the layer. -/
theorem prod_at (c : Dev nD) (t : Fin grid0.N) (r : Fin 6400) (l : Fin 128) (hn : 6400 * t.val + r.val < 320000) :
    (k0_pay14 (iblk m c 0 t) (iblk m c 2 t) (iblk m c 1 t) (iblk m c 3 t) (iblk m c 4 t) (ix2 r l) : EReal)
      = lin (m ((c : Thread nD τ).loc main_arg0)) (m ((c : Thread nD τ).loc main_arg1)) (m ((c : Thread nD τ).loc main_arg3))
        (m ((c : Thread nD τ).loc main_arg4)) ⟨6400 * t.val + r.val, hn⟩ l := by
  unfold lin
  pointwise [k0_pay14]
  refine congrArg₂ _ (congrArg₂ _ (Finset.sum_congr rfl fun k _ => ?_) (Finset.sum_congr rfl fun k _ => ?_)) (block_4 m c t l)
  · exact congrArg₂ _ (block_0 m c t r k hn) (block_2 m c t k l)
  · exact congrArg₂ _ (block_1 m c t r k hn) (block_3 m c t k l)

end Cert.KernelIdeal
-- ==== Proof.Value.lean ====
/-
  The kernel's pooled array over the extended reals: after each point the accumulator's row of a segment is the maximum of the layer's
  rows of that segment up to the point's last row.
-/
module

public import proofs.«01_k».proof.Proof.Linear
public import proofs.«01_k».proof.Proof.Run

@[expose] public section

set_option maxRecDepth 16384

noncomputable section

namespace Cert.KernelIdeal

open Idealize.ShloMosaic Idealize.ShloMosaic.TcCoe Idealize.ShloMosaic.Tactic
open Cert.SegMax Cert.KernelIdeal.Gen

variable {m : (ℓ : Loc nD τ sig) → Buf (Elt Ideal) ℓ}

/-- The layer on the launched arguments. -/
abbrev layer (m : (ℓ : Loc nD τ sig) → Buf (Elt Ideal) ℓ) (c : Dev nD) (n : Fin 320000) (l : Fin 128) : EReal :=
  lin (m ((c : Thread nD τ).loc main_arg0)) (m ((c : Thread nD τ).loc main_arg1)) (m ((c : Thread nD τ).loc main_arg3))
    (m ((c : Thread nD τ).loc main_arg4)) n l

/-- The position of a start is no later than a row exactly when the segment is no later than the row's. -/
theorem pos_le_iff (h : Ids (idN (ids m))) (t : Fin grid0.N) (q : ℕ) (hq : q < 513) (r : ℕ) (hr : r < 6400) :
    pos (grid0.coords t) (startW (starts m) q) ≤ r ↔ q ≤ idN (ids m) (6400 * t.val + r) := by
  have ht : t.val < 50 := t.isLt.trans_eq N_0
  have hs := startN_le (B := idN (ids m)) q
  have e : (startW (starts m) q).toNat = startN (idN (ids m)) q := by
    rw [startW_mod _ q hq, starts_at h, BitVec.toNat_ofNat]
    dsimp only
    omega
  have hi := startN_le_iff h q (6400 * t.val + r) (by omega)
  unfold pos clampN
  rw [e, coords_val, ← hi]
  omega

/-- What a point folds in: the layer's rows of its block, each into its segment's row. -/
theorem fold_le (h : Ids (idN (ids m))) (c : Dev nD) (t : Fin grid0.N) (g : Vec Ideal S512x128 .f32) (s : Fin 512) (l : Fin 128) (C : EReal) :
    foldBlock (grid0.coords t) (segLo m) (segHi m) (starts m)
        (k0_pay14 (iblk m c 0 t) (iblk m c 2 t) (iblk m c 1 t) (iblk m c 3 t) (iblk m c 4 t)) g (ix2 s l) ≤ C
      ↔ startAcc (grid0.coords t) g (ix2 s l) ≤ C
        ∧ ∀ n : Fin 320000, 6400 * t.val ≤ n.val → n.val < 6400 * t.val + 6400 → idN (ids m) n.val = s.val → layer m c n l ≤ C := by
  have ht : t.val < 50 := t.isLt.trans_eq N_0
  have ea : (blockW (segLo m) (grid0.coords t)).toNat = idN (ids m) (6400 * t.val) := by
    have e : blockW (segLo m) (grid0.coords t) = _ := segLo_at h ⟨((grid0.coords t) 0).val, coord_lt _⟩
    have := h.lt (6400 * t.val) (by omega)
    rw [e, BitVec.toNat_ofNat]
    dsimp only
    rw [coords_val]
    omega
  have eb : (blockW (segHi m) (grid0.coords t)).toNat = idN (ids m) (6400 * t.val + 6399) := by
    have e : blockW (segHi m) (grid0.coords t) = _ := segHi_at h ⟨((grid0.coords t) 0).val, coord_lt _⟩
    have := h.lt (6400 * t.val + 6399) (by omega)
    rw [e, BitVec.toNat_ofNat]
    dsimp only
    rw [coords_val]
    omega
  have er : ∀ (r : ℕ) (hr : r < 6400), rowAt (k0_pay14 (iblk m c 0 t) (iblk m c 2 t) (iblk m c 1 t) (iblk m c 3 t) (iblk m c 4 t)) l r
      = layer m c ⟨6400 * t.val + r, by omega⟩ l := fun r hr => by
    have e1 := prod_at m c t ⟨r, hr⟩ l (by dsimp only; omega)
    refine Eq.trans ?_ e1
    unfold rowAt
    exact congrArg (fun q : Fin 6400 => k0_pay14 (iblk m c 0 t) (iblk m c 2 t) (iblk m c 1 t) (iblk m c 3 t) (iblk m c 4 t) (ix2 q l))
      (Fin.ext (Nat.mod_eq_of_lt hr))
  unfold foldBlock
  rw [foldSegs_le _ _ (fun q => (tables_of h.lt).row _), ea, eb]
  refine and_congr_right fun _ => ?_
  have hs := s.isLt
  constructor
  · intro H n h1 h2 h3
    have hn := n.isLt
    have m1 := h.mono (6400 * t.val) n.val h1 (by omega)
    have m2 := h.mono n.val (6400 * t.val + 6399) (by omega) (by omega)
    have p1 := pos_le_iff h t s.val (by omega) (n.val - 6400 * t.val) (by omega)
    have p2 := pos_le_iff h t (s.val + 1) (by omega) (n.val - 6400 * t.val) (by omega)
    have en : 6400 * t.val + (n.val - 6400 * t.val) = n.val := by omega
    rw [en] at p1 p2
    have := H (by omega) (by omega) (n.val - 6400 * t.val) (p1.mpr (by omega)) (by omega)
    rw [er _ (by omega)] at this
    exact (congrArg (fun q : Fin 320000 => layer m c q l) (Fin.ext en)).symm.trans_le this
  · intro H h1 h2 r h3 h4
    have hr : r < 6400 := lt_of_lt_of_le h4 (pos_le _ _)
    rw [er r hr]
    have p1 := pos_le_iff h t s.val (by omega) r hr
    have p2 := pos_le_iff h t (s.val + 1) (by omega) r hr
    exact H _ (by dsimp only; omega) (by dsimp only; omega) (by dsimp only; omega)

/-- One point's accumulator, from what it finds. -/
theorem step_eq (c : Dev nD) (t : Fin grid0.N) (g : Vec Ideal S512x128 .f32) : step m c t g = leave (grid0.coords t)
    (foldBlock (grid0.coords t) (segLo m) (segHi m) (starts m)
      (k0_pay14 (iblk m c 0 t) (iblk m c 2 t) (iblk m c 1 t) (iblk m c 3 t) (iblk m c 4 t)) g) := rfl

theorem acc_zero (c : Dev nD) (hn : 0 < grid0.N) : acc m c 0 hn = step m c ⟨0, hn⟩ (k0_pay13 (F := Ideal)) := by rw [acc]

theorem acc_succ (c : Dev nD) (n : ℕ) (hn : n + 1 < grid0.N) :
    acc m c (n + 1) hn = step m c ⟨n + 1, hn⟩ (acc m c n (Nat.lt_of_succ_lt hn)) := by rw [acc]

/-- The rectification: a row that is minus infinity stays so. -/
theorem rectify_at (v : Vec Ideal S512x128 .f32) (s : Fin 512) (l : Fin 128) :
    (k0_pay8 v (ix2 s l) : EReal) = if (v (ix2 s l) : EReal) = ⊥ then (v (ix2 s l) : EReal) else max (v (ix2 s l) : EReal) 0 := by
  pointwise [k0_pay8]
  rw [ofBits_bot]
  exact ite_not _ _ _

/-- The segment's row before the last point's rectification: the maximum over its rows so far. -/
theorem acc_le (h : Ids (idN (ids m))) (c : Dev nD) (s : Fin 512) (l : Fin 128) (C : EReal) (n : ℕ) (hn : n < grid0.N) (hl : n < 49) :
    acc m c n hn (ix2 s l) ≤ C ↔ ∀ q : Fin 320000, q.val < 6400 * (n + 1) → idN (ids m) q.val = s.val → layer m c q l ≤ C := by
  induction n with
  | zero =>
    rw [acc_zero, step_eq]
    have e : ((grid0.coords ⟨0, hn⟩) 0).val = 0 := coords_val _
    unfold leave
    rw [if_neg (by omega), fold_le h]
    unfold startAcc
    rw [if_pos e]
    pointwise [k0_pay13]
    rw [ofBits_bot]
    constructor
    · rintro ⟨_, H⟩ q hq; exact H q (by simp) (by omega)
    · intro H; exact ⟨bot_le, fun q _ hq => H q (by omega)⟩
  | succ n ih =>
    rw [acc_succ, step_eq]
    have e : ((grid0.coords ⟨n + 1, hn⟩) 0).val = n + 1 := coords_val _
    unfold leave
    rw [if_neg (by omega), fold_le h]
    unfold startAcc
    rw [if_neg (by omega), ih (Nat.lt_of_succ_lt hn) (by omega)]
    constructor
    · rintro ⟨H1, H2⟩ q hq
      rcases Nat.lt_or_ge q.val (6400 * (n + 1)) with hc | hc
      · exact H1 q hc
      · exact H2 q hc (by dsimp only; omega)
    · intro H
      exact ⟨fun q hq => H q (by omega), fun q _ hq => H q (by dsimp only at hq; omega)⟩

/-- The pooled array: the maximum of a segment's rows, rectified where it is not minus infinity. -/
theorem last_at (h : Ids (idN (ids m))) (c : Dev nD) (s : Fin 512) (l : Fin 128) :
    ∃ v : EReal, (∀ C, v ≤ C ↔ ∀ q : Fin 320000, idN (ids m) q.val = s.val → layer m c q l ≤ C)
      ∧ (accLast m c (ix2 s l) : EReal) = if v = ⊥ then v else max v 0 := by
  have hn : 49 < grid0.N := by rw [N_0]; decide
  have e : ((grid0.coords ⟨49, hn⟩) 0).val = 49 := coords_val _
  refine ⟨foldBlock (grid0.coords ⟨49, hn⟩) (segLo m) (segHi m) (starts m)
        (k0_pay14 (iblk m c 0 ⟨49, hn⟩) (iblk m c 2 ⟨49, hn⟩) (iblk m c 1 ⟨49, hn⟩) (iblk m c 3 ⟨49, hn⟩) (iblk m c 4 ⟨49, hn⟩))
        (acc m c 48 (by omega)) (ix2 s l), fun C => ?_, ?_⟩
  · rw [fold_le h]
    unfold startAcc
    rw [if_neg (by omega), acc_le h c s l C 48 _ (by omega)]
    constructor
    · rintro ⟨H1, H2⟩ q
      have := q.isLt
      rcases Nat.lt_or_ge q.val (6400 * 49) with hc | hc
      · exact H1 q hc
      · exact H2 q hc (by dsimp only; omega)
    · intro H
      exact ⟨fun q _ => H q, fun q _ _ => H q⟩
  · rw [show accLast m c = _ from acc_succ c 48 hn, step_eq]
    unfold leave
    rw [if_pos e]
    exact rectify_at _ s l

end Cert.KernelIdeal
-- ==== Proof.Agree.lean ====
/-
  The reference's pooled array over the extended reals, and that the kernel's is equal to it where the layer is nowhere minus infinity.
-/
module

public import proofs.«01_k».proof.Proof.Value
public import proofs.«01_k».proof.Proof.Gen.ReferenceIdeal.Run

@[expose] public section

set_option maxRecDepth 16384

noncomputable section

namespace Cert.ReferenceIdeal

open Idealize.ShloMosaic Idealize.ShloMosaic.TcCoe Idealize.ShloMosaic.Tactic Idealize.SL.Sem
open Cert.ReferenceIdeal.Gen
open Cert.KernelIdeal (lin idN toNat_id ofBits_bot)

/-- The linear layer as the reference writes it: the joined rows times the weights, plus the bias. -/
def dense (x : FVec Ideal S320000x128 .f32) (p : FVec Ideal S320000x3 .f32) (W : FVec Ideal S131x128 .f32)
    (bias : FVec Ideal S128 .f32) : FVec Ideal S320000x128 .f32 :=
  addf (Host.dotGeneral dot_S320000x131_S131x128_S320000x128_1_0_0_1_n_n none (concatenate S320000x131 1 [⟨S320000x128, x⟩, ⟨S320000x3, p⟩] concatenates_S320000x128_S320000x3_S320000x131_d1) W) (broadcastInDim S320000x128 ![0, 1] bcast_S1x128_S320000x128_0_1 (broadcastInDim S1x128 ![1] bcast_S128_S1x128_1 bias))

/-- The pooled array as the reference writes it: of every segment, the maximum over all rows of the rectified layer, with the rows
    of the other segments at minus infinity. -/
def pooled (x : FVec Ideal S320000x128 .f32) (p : FVec Ideal S320000x3 .f32) (b : IVec S320000 32) (W : FVec Ideal S131x128 .f32)
    (bias : FVec Ideal S128 .f32) : FVec Ideal S512x128 .f32 :=
  Host.reduce FloatOps.maximumf (select (broadcastInDim S512x320000x128 ![0, 1, 2] bcast_S512x320000x1_S512x320000x128_0_1_2 (broadcastInDim S512x320000x1 ![0, 1] bcast_S512x320000_S512x320000x1_0_1 (cmpi .eq (broadcastInDim S512x320000 ![0, 1] bcast_S1x320000_S512x320000_0_1 (broadcastInDim S1x320000 ![1] bcast_S320000_S1x320000_1 b)) (broadcastInDim S512x320000 ![0, 1] bcast_S512x1_S512x320000_0_1 (broadcastInDim S512x1 ![0] bcast_S512_S512x1_0 (iotaInDim S512 32 0)))))) (broadcastInDim S512x320000x128 ![0, 1, 2] bcast_S1x320000x128_S512x320000x128_0_1_2 (broadcastInDim S1x320000x128 ![1, 2] bcast_S320000x128_S1x320000x128_1_2 (maximumf (dense x p W bias) (broadcastInDim S320000x128 ![] bcast_S_S320000x128 (constant S_ .f32 0x00000000#32))))) (broadcastInDim S512x320000x128 ![] bcast_S_S512x320000x128 (id (constant S_ .f32 0xFF800000#32)))) (constant S_ .f32 0xFF800000#32) reducesTo_S512x320000x128_S512x128_d1 h_S_

/-- A row of the joined product is the sum of the two parts' products. -/
theorem dense_at (x : FVec Ideal S320000x128 .f32) (p : FVec Ideal S320000x3 .f32) (W : FVec Ideal S131x128 .f32)
    (bias : FVec Ideal S128 .f32)
    (n : Fin 320000) (l : Fin 128) : (dense x p W bias (ix2 n l) : EReal) = lin x p W bias n l := by
  unfold lin
  pointwise [dense]

/-- The reference's pooled entry is bounded exactly when the segment's rectified rows are. -/
theorem pooled_le (x : FVec Ideal S320000x128 .f32) (p : FVec Ideal S320000x3 .f32) (b : IVec S320000 32) (W : FVec Ideal S131x128 .f32)
    (bias : FVec Ideal S128 .f32) (s : Fin 512) (l : Fin 128) (C : EReal) :
    (pooled x p b W bias (ix2 s l) : EReal) ≤ C ↔ ∀ n : Fin 320000, idN b n.val = s.val → max (lin x p W bias n l) 0 ≤ C := by
  pointwise [pooled]
  rw [Finset.fold_max_le]
  have key : ∀ n : Fin 320000,
      (Scalar.select (IntOp.cmpi .eq (b (ix1 n)) (BitVec.ofNat 32 s.val)) (max (dense x p W bias (ix2 n l) : EReal) 0)
        (Ideal.ofBits .f32 0xFF800000#32) : EReal) ≤ C ↔ (idN b n.val = s.val → max (lin x p W bias n l) 0 ≤ C) := fun n => by
    have hs := s.isLt
    have e : IntOp.cmpi .eq (b (ix1 n)) (BitVec.ofNat 32 s.val) = 1#1 ↔ idN b n.val = s.val := by
      rw [← toNat_id b n]
      show BitVec.ofBool (b (ix1 n) == BitVec.ofNat 32 s.val) = 1#1 ↔ _
      rw [StableHlo.Predicate.ofBool_eq_one_iff, beq_iff_eq]
      refine ⟨fun h => by rw [h, BitVec.toNat_ofNat]; omega, fun h => BitVec.eq_of_toNat_eq (by rw [h, BitVec.toNat_ofNat]; omega)⟩
    rw [dense_at]
    unfold Scalar.select
    split
    · rename_i h
      exact ⟨fun k _ => k, fun k => k (e.mp h)⟩
    · rename_i h
      rw [ofBits_bot]
      exact ⟨fun _ k => absurd (e.mpr k) h, fun _ => bot_le⟩
  constructor
  · exact fun h n => (key n).mp (h.2 n (Finset.mem_univ n))
  · intro h
    refine ⟨?_, fun n _ => (key n).mpr (h n)⟩
    rw [ofBits_bot]
    exact bot_le

/-- Of finite arguments no entry of the layer is minus infinity. -/
theorem lin_ne_bot (x : FVec Ideal S320000x128 .f32) (p : FVec Ideal S320000x3 .f32) (W : FVec Ideal S131x128 .f32)
    (bias : FVec Ideal S128 .f32) (hx : ∀ (i : Fin 320000) (j : Fin 128), x (ix2 i j) ≠ ⊥ ∧ x (ix2 i j) ≠ ⊤)
    (hp : ∀ (i : Fin 320000) (j : Fin 3), p (ix2 i j) ≠ ⊥ ∧ p (ix2 i j) ≠ ⊤)
    (hW : ∀ (i : Fin 131) (j : Fin 128), W (ix2 i j) ≠ ⊥ ∧ W (ix2 i j) ≠ ⊤) (hb : ∀ j : Fin 128, bias (ix1 j) ≠ ⊥ ∧ bias (ix1 j) ≠ ⊤)
    (n : Fin 320000) (l : Fin 128) : lin x p W bias n l ≠ ⊥ := by
  have hmul : ∀ a b : EReal, (a ≠ ⊥ ∧ a ≠ ⊤) → (b ≠ ⊥ ∧ b ≠ ⊤) → a * b ≠ ⊥ := fun a b ha hb => by
    lift a to ℝ using ⟨ha.2, ha.1⟩
    lift b to ℝ using ⟨hb.2, hb.1⟩
    rw [← EReal.coe_mul]
    exact EReal.coe_ne_bot _
  have hadd : ∀ a b : EReal, a ≠ ⊥ → b ≠ ⊥ → a + b ≠ ⊥ := fun a b ha hb h => (EReal.add_eq_bot_iff.mp h).elim ha hb
  have hsum : ∀ (k : ℕ) (f : Fin k → EReal), (∀ j, f j ≠ ⊥) → ∑ j, f j ≠ ⊥ := fun k f hf =>
    Finset.sum_induction f (· ≠ ⊥) hadd EReal.zero_ne_bot fun j _ => hf j
  unfold lin
  exact hadd _ _ (hadd _ _ (hsum _ _ fun k => hmul _ _ (hx _ _) (hW _ _)) (hsum _ _ fun k => hmul _ _ (hp _ _) (hW _ _))) (hb _).1

end Cert.ReferenceIdeal

namespace Cert.KernelIdeal

open Idealize.ShloMosaic Idealize.ShloMosaic.TcCoe
open Cert.SegMax Cert.KernelIdeal.Gen

variable {m : (ℓ : Loc nD τ sig) → Buf (Elt Ideal) ℓ}

/-- The kernel's pooled array is the reference's, where the layer is nowhere minus infinity. -/
theorem pooled_eq (h : Ids (idN (ids m))) (c : Dev nD) (hf : ∀ n l, layer m c n l ≠ ⊥) :
    (accLast m c : FVec Ideal S512x128 .f32) = Cert.ReferenceIdeal.pooled (m ((c : Thread nD τ).loc main_arg0))
      (m ((c : Thread nD τ).loc main_arg1)) (m ((c : Thread nD τ).loc main_arg2)) (m ((c : Thread nD τ).loc main_arg3))
      (m ((c : Thread nD τ).loc main_arg4)) := by
  funext j
  obtain ⟨s, l, rfl⟩ : ∃ (s : Fin 512) (l : Fin 128), j = ix2 s l := ⟨j 0, j 1, eq_ix2 j⟩
  obtain ⟨v, hv, e⟩ := last_at h c s l
  have hc : (m ((c : Thread nD τ).loc main_arg2) : IVec S320000 32) = ids m := by
    obtain rfl : c = 0 := Subsingleton.elim _ _
    rfl
  refine e.trans (eq_of_forall_ge_iff fun C => ?_)
  have hr := Cert.ReferenceIdeal.pooled_le (m ((c : Thread nD τ).loc main_arg0)) (m ((c : Thread nD τ).loc main_arg1))
    (m ((c : Thread nD τ).loc main_arg2)) (m ((c : Thread nD τ).loc main_arg3)) (m ((c : Thread nD τ).loc main_arg4)) s l C
  rw [hr, hc]
  split
  · rename_i hb
    have hno : ∀ q : Fin 320000, idN (ids m) q.val ≠ s.val := fun q hq =>
      hf q l (le_bot_iff.mp ((hv ⊥).mp hb.le q hq))
    rw [hb]
    exact ⟨fun _ q hq => absurd hq (hno q), fun _ => bot_le⟩
  · rename_i hb
    obtain ⟨q0, h0⟩ : ∃ q : Fin 320000, idN (ids m) q.val = s.val := by
      by_contra hno
      exact hb (le_bot_iff.mp ((hv ⊥).mpr fun q hq => absurd ⟨q, hq⟩ hno))
    rw [max_le_iff, hv]
    constructor
    · rintro ⟨H, H0⟩ q hq
      exact max_le (H q hq) H0
    · intro H
      exact ⟨fun q hq => (max_le_iff.mp (H q hq)).1, (max_le_iff.mp (H q0 h0)).2⟩

end Cert.KernelIdeal
-- ==== Proof.Bits.Frames.lean ====
/-
  The frame claims of the kernel's program at any float instance.
  Here for the compiled program; the ideal program has the same text.
-/
module

public import proofs.«01_k».proof.Proof.Bits.Run
public import proofs.«01_k».proof.Proof.Bits.Tables

@[expose] public section

set_option maxRecDepth 16384

noncomputable section

namespace Cert.Kernel

open Idealize.ShloMosaic Idealize.ShloMosaic.TcCoe Idealize.SL.Sem
open Cert.SegMax Cert.Kernel.Gen

variable {F : FTy → Type} [FloatOps F]

/-- From segment numbers in range the program terminates with its arguments unchanged and every semaphore counter at zero. -/
theorem frame_of (m : (ℓ : Loc nD τ sig) → Buf (Elt F) ℓ) (ρ : Dev nD → PrngReg) (h : InRange (idN (ids m))) :
    θ_run defs (onTc (τ := τ) (main (F := F))) ⟨m, fun _ => 0, ρ⟩ (fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4))
      ∧ r.2.sem = fun _ => 0) :=
  θ_run_mono (run_results ρ (tables_of h)) fun r hr => ⟨fun c => (hr.1 c).2.2.2, hr.2⟩

end Cert.Kernel
-- ==== Proof.lean ====
/-
  The claims about the kernel: on segment numbers in range the compiled program and its ideal reading terminate with the
  arguments unchanged and the semaphores at zero, the reference does so from any state, and the kernel's three results
  are the reference's over the extended reals, on sorted segment numbers and finite entries.
-/
module

public import proofs.«01_k».proof.Defs
public import proofs.«01_k».proof.Proof.Frames
public import proofs.«01_k».proof.Proof.Pre
public import proofs.«01_k».proof.Proof.PreFinite
public import proofs.«01_k».proof.Proof.Agree
public import proofs.«01_k».proof.Proof.Bits.Frames
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.ReferenceIdeal
public import proofs.«01_k».proof.Proof.Gen.ReferenceIdeal.Run
public import proofs.«01_k».proof.Proof.Gen.Pre_ids_in_range
public import proofs.«01_k».proof.Proof.Gen.Pre_ids_sorted_finite

@[expose] public section

set_option maxRecDepth 16384

noncomputable section

namespace Cert.Proof

open Idealize.ShloMosaic Idealize.ShloMosaic.TcCoe Idealize.SL.Sem

instance : Cert.Kernel.Facts := Cert.Kernel.Gen.facts
instance : Cert.KernelIdeal.Facts := Cert.KernelIdeal.Gen.facts
instance : Cert.ReferenceIdeal.Facts := Cert.ReferenceIdeal.Gen.facts
instance : Cert.Pre_ids_in_range.Facts := Cert.Pre_ids_in_range.Gen.facts
instance : Cert.Pre_ids_sorted_finite.Facts := Cert.Pre_ids_sorted_finite.Gen.facts

/-- The compiled kernel terminates on segment numbers in range, its arguments unchanged, its semaphores at zero. -/
theorem frame_kernel : Cert.quiescent_Kernel := fun m g h =>
  Cert.Kernel.frame_of m g (Cert.KernelIdeal.inRange_of_pre _ _ _ _ _ (h 0))

/-- So does its ideal reading. -/
theorem frame_ideal : Cert.quiescent_KernelIdeal := fun m g h =>
  Cert.KernelIdeal.frame_of m g (Cert.KernelIdeal.inRange_of_pre _ _ _ _ _ (h 0))

/-- The reference terminates from any arguments and leaves them unchanged. -/
theorem frame_reference : Cert.quiescent_ReferenceIdeal := fun m g _ =>
  θ_run_mono (Cert.ReferenceIdeal.Value.run m g) fun r h =>
    ⟨fun c => (h c).2.2.2, sem_eq_zero_of_no_sems (by decide) r.2⟩

/-- The ideal program's frame from the value claim's precondition. -/
theorem frame_ideal_finite : Cert.quiescent_KernelIdeal_pre_ids_sorted_finite := fun m g h =>
  Cert.KernelIdeal.frame_of m g (Cert.KernelIdeal.ids_of_pre_finite _ _ _ _ _ (h 0).1 (h 0).2.1).lt

/-- The reference's frame from the value claim's precondition. -/
theorem frame_reference_finite : Cert.quiescent_ReferenceIdeal_pre_ids_sorted_finite := fun m g _ => frame_reference m g trivial

/-- From arguments that agree, with sorted segment numbers and finite entries, the kernel's three results are the reference's. -/
theorem agree : Cert.algebraic_KernelIdeal_ReferenceIdeal_pre_ids_sorted_finite := by
  intro m g m' g' h hm
  have hi : Cert.SegMax.Ids (Cert.KernelIdeal.idN (Cert.KernelIdeal.ids m)) :=
    Cert.KernelIdeal.ids_of_pre_finite _ _ _ _ _ (h 0).1 (h 0).2.1
  refine ⟨fun c => Cert.KernelIdeal.accLast m c, fun _ => _, fun _ => _,
    θ_run_mono (Cert.KernelIdeal.run_results g (Cert.KernelIdeal.tables_of hi.lt)) fun r hr c => hr.1 c,
    θ_run_mono (Cert.ReferenceIdeal.Value.run m' g') fun r hr c => ⟨(hr c).1.trans ?_, (hr c).2.1, (hr c).2.2⟩⟩
  obtain ⟨fx, fp, fW, fb⟩ := Cert.KernelIdeal.finite_of_pre _ _ _ _ _ (h c).2.2.1 (h c).2.2.2.1 (h c).2.2.2.2.1 (h c).2.2.2.2.2
  have e := Cert.KernelIdeal.pooled_eq hi c (Cert.ReferenceIdeal.lin_ne_bot _ _ _ _ fx fp fW fb)
  refine Eq.trans ?_ e.symm
  rw [(hm c).1, (hm c).2.1, (hm c).2.2.1, (hm c).2.2.2.1, (hm c).2.2.2.2]
  rfl

/-- The claims hold. -/
theorem claim : Cert.Claim :=
  ⟨Cert.Kernel.Gen.facts, Cert.KernelIdeal.Gen.facts, Cert.ReferenceIdeal.Gen.facts, Cert.Pre_ids_in_range.Gen.facts,
    Cert.Pre_ids_sorted_finite.Gen.facts, frame_kernel, frame_ideal, frame_ideal_finite, frame_reference, frame_reference_finite,
    trivial, agree⟩

end Cert.Proof
